-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v56) = v4 c
          ∧ r.2.mem ((c.tc : Thread Cert.Reference3Ideal.nD Cert.Reference3Ideal.τ).loc Cert.Reference3Ideal.main_v19) = v5 c
          ∧ r.2.mem ((c.tc : Thread Cert.Reference3Ideal.nD Cert.Reference3Ideal.τ).loc Cert.Reference3Ideal.main_v53) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v54) = v0 c
          ∧ r.2.mem ((c.tc : Thread Cert.Reference11Ideal.nD Cert.Reference11Ideal.τ).loc Cert.Reference11Ideal.main_v49) = v1 c
          ∧ r.2.mem ((c.tc : Thread Cert.Reference11Ideal.nD Cert.Reference11Ideal.τ).loc Cert.Reference11Ideal.main_v55) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_v56) = v4 c
          ∧ r.2.mem ((c.tc : Thread Cert.Reference11Ideal.nD Cert.Reference11Ideal.τ).loc Cert.Reference11Ideal.main_v19) = v5 c
          ∧ r.2.mem ((c.tc : Thread Cert.Reference11Ideal.nD Cert.Reference11Ideal.τ).loc Cert.Reference11Ideal.main_v53) = v6 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables : Cert.Pre_tables.Facts) (hPre_finite : Cert.Pre_finite.Facts),
    quiescent_Kernel (hKernel := hKernel) (hPre_tables := hPre_tables)
    ∧ quiescent_KernelIdeal (hKernelIdeal := hKernelIdeal) (hPre_tables := hPre_tables)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S10 : Shape := ⟨1, ![10]⟩
abbrev S8192x2048 : Shape := ⟨2, ![8192, 2048]⟩
abbrev S32x1x4096 : Shape := ⟨3, ![32, 1, 4096]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S32x1x4096 : S_.BroadcastsInDim S32x1x4096 (![] : Fin 0 → Fin S32x1x4096.rank)
  reducesTo_S32x1x4096_S_d0_1_2 : S32x1x4096.ReducesTo [0, 1, 2] S_

variable [Facts]

def fn_part3 {F : FTy → Type} [FloatOps F] (main_arg3 : FVec F S8192x2048 .bf16) (main_arg5 : FVec F S32x1x4096 .f32) (main_v44 : IVec S_ 1) (main_v47 : IVec S8192x2048 1) (main_c_21 : IVec S_ 1) : IVec S_ 1 :=
  let main_v48 : IVec S_ 1 := (fun x v => Host.reduce IntOp.andi x v reducesTo_S8192x2048_S_d0_1 h_S_) main_v47 main_c_21
  let main_v49 : IVec S_ 1 := andi main_v44 main_v48
  let main_v50 : FVec F S8192x2048 .bf16 := Host.absf main_arg3
  let main_cst_22 : FVec F S_ .bf16 := constant S_ .bf16 0x7F80#16
  let main_v51 : FVec F S8192x2048 .bf16 := broadcastInDim S8192x2048 ![] bcast_S_S8192x2048 main_cst_22
  let main_v52 : IVec S8192x2048 1 := cmpf .olt main_v50 main_v51
  let main_c_23 : IVec S_ 1 := constantI S_ 1 1#1
  let main_v53 : IVec S_ 1 := (fun x v => Host.reduce IntOp.andi x v reducesTo_S8192x2048_S_d0_1 h_S_) main_v52 main_c_23
  let main_v54 : IVec S_ 1 := andi main_v49 main_v53
  let main_v55 : FVec F S32x1x4096 .f32 := Host.absf main_arg5
  let main_cst_24 : FVec F S_ .f32 := constant S_ .f32 0x7F800000#32
  let main_v56 : FVec F S32x1x4096 .f32 := broadcastInDim S32x1x4096 ![] bcast_S_S32x1x4096 main_cst_24
  let main_v57 : IVec S32x1x4096 1 := cmpf .olt main_v55 main_v56
  let main_c_25 : IVec S_ 1 := constantI S_ 1 1#1
  let main_v58 : IVec S_ 1 := (fun x v => Host.reduce IntOp.andi x v reducesTo_S32x1x4096_S_d0_1_2 h_S_) main_v57 main_c_25
  let main_v59 : IVec S_ 1 := andi main_v54 main_v58
  main_v59

def fn_part2 {F : FTy → Type} [FloatOps F] (main_arg0 : IVec S10 32) (main_arg1 : IVec S10 32) (main_arg2 : FVec F S8192x2048 .bf16) (main_arg3 : FVec F S8192x2048 .bf16) (main_arg5 : FVec F S32x1x4096 .f32) (main_v0 : IVec S10 32) (main_v17 : IVec S10 32) (main_v31 : IVec S10 32) : IVec S_ 1 :=
  let main_c_15 : IVec S_ 32 := constantI S_ 32 6#32
  let main_v32 : IVec S10 32 := broadcastInDim S10 ![] bcast_S_S10 main_c_15
  let main_v33 : IVec S10 1 := cmpi .sge main_v0 main_v32
  let main_c_16 : IVec S_ 32 := constantI S_ 32 1#32
  let main_v34 : IVec S10 32 := broadcastInDim S10 ![] bcast_S_S10 main_c_16
  let main_c_17 : IVec S_ 32 := constantI S_ 32 0#32
  let main_v35 : IVec S10 32 := broadcastInDim S10 ![] bcast_S_S10 main_c_17
  let main_v36 : IVec S10 32 := select main_v33 main_v34 main_v35
  let main_c_18 : IVec S_ 32 := constantI S_ 32 3#32
  let main_v37 : IVec S10 32 := broadcastInDim S10 ![] bcast_S_S10 main_c_18
  let main_v38 : IVec S10 32 := muli main_v36 main_v37
  let main_v39 : IVec S10 32 := subi main_v31 main_v38
  let main_v40 : IVec S10 1 := cmpi .eq main_arg0 main_v17
  let main_c_19 : IVec S_ 1 := constantI S_ 1 1#1
  let main_v41 : IVec S_ 1 := (fun x v => Host.reduce IntOp.andi x v reducesTo_S10_S_d0 h_S_) main_v40 main_c_19
  let main_v42 : IVec S10 1 := cmpi .eq main_arg1 main_v39
  let main_c_20 : IVec S_ 1 := constantI S_ 1 1#1
  let main_v43 : IVec S_ 1 := (fun x v => Host.reduce IntOp.andi x v reducesTo_S10_S_d0 h_S_) main_v42 main_c_20
  let main_v44 : IVec S_ 1 := andi main_v41 main_v43
  let main_v45 : FVec F S8192x2048 .bf16 := Host.absf main_arg2
  let main_cst : FVec F S_ .bf16 := constant S_ .bf16 0x7F80#16
  let main_v46 : FVec F S8192x2048 .bf16 := broadcastInDim S8192x2048 ![] bcast_S_S8192x2048 main_cst
  let main_v47 : IVec S8192x2048 1 := cmpf .olt main_v45 main_v46
  let main_c_21 : IVec S_ 1 := constantI S_ 1 1#1
  fn_part3 (F := F) main_arg3 main_arg5 main_v44 main_v47 main_c_21

def fn_part1 {F : FTy → Type} [FloatOps F] (main_arg0 : IVec S10 32) (main_arg1 : IVec S10 32) (main_arg2 : FVec F S8192x2048 .bf16) (main_arg3 : FVec F S8192x2048 .bf16) (main_arg5 : FVec F S32x1x4096 .f32) (main_v0 : IVec S10 32) (main_v11 : IVec S10 32) (main_v13 : IVec S10 1) (main_v14 : IVec S10 32) (main_c_7 : IVec S_ 32) : IVec S_ 1 :=
  let main_v15 : IVec S10 32 := broadcastInDim S10 ![] bcast_S_S10 main_c_7
  let main_v16 : IVec S10 32 := select main_v13 main_v14 main_v15
  let main_v17 : IVec S10 32 := addi main_v11 main_v16
  let main_c_8 : IVec S_ 32 := constantI S_ 32 1#32
  let main_v18 : IVec S10 32 := broadcastInDim S10 ![] bcast_S_S10 main_c_8
  let main_v19 : IVec S10 1 := cmpi .sge main_v0 main_v18
  let main_c_9 : IVec S_ 32 := constantI S_ 32 1#32
  let main_v20 : IVec S10 32 := broadcastInDim S10 ![] bcast_S_S10 main_c_9
  let main_c_10 : IVec S_ 32 := constantI S_ 32 0#32
  let main_v21 : IVec S10 32 := broadcastInDim S10 ![] bcast_S_S10 main_c_10
  let main_v22 : IVec S10 32 := select main_v19 main_v20 main_v21
  let main_v23 : IVec S10 32 := subi main_v0 main_v22
  let main_c_11 : IVec S_ 32 := constantI S_ 32 3#32
  let main_v24 : IVec S10 32 := broadcastInDim S10 ![] bcast_S_S10 main_c_11
  let main_v25 : IVec S10 1 := cmpi .sge main_v0 main_v24
  let main_c_12 : IVec S_ 32 := constantI S_ 32 1#32
  let main_v26 : IVec S10 32 := broadcastInDim S10 ![] bcast_S_S10 main_c_12
  let main_c_13 : IVec S_ 32 := constantI S_ 32 0#32
  let main_v27 : IVec S10 32 := broadcastInDim S10 ![] bcast_S_S10 main_c_13
  let main_v28 : IVec S10 32 := select main_v25 main_v26 main_v27
  let main_c_14 : IVec S_ 32 := constantI S_ 32 2#32
  let main_v29 : IVec S10 32 := broadcastInDim S10 ![] bcast_S_S10 main_c_14
  let main_v30 : IVec S10 32 := muli main_v28 main_v29
  let main_v31 : IVec S10 32 := subi main_v23 main_v30
  fn_part2 (F := F) main_arg0 main_arg1 main_arg2 main_arg3 main_arg5 main_v0 main_v17 main_v31

def fn {F : FTy → Type} [FloatOps F] (main_arg0 : IVec S10 32) (main_arg1 : IVec S10 32) (main_arg2 : FVec F S8192x2048 .bf16) (main_arg3 : FVec F S8192x2048 .bf16) (main_arg4 : FVec F S8192x2048 .bf16) (main_arg5 : FVec F S32x1x4096 .f32) (main_arg6 : FVec F S8192x2048 .f32) : IVec S_ 1 :=
  let main_v0 : IVec S10 32 := iotaInDim S10 32 0
  let main_c : IVec S_ 32 := constantI S_ 32 1#32
  let main_v1 : IVec S10 32 := broadcastInDim S10 ![] bcast_S_S10 main_c
  let main_v2 : IVec S10 1 := cmpi .sge main_v0 main_v1
  let main_c_0 : IVec S_ 32 := constantI S_ 32 1#32
  let main_v3 : IVec S10 32 := broadcastInDim S10 ![] bcast_S_S10 main_c_0
  let main_c_1 : IVec S_ 32 := constantI S_ 32 0#32
  let main_v4 : IVec S10 32 := broadcastInDim S10 ![] bcast_S_S10 main_c_1
  let main_v5 : IVec S10 32 := select main_v2 main_v3 main_v4
  let main_c_2 : IVec S_ 32 := constantI S_ 32 3#32
  let main_v6 : IVec S10 32 := broadcastInDim S10 ![] bcast_S_S10 main_c_2
  let main_v7 : IVec S10 1 := cmpi .sge main_v0 main_v6
  let main_c_3 : IVec S_ 32 := constantI S_ 32 1#32
  let main_v8 : IVec S10 32 := broadcastInDim S10 ![] bcast_S_S10 main_c_3
  let main_c_4 : IVec S_ 32 := constantI S_ 32 0#32
  let main_v9 : IVec S10 32 := broadcastInDim S10 ![] bcast_S_S10 main_c_4
  let main_v10 : IVec S10 32 := select main_v7 main_v8 main_v9
  let main_v11 : IVec S10 32 := addi main_v5 main_v10
  let main_c_5 : IVec S_ 32 := constantI S_ 32 6#32
  let main_v12 : IVec S10 32 := broadcastInDim S10 ![] bcast_S_S10 main_c_5
  let main_v13 : IVec S10 1 := cmpi .sge main_v0 main_v12
  let main_c_6 : IVec S_ 32 := constantI S_ 32 1#32
  let main_v14 : IVec S10 32 := broadcastInDim S10 ![] bcast_S_S10 main_c_6
  let main_c_7 : IVec S_ 32 := constantI S_ 32 0#32
  fn_part1 (F := F) main_arg0 main_arg1 main_arg2 main_arg3 main_arg5 main_v0 main_v11 main_v13 main_v14 main_c_7
-- ==== Pre_tables.lean ====
abbrev S10 : Shape := ⟨1, ![10]⟩
abbrev S8192x2048 : Shape := ⟨2, ![8192, 2048]⟩
abbrev S32x1x4096 : Shape := ⟨3, ![32, 1, 4096]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel

variable [Facts]

def fn_part2 {F : FTy → Type} [FloatOps F] (main_arg0 : IVec S10 32) (main_arg1 : IVec S10 32) (main_v0 : IVec S10 32) (main_v17 : IVec S10 32) (main_v31 : IVec S10 32) : IVec S_ 1 :=
  let main_c_15 : IVec S_ 32 := constantI S_ 32 6#32
  let main_v32 : IVec S10 32 := broadcastInDim S10 ![] bcast_S_S10 main_c_15
  let main_v33 : IVec S10 1 := cmpi .sge main_v0 main_v32
  let main_c_16 : IVec S_ 32 := constantI S_ 32 1#32
  let main_v34 : IVec S10 32 := broadcastInDim S10 ![] bcast_S_S10 main_c_16
  let main_c_17 : IVec S_ 32 := constantI S_ 32 0#32
  let main_v35 : IVec S10 32 := broadcastInDim S10 ![] bcast_S_S10 main_c_17
  let main_v36 : IVec S10 32 := select main_v33 main_v34 main_v35
  let main_c_18 : IVec S_ 32 := constantI S_ 32 3#32
  let main_v37 : IVec S10 32 := broadcastInDim S10 ![] bcast_S_S10 main_c_18
  let main_v38 : IVec S10 32 := muli main_v36 main_v37
  let main_v39 : IVec S10 32 := subi main_v31 main_v38
  let main_v40 : IVec S10 1 := cmpi .eq main_arg0 main_v17
  let main_c_19 : IVec S_ 1 := constantI S_ 1 1#1
  let main_v41 : IVec S_ 1 := (fun x v => Host.reduce IntOp.andi x v reducesTo_S10_S_d0 h_S_) main_v40 main_c_19
  let main_v42 : IVec S10 1 := cmpi .eq main_arg1 main_v39
  let main_c_20 : IVec S_ 1 := constantI S_ 1 1#1
  let main_v43 : IVec S_ 1 := (fun x v => Host.reduce IntOp.andi x v reducesTo_S10_S_d0 h_S_) main_v42 main_c_20
  let main_v44 : IVec S_ 1 := andi main_v41 main_v43
  main_v44

def fn_part1 {F : FTy → Type} [FloatOps F] (main_arg0 : IVec S10 32) (main_arg1 : IVec S10 32) (main_v0 : IVec S10 32) (main_v11 : IVec S10 32) (main_v13 : IVec S10 1) (main_v14 : IVec S10 32) (main_c_7 : IVec S_ 32) : IVec S_ 1 :=
  let main_v15 : IVec S10 32 := broadcastInDim S10 ![] bcast_S_S10 main_c_7
  let main_v16 : IVec S10 32 := select main_v13 main_v14 main_v15
  let main_v17 : IVec S10 32 := addi main_v11 main_v16
  let main_c_8 : IVec S_ 32 := constantI S_ 32 1#32
  let main_v18 : IVec S10 32 := broadcastInDim S10 ![] bcast_S_S10 main_c_8
  let main_v19 : IVec S10 1 := cmpi .sge main_v0 main_v18
  let main_c_9 : IVec S_ 32 := constantI S_ 32 1#32
  let main_v20 : IVec S10 32 := broadcastInDim S10 ![] bcast_S_S10 main_c_9
  let main_c_10 : IVec S_ 32 := constantI S_ 32 0#32
  let main_v21 : IVec S10 32 := broadcastInDim S10 ![] bcast_S_S10 main_c_10
  let main_v22 : IVec S10 32 := select main_v19 main_v20 main_v21
  let main_v23 : IVec S10 32 := subi main_v0 main_v22
  let main_c_11 : IVec S_ 32 := constantI S_ 32 3#32
  let main_v24 : IVec S10 32 := broadcastInDim S10 ![] bcast_S_S10 main_c_11
  let main_v25 : IVec S10 1 := cmpi .sge main_v0 main_v24
  let main_c_12 : IVec S_ 32 := constantI S_ 32 1#32
  let main_v26 : IVec S10 32 := broadcastInDim S10 ![] bcast_S_S10 main_c_12
  let main_c_13 : IVec S_ 32 := constantI S_ 32 0#32
  let main_v27 : IVec S10 32 := broadcastInDim S10 ![] bcast_S_S10 main_c_13
  let main_v28 : IVec S10 32 := select main_v25 main_v26 main_v27
  let main_c_14 : IVec S_ 32 := constantI S_ 32 2#32
  let main_v29 : IVec S10 32 := broadcastInDim S10 ![] bcast_S_S10 main_c_14
  let main_v30 : IVec S10 32 := muli main_v28 main_v29
  let main_v31 : IVec S10 32 := subi main_v23 main_v30
  fn_part2 (F := F) main_arg0 main_arg1 main_v0 main_v17 main_v31

def fn {F : FTy → Type} [FloatOps F] (main_arg0 : IVec S10 32) (main_arg1 : IVec S10 32) (main_arg2 : FVec F S8192x2048 .bf16) (main_arg3 : FVec F S8192x2048 .bf16) (main_arg4 : FVec F S8192x2048 .bf16) (main_arg5 : FVec F S32x1x4096 .f32) (main_arg6 : FVec F S8192x2048 .f32) : IVec S_ 1 :=
  let main_v0 : IVec S10 32 := iotaInDim S10 32 0
  let main_c : IVec S_ 32 := constantI S_ 32 1#32
  let main_v1 : IVec S10 32 := broadcastInDim S10 ![] bcast_S_S10 main_c
  let main_v2 : IVec S10 1 := cmpi .sge main_v0 main_v1
  let main_c_0 : IVec S_ 32 := constantI S_ 32 1#32
  let main_v3 : IVec S10 32 := broadcastInDim S10 ![] bcast_S_S10 main_c_0
  let main_c_1 : IVec S_ 32 := constantI S_ 32 0#32
  let main_v4 : IVec S10 32 := broadcastInDim S10 ![] bcast_S_S10 main_c_1
  let main_v5 : IVec S10 32 := select main_v2 main_v3 main_v4
  let main_c_2 : IVec S_ 32 := constantI S_ 32 3#32
  let main_v6 : IVec S10 32 := broadcastInDim S10 ![] bcast_S_S10 main_c_2
  let main_v7 : IVec S10 1 := cmpi .sge main_v0 main_v6
  let main_c_3 : IVec S_ 32 := constantI S_ 32 1#32
  let main_v8 : IVec S10 32 := broadcastInDim S10 ![] bcast_S_S10 main_c_3
  let main_c_4 : IVec S_ 32 := constantI S_ 32 0#32
  let main_v9 : IVec S10 32 := broadcastInDim S10 ![] bcast_S_S10 main_c_4
  let main_v10 : IVec S10 32 := select main_v7 main_v8 main_v9
  let main_v11 : IVec S10 32 := addi main_v5 main_v10
  let main_c_5 : IVec S_ 32 := constantI S_ 32 6#32
  let main_v12 : IVec S10 32 := broadcastInDim S10 ![] bcast_S_S10 main_c_5
  let main_v13 : IVec S10 1 := cmpi .sge main_v0 main_v12
  let main_c_6 : IVec S_ 32 := constantI S_ 32 1#32
  let main_v14 : IVec S10 32 := broadcastInDim S10 ![] bcast_S_S10 main_c_6
  let main_c_7 : IVec S_ 32 := constantI S_ 32 0#32
  fn_part1 (F := F) main_arg0 main_arg1 main_v0 main_v11 main_v13 main_v14 main_c_7
-- ==== Kernel.lean ====
abbrev S10 : Shape := ⟨1, ![10]⟩
abbrev S8192x2048 : Shape := ⟨2, ![8192, 2048]⟩
abbrev S32x1x4096 : Shape := ⟨3, ![32, 1, 4096]⟩
abbrev S1024x128 : Shape := ⟨2, ![1024, 128]⟩
abbrev S1 : Shape := ⟨1, ![1]⟩
abbrev S1x1x1024 : Shape := ⟨3, ![1, 1, 1024]⟩
abbrev S1024x1 : Shape := ⟨2, ![1024, 1]⟩
abbrev S1024x256 : Shape := ⟨2, ![1024, 256]⟩
abbrev S256x1 : Shape := ⟨2, ![256, 1]⟩
abbrev S256x256 : Shape := ⟨2, ![256, 256]⟩
abbrev S256x128 : Shape := ⟨2, ![256, 128]⟩
abbrev S256x1024 : Shape := ⟨2, ![256, 1024]⟩
abbrev S1x1024 : Shape := ⟨2, ![1, 1024]⟩
abbrev S256 : Shape := ⟨1, ![256]⟩
abbrev S512x1 : Shape := ⟨2, ![512, 1]⟩
abbrev S512x256 : Shape := ⟨2, ![512, 256]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 6
  | .vmem => 14
  | .smem => 2
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S32x1x4096, .f32⟩
  | .hbm, ⟨4, _⟩ => ⟨S8192x2048, .f32⟩
  | .hbm, ⟨5, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x1, .f32⟩
  | .local _ .vmem, ⟨13, _⟩ => ⟨S1024x256, .f32⟩
  | .local _ .smem, ⟨0, _⟩ => ⟨S10, .i32⟩
  | .local _ .smem, ⟨1, _⟩ => ⟨S10, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 10], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let v2 : Index := Scalar.indexCast arg2
  let v3 : BitVec 32 := pf.at 1 (Rect.unit (s := S10) ![v2.toNat] S1.size (k0_off1_inb i)) numel1_S1
  let c0_i32 : BitVec 32 := 0#32
  let c0_i32_0 : BitVec 32 := 0#32
  ![v1.toNat, c0_i32.toNat, v3.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S10 : Shape := ⟨1, ![10]⟩
abbrev S8192x2048 : Shape := ⟨2, ![8192, 2048]⟩
abbrev S32x1x4096 : Shape := ⟨3, ![32, 1, 4096]⟩
abbrev S2x4096x16x128 : Shape := ⟨4, ![2, 4096, 16, 128]⟩
abbrev S2x16x4096 : Shape := ⟨3, ![2, 16, 4096]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 62
  | .vmem => 0
  | .smem => 0
  | _ => 0

abbrev bufTy : (tb : Table) → Fin (tcTables nBuf tb) → BufTy
  | .hbm, ⟨0, _⟩ => ⟨S10, .i32⟩
  | .hbm, ⟨1, _⟩ => ⟨S10, .i32⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S32x1x4096, .f32⟩
  | .hbm, ⟨6, _⟩ => ⟨S8192x2048, .f32⟩
  | .hbm, ⟨7, _⟩ => ⟨S8192x2048, .f32⟩
  | .hbm, ⟨8, _⟩ => ⟨S2x4096x16x128, .f32⟩
  | .hbm, ⟨9, _⟩ => ⟨S8192x2048, .f32⟩
  | .hbm, ⟨10, _⟩ => ⟨S2x4096x16x128, .f32⟩
  | .hbm, ⟨11, _⟩ => ⟨S8192x2048, .f32⟩
  | .hbm, ⟨12, _⟩ => ⟨S2x4096x16x128, .f32⟩
  | .hbm, ⟨13, _⟩ => ⟨S2x16x4096, .f32⟩
  | .hbm, ⟨14, _⟩ => ⟨S2x16x4096x4096, .f32⟩
  | .hbm, ⟨15, _⟩ => ⟨S_, .f32⟩
  | .hbm, ⟨16, _⟩ => ⟨S2x16x4096x4096, .f32⟩
  | .hbm, ⟨17, _⟩ => ⟨S2x16x4096x4096, .f32⟩
  | .hbm, ⟨18, _⟩ => ⟨S2x16x4096x1, .f32⟩
  | .hbm, ⟨19, _⟩ => ⟨S2x16x1x4096, .f32⟩
  | .hbm, ⟨20, _⟩ => ⟨S2x16x4096x4096, .f32⟩
  | .hbm, ⟨21, _⟩ => ⟨S2x16x4096x4096, .f32⟩
  | .hbm, ⟨22, _⟩ => ⟨S2x16x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S2x16x4096x4096, .f32⟩
  | .hbm, ⟨30, _⟩ => ⟨S_, .f32⟩
  | .hbm, ⟨31, _⟩ => ⟨S_, .f32⟩
  | .hbm, ⟨32, _⟩ => ⟨S2x16x4096x4096, .i1⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S_, .f32⟩
  | .hbm, ⟨38, _⟩ => ⟨S2x16x4096, .f32⟩
  | .hbm, ⟨39, _⟩ => ⟨S2x16x4096, .f32⟩
  | .hbm, ⟨40, _⟩ => ⟨S2x16x4096x1, .f32⟩
  | .hbm, ⟨41, _⟩ => ⟨S2x16x4096x4096, .f32⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S2x16x4096, .f32⟩
  | .hbm, ⟨46, _⟩ => ⟨S2x16x4096x1, .f32⟩
  | .hbm, ⟨47, _⟩ => ⟨S2x16x4096x4096, .f32⟩
  | .hbm, ⟨48, _⟩ => ⟨S2x16x4096x4096, .f32⟩
  | .hbm, ⟨49, _⟩ => ⟨S2x16x128x4096, .f32⟩
  | .hbm, ⟨50, _⟩ => ⟨S2x4096x16x128, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .local _ .vmem, ⟨0, _⟩ => ⟨S1x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1024x2048, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048x8192, .f32⟩
  | .hbm, ⟨20, _⟩ => ⟨S2048x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S1x8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2x2048x8208 : Shape := ⟨3, ![2, 2048, 8208]⟩
abbrev S2048x128 : Shape := ⟨2, ![2048, 128]⟩
abbrev S1x128 : Shape := ⟨2, ![1, 128]⟩
abbrev S8192x128 : Shape := ⟨2, ![8192, 128]⟩
abbrev S1024x2048 : Shape := ⟨2, ![1024, 2048]⟩
abbrev S1x2048x512 : Shape := ⟨3, ![1, 2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S2048x512 : Shape := ⟨2, ![2048, 512]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x8208, .f32⟩
  | .hbm, ⟨3, _⟩ => ⟨S2048x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .vmem, ⟨15, _⟩ => ⟨S1024x512, .f32⟩
  | .local _ .vmem, ⟨16, _⟩ => ⟨S1024x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x128, .f32⟩
  | .local _ .vmem, ⟨22, _⟩ => ⟨S1024x128, .f32⟩
  | .local _ .vmem, ⟨23, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c0_i32_10 : BitVec 32 := 0#32
  let v25 : BitVec 1 := Scalar.cmpi .eq v24 c0_i32_10
  let v26 : BitVec 32 := Scalar.extui v25
  let c0_i32_11 : BitVec 32 := 0#32
  let v27 : BitVec 1 := Scalar.cmpi .ne v26 c0_i32_11
  v27

def k0_cond3 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c1_i32_12 : BitVec 32 := 1#32
  let v28 : BitVec 1 := Scalar.cmpi .eq v24 c1_i32_12
  let v29 : BitVec 32 := Scalar.extui v28
  let c0_i32_13 : BitVec 32 := 0#32
  let v30 : BitVec 1 := Scalar.cmpi .ne v29 c0_i32_13
  v30

def k0_cond4 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c2_i32 : BitVec 32 := 2#32
  let v31 : BitVec 1 := Scalar.cmpi .eq v24 c2_i32
  let v32 : BitVec 32 := Scalar.extui v31
  let c0_i32_14 : BitVec 32 := 0#32
  let v33 : BitVec 1 := Scalar.cmpi .ne v32 c0_i32_14
  v33

def k0_cond5 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c3_i32 : BitVec 32 := 3#32
  let v34 : BitVec 1 := Scalar.cmpi .eq v24 c3_i32
  let v35 : BitVec 32 := Scalar.extui v34
  let c0_i32_15 : BitVec 32 := 0#32
  let v36 : BitVec 1 := Scalar.cmpi .ne v35 c0_i32_15
  v36

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference3Ideal.lean ====
abbrev S8192x2048 : Shape := ⟨2, ![8192, 2048]⟩
abbrev S1x2048 : Shape := ⟨2, ![1, 2048]⟩
abbrev S2x2048x8208 : Shape := ⟨3, ![2, 2048, 8208]⟩
abbrev S2048x128 : Shape := ⟨2, ![2048, 128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S1x2048x8208 : Shape := ⟨3, ![1, 2048, 8208]⟩
abbrev S2048x8208 : Shape := ⟨2, ![2048, 8208]⟩
abbrev S2048x8192 : Shape := ⟨2, ![2048, 8192]⟩
abbrev S8192x8192 : Shape := ⟨2, ![8192, 8192]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S8192x128 : Shape := ⟨2, ![8192, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x8208, .f32⟩
  | .hbm, ⟨3, _⟩ => ⟨S2048x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x2048x8208, .f32⟩
  | .hbm, ⟨23, _⟩ => ⟨S2048x8208, .f32⟩
  | .hbm, ⟨24, _⟩ => ⟨S2048x8192, .f32⟩
  | .hbm, ⟨25, _⟩ => ⟨S8192x8192, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x16x128, .f32⟩
  | .hbm, ⟨31, _⟩ => ⟨S8192x16x128, .f32⟩
  | .hbm, ⟨32, _⟩ => ⟨S8192x16x128, .f32⟩
  | .hbm, ⟨33, _⟩ => ⟨S_, .f32⟩
  | .hbm, ⟨34, _⟩ => ⟨S8192x16, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S_, .f32⟩
  | .hbm, ⟨40, _⟩ => ⟨S8192x16x1, .f32⟩
  | .hbm, ⟨41, _⟩ => ⟨S8192x16x1, .f32⟩
  | .hbm, ⟨42, _⟩ => ⟨S8192x16x1, .f32⟩
  | .hbm, ⟨43, _⟩ => ⟨S8192x16x128, .f32⟩
  | .hbm, ⟨44, _⟩ => ⟨S8192x16x128, .f32⟩
  | .hbm, ⟨45, _⟩ => ⟨S1x1x128, .f32⟩
  | .hbm, ⟨46, _⟩ => ⟨S8192x16x128, .f32⟩
  | .hbm, ⟨47, _⟩ => ⟨S8192x16x128, .f32⟩
  | .hbm, ⟨48, _⟩ => ⟨S8192x16x128, .f32⟩
  | .hbm, ⟨49, _⟩ => ⟨S_, .f32⟩
  | .hbm, ⟨50, _⟩ => ⟨S8192x16, .f32⟩
  | .hbm, ⟨51, _⟩ => ⟨S8192x16x1, .f32⟩
  | .hbm, ⟨52, _⟩ => ⟨S_, .f32⟩
  | .hbm, ⟨53, _⟩ => ⟨S8192x16x1, .f32⟩
  | .hbm, ⟨54, _⟩ => ⟨S8192x16x1, .f32⟩
  | .hbm, ⟨55, _⟩ => ⟨S_, .f32⟩
  | .hbm, ⟨56, _⟩ => ⟨S8192x16x1, .f32⟩
  | .hbm, ⟨57, _⟩ => ⟨S8192x16x1, .f32⟩
  | .hbm, ⟨58, _⟩ => ⟨S8192x16x1, .f32⟩
  | .hbm, ⟨59, _⟩ => ⟨S8192x16x128, .f32⟩
  | .hbm, ⟨60, _⟩ => ⟨S8192x16x128, .f32⟩
  | .hbm, ⟨61, _⟩ => ⟨S1x1x128, .f32⟩
  | .hbm, ⟨62, _⟩ => ⟨S8192x16x128, .f32⟩
  | .hbm, ⟨63, _⟩ => ⟨S8192x16x128, .f32⟩
  | .hbm, ⟨64, _⟩ => ⟨S8192x2048, .f32⟩
  | .hbm, ⟨65, _⟩ => ⟨S8192x2048, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .i1⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x128, .f32⟩
  | .hbm, ⟨83, _⟩ => ⟨S8192x128, .f32⟩
  | .hbm, ⟨84, _⟩ => ⟨S8192x128, .f32⟩
  | .hbm, ⟨85, _⟩ => ⟨S8192x2048, .bf16⟩
  | .hbm, ⟨86, _⟩ => ⟨S8192x2048, .bf16⟩
  | .hbm, ⟨87, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S1x2048x12352 : Shape := ⟨3, ![1, 2048, 12352]⟩
abbrev S2048x128 : Shape := ⟨2, ![2048, 128]⟩
abbrev S8192x12288 : Shape := ⟨2, ![8192, 12288]⟩
abbrev S8192x128 : Shape := ⟨2, ![8192, 128]⟩
abbrev S1024x2048 : Shape := ⟨2, ![1024, 2048]⟩
abbrev S1x2048x512 : Shape := ⟨3, ![1, 2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12352, .f32⟩
  | .hbm, ⟨3, _⟩ => ⟨S2048x128, .f32⟩
  | .hbm, ⟨4, _⟩ => ⟨S8192x12288, .f32⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S2048x128, .f32⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x2048 : Shape := ⟨2, ![8192, 2048]⟩
abbrev S1x2048 : Shape := ⟨2, ![1, 2048]⟩
abbrev S1x2048x12352 : Shape := ⟨3, ![1, 2048, 12352]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S2048x12352 : Shape := ⟨2, ![2048, 12352]⟩
abbrev S2048x12288 : Shape := ⟨2, ![2048, 12288]⟩
abbrev S8192x12288 : Shape := ⟨2, ![8192, 12288]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12352, .f32⟩
  | .hbm, ⟨3, _⟩ => ⟨S2048x128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x12352, .f32⟩
  | .hbm, ⟨20, _⟩ => ⟨S2048x12288, .f32⟩
  | .hbm, ⟨21, _⟩ => ⟨S8192x12288, .f32⟩
  | .hbm, ⟨22, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S1x2048x6160 : Shape := ⟨3, ![1, 2048, 6160]⟩
abbrev S2048x256 : Shape := ⟨2, ![2048, 256]⟩
abbrev S8192x6144 : Shape := ⟨2, ![8192, 6144]⟩
abbrev S8192x256 : Shape := ⟨2, ![8192, 256]⟩
abbrev S1024x2048 : Shape := ⟨2, ![1024, 2048]⟩
abbrev S1x2048x512 : Shape := ⟨3, ![1, 2048, 512]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x6160, .f32⟩
  | .hbm, ⟨3, _⟩ => ⟨S2048x256, .f32⟩
  | .hbm, ⟨4, _⟩ => ⟨S8192x6144, .f32⟩
  | .hbm, ⟨5, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S2048x256, .f32⟩
  | .local _ .vmem, ⟨6, _⟩ => ⟨S1024x512, .f32⟩
  | .local _ .vmem, ⟨7, _⟩ => ⟨S1024x512, .f32⟩
  | .local _ .vmem, ⟨8, _⟩ => ⟨S1024x256, .f32⟩
  | .local _ .vmem, ⟨9, _⟩ => ⟨S1024x256, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x2048 : Shape := ⟨2, ![8192, 2048]⟩
abbrev S1x2048 : Shape := ⟨2, ![1, 2048]⟩
abbrev S1x2048x6160 : Shape := ⟨3, ![1, 2048, 6160]⟩
abbrev S2048x256 : Shape := ⟨2, ![2048, 256]⟩
abbrev S_ : Shape := ⟨0, ![]⟩
abbrev S8192 : Shape := ⟨1, ![8192]⟩
abbrev S8192x1 : Shape := ⟨2, ![8192, 1]⟩
abbrev S2048x6160 : Shape := ⟨2, ![2048, 6160]⟩
abbrev S2048x6144 : Shape := ⟨2, ![2048, 6144]⟩
abbrev S8192x6144 : Shape := ⟨2, ![8192, 6144]⟩
abbrev S8192x256 : Shape := ⟨2, ![8192, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x6160, .f32⟩
  | .hbm, ⟨3, _⟩ => ⟨S2048x256, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x6160, .f32⟩
  | .hbm, ⟨20, _⟩ => ⟨S2048x6144, .f32⟩
  | .hbm, ⟨21, _⟩ => ⟨S8192x6144, .f32⟩
  | .hbm, ⟨22, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x4096 : Shape := ⟨2, ![8192, 4096]⟩
abbrev S1x4096x2048 : Shape := ⟨3, ![1, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x4096 : Shape := ⟨2, ![8192, 4096]⟩
abbrev S1x4096x2048 : Shape := ⟨3, ![1, 4096, 2048]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S32x2048 : Shape := ⟨2, ![32, 2048]⟩
abbrev S1x2048 : Shape := ⟨2, ![1, 2048]⟩
abbrev S1x2048x12352 : Shape := ⟨3, ![1, 2048, 12352]⟩
abbrev S2048x128 : Shape := ⟨2, ![2048, 128]⟩
abbrev S32x12288 : Shape := ⟨2, ![32, 12288]⟩
abbrev S32x128 : Shape := ⟨2, ![32, 128]⟩
abbrev S1x2048x512 : Shape := ⟨3, ![1, 2048, 512]⟩
abbrev S32x512 : Shape := ⟨2, ![32, 512]⟩
abbrev S32 : Shape := ⟨1, ![32]⟩
abbrev S32x1 : Shape := ⟨2, ![32, 1]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x12352, .f32⟩
  | .hbm, ⟨3, _⟩ => ⟨S2048x128, .f32⟩
  | .hbm, ⟨4, _⟩ => ⟨S32x12288, .f32⟩
  | .hbm, ⟨5, _⟩ => ⟨S32x128, .f32⟩
  | .local _ .vmem, ⟨0, _⟩ => ⟨S32x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S2048x128, .f32⟩
  | .local _ .vmem, ⟨5, _⟩ => ⟨S32x512, .f32⟩
  | .local _ .vmem, ⟨6, _⟩ => ⟨S32x512, .f32⟩
  | .local _ .vmem, ⟨7, _⟩ => ⟨S32x128, .f32⟩
  | .local _ .vmem, ⟨8, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference9Ideal.lean ====
abbrev S32x2048 : Shape := ⟨2, ![32, 2048]⟩
abbrev S1x2048 : Shape := ⟨2, ![1, 2048]⟩
abbrev S1x2048x12352 : Shape := ⟨3, ![1, 2048, 12352]⟩
abbrev S2048x128 : Shape := ⟨2, ![2048, 128]⟩
abbrev S_ : Shape := ⟨0, ![]⟩
abbrev S32 : Shape := ⟨1, ![32]⟩
abbrev S32x1 : Shape := ⟨2, ![32, 1]⟩
abbrev S2048x12352 : Shape := ⟨2, ![2048, 12352]⟩
abbrev S2048x12288 : Shape := ⟨2, ![2048, 12288]⟩
abbrev S32x12288 : Shape := ⟨2, ![32, 12288]⟩
abbrev S32x128 : Shape := ⟨2, ![32, 128]⟩

abbrev nBuf : Space → Nat
  | .hbm => 23
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x12352, .f32⟩
  | .hbm, ⟨3, _⟩ => ⟨S2048x128, .f32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S2048x12352, .f32⟩
  | .hbm, ⟨20, _⟩ => ⟨S2048x12288, .f32⟩
  | .hbm, ⟨21, _⟩ => ⟨S32x12288, .f32⟩
  | .hbm, ⟨22, _⟩ => ⟨S32x128, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S32x2048 : Shape := ⟨2, ![32, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1x2048x512 : Shape := ⟨3, ![1, 2048, 512]⟩
abbrev S1x512x2048 : Shape := ⟨3, ![1, 512, 2048]⟩
abbrev S32 : Shape := ⟨1, ![32]⟩
abbrev S32x1 : Shape := ⟨2, ![32, 1]⟩
abbrev S2048x512 : Shape := ⟨2, ![2048, 512]⟩
abbrev S32x512 : Shape := ⟨2, ![32, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S4x2048x8192, .f32⟩
  | .hbm, ⟨3, _⟩ => ⟨S4x8192x2048, .f32⟩
  | .hbm, ⟨4, _⟩ => ⟨S32x2048, .f32⟩
  | .local _ .vmem, ⟨0, _⟩ => ⟨S1x2048, .f32⟩
  | .local _ .vmem, ⟨1, _⟩ => ⟨S32x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S32x2048, .f32⟩
  | .local _ .vmem, ⟨7, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference10Ideal.lean ====
abbrev S32x2048 : Shape := ⟨2, ![32, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S_ : Shape := ⟨0, ![]⟩
abbrev S32 : Shape := ⟨1, ![32]⟩
abbrev S32x1 : Shape := ⟨2, ![32, 1]⟩
abbrev S1x2048x8192 : Shape := ⟨3, ![1, 2048, 8192]⟩
abbrev S2048x8192 : Shape := ⟨2, ![2048, 8192]⟩
abbrev S32x8192 : Shape := ⟨2, ![32, 8192]⟩
abbrev S1x8192x2048 : Shape := ⟨3, ![1, 8192, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S4x2048x8192, .f32⟩
  | .hbm, ⟨3, _⟩ => ⟨S4x8192x2048, .f32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S1x2048x8192, .f32⟩
  | .hbm, ⟨20, _⟩ => ⟨S2048x8192, .f32⟩
  | .hbm, ⟨21, _⟩ => ⟨S32x8192, .f32⟩
  | .hbm, ⟨22, _⟩ => ⟨S_, .f32⟩
  | .hbm, ⟨23, _⟩ => ⟨S32x8192, .f32⟩
  | .hbm, ⟨24, _⟩ => ⟨S32x8192, .f32⟩
  | .hbm, ⟨25, _⟩ => ⟨S32x8192, .f32⟩
  | .hbm, ⟨26, _⟩ => ⟨S1x8192x2048, .f32⟩
  | .hbm, ⟨27, _⟩ => ⟨S8192x2048, .f32⟩
  | .hbm, ⟨28, _⟩ => ⟨S32x2048, .f32⟩
  | .hbm, ⟨29, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel11.lean ====
abbrev S32x2048 : Shape := ⟨2, ![32, 2048]⟩
abbrev S1x2048 : Shape := ⟨2, ![1, 2048]⟩
abbrev S2x2048x8208 : Shape := ⟨3, ![2, 2048, 8208]⟩
abbrev S2048x128 : Shape := ⟨2, ![2048, 128]⟩
abbrev S1x128 : Shape := ⟨2, ![1, 128]⟩
abbrev S32x128 : Shape := ⟨2, ![32, 128]⟩
abbrev S1x2048x512 : Shape := ⟨3, ![1, 2048, 512]⟩
abbrev S32x512 : Shape := ⟨2, ![32, 512]⟩
abbrev S32 : Shape := ⟨1, ![32]⟩
abbrev S32x1 : Shape := ⟨2, ![32, 1]⟩
abbrev S2048x512 : Shape := ⟨2, ![2048, 512]⟩

abbrev nBuf : Space → Nat
  | .hbm => 14
  | .vmem => 22
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2x2048x8208, .f32⟩
  | .hbm, ⟨3, _⟩ => ⟨S2048x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S32x2048, .bf16⟩
  | .hbm, ⟨8, _⟩ => ⟨S32x2048, .f32⟩
  | .hbm, ⟨9, _⟩ => ⟨S32x2048, .bf16⟩
  | .hbm, ⟨10, _⟩ => ⟨S32x2048, .f32⟩
  | .hbm, ⟨11, _⟩ => ⟨S32x2048, .bf16⟩
  | .hbm, ⟨12, _⟩ => ⟨S32x2048, .f32⟩
  | .hbm, ⟨13, _⟩ => ⟨S32x128, .f32⟩
  | .local _ .vmem, ⟨0, _⟩ => ⟨S32x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S2048x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S32x512, .bf16⟩
  | .local _ .vmem, ⟨9, _⟩ => ⟨S32x512, .bf16⟩
  | .local _ .vmem, ⟨10, _⟩ => ⟨S32x512, .f32⟩
  | .local _ .vmem, ⟨11, _⟩ => ⟨S32x512, .f32⟩
  | .local _ .vmem, ⟨12, _⟩ => ⟨S32x512, .bf16⟩
  | .local _ .vmem, ⟨13, _⟩ => ⟨S32x512, .bf16⟩
  | .local _ .vmem, ⟨14, _⟩ => ⟨S32x512, .f32⟩
  | .local _ .vmem, ⟨15, _⟩ => ⟨S32x512, .f32⟩
  | .local _ .vmem, ⟨16, _⟩ => ⟨S32x512, .bf16⟩
  | .local _ .vmem, ⟨17, _⟩ => ⟨S32x512, .bf16⟩
  | .local _ .vmem, ⟨18, _⟩ => ⟨S32x512, .f32⟩
  | .local _ .vmem, ⟨19, _⟩ => ⟨S32x512, .f32⟩
  | .local _ .vmem, ⟨20, _⟩ => ⟨S32x128, .f32⟩
  | .local _ .vmem, ⟨21, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c0_i32_10 : BitVec 32 := 0#32
  let v25 : BitVec 1 := Scalar.cmpi .eq v24 c0_i32_10
  let v26 : BitVec 32 := Scalar.extui v25
  let c0_i32_11 : BitVec 32 := 0#32
  let v27 : BitVec 1 := Scalar.cmpi .ne v26 c0_i32_11
  v27

def k0_cond3 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c1_i32_12 : BitVec 32 := 1#32
  let v28 : BitVec 1 := Scalar.cmpi .eq v24 c1_i32_12
  let v29 : BitVec 32 := Scalar.extui v28
  let c0_i32_13 : BitVec 32 := 0#32
  let v30 : BitVec 1 := Scalar.cmpi .ne v29 c0_i32_13
  v30

def k0_cond4 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c2_i32 : BitVec 32 := 2#32
  let v31 : BitVec 1 := Scalar.cmpi .eq v24 c2_i32
  let v32 : BitVec 32 := Scalar.extui v31
  let c0_i32_14 : BitVec 32 := 0#32
  let v33 : BitVec 1 := Scalar.cmpi .ne v32 c0_i32_14
  v33

def k0_cond5 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c4_i32 : BitVec 32 := 4#32
  let c0_i32_7 : BitVec 32 := 0#32
  let v14 : BitVec 1 := Scalar.cmpi .sgt c4_i32 c0_i32_7
  let v15 : BitVec 32 := Scalar.extui v14
  let c0_i32_8 : BitVec 32 := 0#32
  let v16 : BitVec 1 := Scalar.cmpi .slt c4_i32 c0_i32_8
  let v17 : BitVec 32 := Scalar.extui v16
  let v18 : BitVec 32 := Scalar.subi v15 v17
  let v19 : BitVec 1 := Scalar.cmpi .ne v13 v18
  let v20 : BitVec 32 := Scalar.remsi arg1 c4_i32
  let c0_i32_9 : BitVec 32 := 0#32
  let v21 : BitVec 1 := Scalar.cmpi .ne v20 c0_i32_9
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c3_i32 : BitVec 32 := 3#32
  let v34 : BitVec 1 := Scalar.cmpi .eq v24 c3_i32
  let v35 : BitVec 32 := Scalar.extui v34
  let c0_i32_15 : BitVec 32 := 0#32
  let v36 : BitVec 1 := Scalar.cmpi .ne v35 c0_i32_15
  v36

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Reference11Ideal.lean ====
abbrev S32x2048 : Shape := ⟨2, ![32, 2048]⟩
abbrev S1x2048 : Shape := ⟨2, ![1, 2048]⟩
abbrev S2x2048x8208 : Shape := ⟨3, ![2, 2048, 8208]⟩
abbrev S2048x128 : Shape := ⟨2, ![2048, 128]⟩
abbrev S1x128 : Shape := ⟨2, ![1, 128]⟩
abbrev S_ : Shape := ⟨0, ![]⟩
abbrev S32 : Shape := ⟨1, ![32]⟩
abbrev S32x1 : Shape := ⟨2, ![32, 1]⟩
abbrev S1x2048x8208 : Shape := ⟨3, ![1, 2048, 8208]⟩
abbrev S2048x8208 : Shape := ⟨2, ![2048, 8208]⟩
abbrev S2048x8192 : Shape := ⟨2, ![2048, 8192]⟩
abbrev S32x8192 : Shape := ⟨2, ![32, 8192]⟩
abbrev S32x16x128 : Shape := ⟨3, ![32, 16, 128]⟩
abbrev S32x16 : Shape := ⟨2, ![32, 16]⟩
abbrev S32x16x1 : Shape := ⟨3, ![32, 16, 1]⟩
abbrev S1x1x128 : Shape := ⟨3, ![1, 1, 128]⟩
abbrev S32x128 : Shape := ⟨2, ![32, 128]⟩

abbrev nBuf : Space → Nat
  | .hbm => 88
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2x2048x8208, .f32⟩
  | .hbm, ⟨3, _⟩ => ⟨S2048x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S32x2048, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S1x2048x8208, .f32⟩
  | .hbm, ⟨23, _⟩ => ⟨S2048x8208, .f32⟩
  | .hbm, ⟨24, _⟩ => ⟨S2048x8192, .f32⟩
  | .hbm, ⟨25, _⟩ => ⟨S32x8192, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S32x2048, .f32⟩
  | .hbm, ⟨30, _⟩ => ⟨S32x16x128, .f32⟩
  | .hbm, ⟨31, _⟩ => ⟨S32x16x128, .f32⟩
  | .hbm, ⟨32, _⟩ => ⟨S32x16x128, .f32⟩
  | .hbm, ⟨33, _⟩ => ⟨S_, .f32⟩
  | .hbm, ⟨34, _⟩ => ⟨S32x16, .f32⟩
  | .hbm, ⟨35, _⟩ => ⟨S32x16x1, .f32⟩
  | .hbm, ⟨36, _⟩ => ⟨S_, .f32⟩
  | .hbm, ⟨37, _⟩ => ⟨S32x16x1, .f32⟩
  | .hbm, ⟨38, _⟩ => ⟨S32x16x1, .f32⟩
  | .hbm, ⟨39, _⟩ => ⟨S_, .f32⟩
  | .hbm, ⟨40, _⟩ => ⟨S32x16x1, .f32⟩
  | .hbm, ⟨41, _⟩ => ⟨S32x16x1, .f32⟩
  | .hbm, ⟨42, _⟩ => ⟨S32x16x1, .f32⟩
  | .hbm, ⟨43, _⟩ => ⟨S32x16x128, .f32⟩
  | .hbm, ⟨44, _⟩ => ⟨S32x16x128, .f32⟩
  | .hbm, ⟨45, _⟩ => ⟨S1x1x128, .f32⟩
  | .hbm, ⟨46, _⟩ => ⟨S32x16x128, .f32⟩
  | .hbm, ⟨47, _⟩ => ⟨S32x16x128, .f32⟩
  | .hbm, ⟨48, _⟩ => ⟨S32x16x128, .f32⟩
  | .hbm, ⟨49, _⟩ => ⟨S_, .f32⟩
  | .hbm, ⟨50, _⟩ => ⟨S32x16, .f32⟩
  | .hbm, ⟨51, _⟩ => ⟨S32x16x1, .f32⟩
  | .hbm, ⟨52, _⟩ => ⟨S_, .f32⟩
  | .hbm, ⟨53, _⟩ => ⟨S32x16x1, .f32⟩
  | .hbm, ⟨54, _⟩ => ⟨S32x16x1, .f32⟩
  | .hbm, ⟨55, _⟩ => ⟨S_, .f32⟩
  | .hbm, ⟨56, _⟩ => ⟨S32x16x1, .f32⟩
  | .hbm, ⟨57, _⟩ => ⟨S32x16x1, .f32⟩
  | .hbm, ⟨58, _⟩ => ⟨S32x16x1, .f32⟩
  | .hbm, ⟨59, _⟩ => ⟨S32x16x128, .f32⟩
  | .hbm, ⟨60, _⟩ => ⟨S32x16x128, .f32⟩
  | .hbm, ⟨61, _⟩ => ⟨S1x1x128, .f32⟩
  | .hbm, ⟨62, _⟩ => ⟨S32x16x128, .f32⟩
  | .hbm, ⟨63, _⟩ => ⟨S32x16x128, .f32⟩
  | .hbm, ⟨64, _⟩ => ⟨S32x2048, .f32⟩
  | .hbm, ⟨65, _⟩ => ⟨S32x2048, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S32x128, .f32⟩
  | .hbm, ⟨70, _⟩ => ⟨S_, .f32⟩
  | .hbm, ⟨71, _⟩ => ⟨S32x128, .f32⟩
  | .hbm, ⟨72, _⟩ => ⟨S32x128, .f32⟩
  | .hbm, ⟨73, _⟩ => ⟨S32x128, .f32⟩
  | .hbm, ⟨74, _⟩ => ⟨S32x128, .f32⟩
  | .hbm, ⟨75, _⟩ => ⟨S32x128, .i1⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S32x128, .f32⟩
  | .hbm, ⟨85, _⟩ => ⟨S32x2048, .bf16⟩
  | .hbm, ⟨86, _⟩ => ⟨S32x2048, .bf16⟩
  | .hbm, ⟨87, _⟩ => ⟨S32x2048, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Proof.MlpStep.lean ====
/-
  The squared-ReLU MLP kernel, one grid point at a time: what the body leaves in the output's staging block and in
  the carried scratch, as the printed payloads of the blocks it reads. At the first of the sixteen column steps the
  scratch takes the normalised rows and the output takes the residual before the first product is added; at the
  other steps the scratch stays and the product is added to what the step before left.
-/
module

public import proofs.«01_k».proof.Defs
public import proofs.«01_k».proof.Proof.Gen.Kernel2Ideal.Value

@[expose] public section

set_option maxRecDepth 16384

noncomputable section

namespace Cert.MlpStep

open Cert.Kernel2Ideal Cert.Kernel2Ideal.Gen
open Idealize.ShloMosaic Idealize.ShloMosaic.TcCoe Idealize.SL.Sem
open Idealize.ShloMosaic.Pipeline (Dat)

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- A later column step: the output block `xo` plus the step's product, from the scratch rows `xs`. -/
theorem out_later (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole) (hc0 : ¬cond0_0 i)
    (x0 : Vec F S1x2048 .f32) (x1 : Vec F S1024x2048 .f32) (x2 : Vec F S1x2048x512 .f32) (x3 : Vec F S1x512x2048 .f32) (xo : Vec F S1024x2048 .f32) (xs : Vec F S1024x2048 .bf16) :
    out0_B_4 c i arg2 harg2 arg3 harg3 arg4 harg4 arg5 harg5 arg6 harg6 arg7 harg7 hc0 x0 x1 x2 x3 xo xs = k0_pay2 xs x2 xo x3 := by
  unfold out0_B_4
  rw [View.read_writes_eq_canon _ _ _ (cover0_B_4 c i arg2 harg2 arg3 harg3 arg4 harg4 arg5 harg5 arg6 harg6 arg7 harg7 hc0 x0 x1 x2 x3 xo xs)]
  unfold kernelRun0_B
  dsimp only
  rw [View.canon_unit_zero z2]
  simp only [View.readAt_eq_ld, harg4.read_unread, harg5.read_unread, harg6.read_unread, harg7.read_unread,
    View.ld_unit_zero (S := S1024x2048) z2, View.ld_unit_zero (S := S1x2048x512) z3, View.ld_unit_zero (S := S1x512x2048) z3]

/-- The first column step: the scratch takes the normalised rows of the block `x1` under the gains `x0`. -/
theorem scratch_first (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole) (hc0 : cond0_0 i)
    (x0 : Vec F S1x2048 .f32) (x1 : Vec F S1024x2048 .f32) (x2 : Vec F S1x2048x512 .f32) (x3 : Vec F S1x512x2048 .f32) :
    sout0_A_0 c i arg2 harg2 arg3 harg3 arg4 harg4 arg5 harg5 arg6 harg6 arg7 harg7 hc0 x0 x1 x2 x3 = k0_pay1 x1 x0 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero z2]
  simp only [View.readAt_eq_ld, harg2.read_unread, harg3.read_unread,
    View.ld_unit_zero (S := S1024x2048) z2, View.ld_unit_zero (S := S1x2048) z2]

/-- The first column step: the output takes the residual block plus the step's product. -/
theorem out_first (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole) (hc0 : cond0_0 i)
    (x0 : Vec F S1x2048 .f32) (x1 : Vec F S1024x2048 .f32) (x2 : Vec F S1x2048x512 .f32) (x3 : Vec F S1x512x2048 .f32) :
    out0_A_4 c i arg2 harg2 arg3 harg3 arg4 harg4 arg5 harg5 arg6 harg6 arg7 harg7 hc0 x0 x1 x2 x3 = k0_pay2 (k0_pay1 x1 x0) x2 x1 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1024x2048) z2]
  simp only [View.readCov_unit_zero (S := S1024x2048) _ z2, View.readAt_eq_ld, harg2.read_unread, harg3.read_unread, harg4.read_unread, harg5.read_unread,
    View.ld_unit_zero (S := S1024x2048) z2, View.ld_unit_zero (S := S1x2048) z2, View.ld_unit_zero (S := S1x2048x512) z3, View.ld_unit_zero (S := S1x512x2048) z3]

end Cert.MlpStep

end
-- ==== Proof.MlpValue.lean ====
/-
  The squared-ReLU MLP kernel's values: after the column step `j` of a row block the output holds the residual plus
  the contributions of the first `512 · (j + 1)` hidden features, so after the sixteenth step it holds the layer's
  result; the reference sums the same features at once.
-/
module

public import proofs.«01_k».proof.Proof.MlpStep
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.MlpValue

open Cert.Kernel2Ideal Cert.Kernel2Ideal.Gen Cert.Kernel2Ideal.Value Cert.MlpStep
open Idealize.ShloMosaic Idealize.ShloMosaic.TcCoe Idealize.SL.Sem
open Idealize.ShloMosaic.Pipeline (Dat)

/-- The block indices of the four input windows at point `t`: the gains whole, the row block `t / 16`, and the
    column block `t % 16` of the layer's two weight matrices. -/
theorem idx (t : Fin cfg0.N) : win0_0.index t = ![0, 0] ∧ win0_1.index t = ![t.val / 16, 0] ∧
    win0_2.index t = ![3, 0, t.val % 16] ∧ win0_3.index t = ![3, t.val % 16, 0] := by
  revert t; decide +kernel

/-! ## The layer's mathematics -/

/-- The normalised row `R` at feature `k`. -/
def nrm (X : Vec Ideal S8192x2048 .f32) (G : Vec Ideal S1x2048 .f32) (R : Fin 8192) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- What hidden feature `f` adds to the result at row `R`, column `k`. -/
def feat (X : Vec Ideal S8192x2048 .f32) (G : Vec Ideal S1x2048 .f32) (U : Vec Ideal S4x2048x8192 .f32)
    (W : Vec Ideal S4x8192x2048 .f32) (R : Fin 8192) (k : Fin 2048) (f : Fin 8192) : EReal :=
  max (∑ q, nrm X G R q * U (ix3 3 q f)) 0 * max (∑ q, nrm X G R q * U (ix3 3 q f)) 0 * W (ix3 3 f k)

/-- The same over all naturals, zero past the last feature. -/
def featN (X : Vec Ideal S8192x2048 .f32) (G : Vec Ideal S1x2048 .f32) (U : Vec Ideal S4x2048x8192 .f32)
    (W : Vec Ideal S4x8192x2048 .f32) (R : Fin 8192) (k : Fin 2048) (f : ℕ) : EReal :=
  if h : f < 8192 then feat X G U W R k ⟨f, h⟩ else 0

/-! ## The payloads at an index -/

theorem pay1_at (x : Vec Ideal S1024x2048 .f32) (g : Vec Ideal S1x2048 .f32) (r : Fin 1024) (k : Fin 2048) :
    k0_pay1 x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay1]

theorem pay2_at (xs : Vec Ideal S1024x2048 .bf16) (wu : Vec Ideal S1x2048x512 .f32) (o : Vec Ideal S1024x2048 .f32)
    (wd : Vec Ideal S1x512x2048 .f32) (r : Fin 1024) (k : Fin 2048) :
    k0_pay2 xs wu o wd (ix2 r k) = o (ix2 r k) + ∑ f : Fin 512, max (∑ q, xs (ix2 r q) * wu (ix3 0 q f)) 0
      * max (∑ q, xs (ix2 r q) * wu (ix3 0 q f)) 0 * wd (ix3 0 f k) := by
  pointwise [k0_pay2]

section
variable (m : (ℓ : Loc nD τ sig) → Buf (Elt Ideal) ℓ) (c : Dev nD)

/-! ## The blocks at an index -/

theorem blk0 (t : Fin cfg0.N) (k : Fin 2048) :
    iblk m c 0 t (ix2 0 k) = m ((c : Thread nD τ).loc main_arg1) (ix2 0 k) := by
  have e := (idx t).1
  blk_ext [iblk, V, e]

theorem blk1 (t : Fin cfg0.N) (r : Fin 1024) (k : Fin 2048) (hR : 1024 * (t.val / 16) + r.val < 8192) :
    iblk m c 1 t (ix2 r k) = m ((c : Thread nD τ).loc main_arg0) (ix2 ⟨1024 * (t.val / 16) + r.val, hR⟩ k) := by
  have e := (idx t).2.1
  blk_ext [iblk, V, e]

theorem blk2 (t : Fin cfg0.N) (q : Fin 2048) (f : Fin 512) (hf : 512 * (t.val % 16) + f.val < 8192) :
    iblk m c 2 t (ix3 0 q f) = m ((c : Thread nD τ).loc main_arg2) (ix3 3 q ⟨512 * (t.val % 16) + f.val, hf⟩) := by
  have e := (idx t).2.2.1
  blk_ext [iblk, V, e]

theorem blk3 (t : Fin cfg0.N) (f : Fin 512) (k : Fin 2048) (hf : 512 * (t.val % 16) + f.val < 8192) :
    iblk m c 3 t (ix3 0 f k) = m ((c : Thread nD τ).loc main_arg3) (ix3 3 ⟨512 * (t.val % 16) + f.val, hf⟩ k) := by
  have e := (idx t).2.2.2
  blk_ext [iblk, V, e]

/-! ## The four arguments -/

abbrev aX : Vec Ideal S8192x2048 .f32 := m ((c : Thread nD τ).loc main_arg0)
abbrev aG : Vec Ideal S1x2048 .f32 := m ((c : Thread nD τ).loc main_arg1)
abbrev aU : Vec Ideal S4x2048x8192 .f32 := m ((c : Thread nD τ).loc main_arg2)
abbrev aW : Vec Ideal S4x8192x2048 .f32 := m ((c : Thread nD τ).loc main_arg3)

theorem rows_at (t : Fin cfg0.N) (r : Fin 1024) (k : Fin 2048) (hR : 1024 * (t.val / 16) + r.val < 8192) :
    k0_pay1 (iblk m c 1 t) (iblk m c 0 t) (ix2 r k) = nrm (aX m c) (aG m c) ⟨1024 * (t.val / 16) + r.val, hR⟩ k := by
  refine (pay1_at (iblk m c 1 t) (iblk m c 0 t) r k).trans ?_
  unfold nrm
  have h1 : ∀ q, iblk m c 1 t (ix2 r q) = aX m c (ix2 ⟨1024 * (t.val / 16) + r.val, hR⟩ q) := fun q => blk1 m c t r q hR
  have h0 : iblk m c 0 t (ix2 0 k) = aG m c (ix2 0 k) := blk0 m c t k
  rw [h0, h1 k]
  simp only [h1]

/-- One column step over the scratch's normalised rows adds its 512 features. -/
theorem step_at (t : Fin cfg0.N) (r : Fin 1024) (k : Fin 2048) (hR : 1024 * (t.val / 16) + r.val < 8192)
    (xs : Vec Ideal S1024x2048 .bf16) (o : Vec Ideal S1024x2048 .f32)
    (hxs : ∀ q, xs (ix2 r q) = nrm (aX m c) (aG m c) ⟨1024 * (t.val / 16) + r.val, hR⟩ q) :
    k0_pay2 xs (iblk m c 2 t) o (iblk m c 3 t) (ix2 r k) = o (ix2 r k)
      + ∑ s ∈ Finset.range 512, featN (aX m c) (aG m c) (aU m c) (aW m c) ⟨1024 * (t.val / 16) + r.val, hR⟩ k (512 * (t.val % 16) + s) := by
  refine (pay2_at xs (iblk m c 2 t) o (iblk m c 3 t) r k).trans ?_
  rw [Finset.sum_range]
  refine congrArg _ (Finset.sum_congr rfl fun f _ => ?_)
  have hf : 512 * (t.val % 16) + f.val < 8192 := by have := f.isLt; omega
  have h2 : ∀ q, iblk m c 2 t (ix3 0 q f) = aU m c (ix3 3 q ⟨512 * (t.val % 16) + f.val, hf⟩) := fun q => blk2 m c t q f hf
  have h3 : iblk m c 3 t (ix3 0 f k) = aW m c (ix3 3 ⟨512 * (t.val % 16) + f.val, hf⟩ k) := blk3 m c t f k hf
  unfold featN feat
  rw [dif_pos hf, h3]
  simp only [hxs, h2]

/-- What point `n` leaves: in the scratch the normalised rows of its row block, in the output the residual plus the
    features so far. -/
theorem state (n : ℕ) (hn : n < cfg0.N) (r : Fin 1024) (hR : 1024 * (n / 16) + r.val < 8192) :
    (∀ k, (outsAt0 m c n hn).2 (ix2 r k) = nrm (aX m c) (aG m c) ⟨1024 * (n / 16) + r.val, hR⟩ k)
    ∧ ∀ k, (outsAt0 m c n hn).1 (ix2 r k) = aX m c (ix2 ⟨1024 * (n / 16) + r.val, hR⟩ k)
      + ∑ f ∈ Finset.range (512 * (n % 16 + 1)), featN (aX m c) (aG m c) (aU m c) (aW m c) ⟨1024 * (n / 16) + r.val, hR⟩ k f := by
  induction n with
  | zero =>
    have e := outsAt0_A m c ⟨0, hn⟩ rfl
    rw [out_first, scratch_first] at e
    have hs := fun k => rows_at m c ⟨0, hn⟩ r k hR
    constructor
    · intro k
      rw [show outsAt0 m c 0 hn = _ from e]
      exact hs k
    · intro k
      rw [show outsAt0 m c 0 hn = _ from e]
      refine (step_at m c ⟨0, hn⟩ r k hR _ _ hs).trans ?_
      rw [blk1 m c ⟨0, hn⟩ r k hR]
      simp
  | succ n ih =>
    by_cases h0 : (n + 1) % 16 = 0
    · have e := outsAt0_A m c ⟨n + 1, hn⟩ h0
      rw [out_first, scratch_first] at e
      have hs := fun k => rows_at m c ⟨n + 1, hn⟩ r k hR
      constructor
      · intro k
        rw [show outsAt0 m c (n + 1) hn = _ from e]
        exact hs k
      · intro k
        rw [show outsAt0 m c (n + 1) hn = _ from e]
        refine (step_at m c ⟨n + 1, hn⟩ r k hR _ _ hs).trans ?_
        rw [blk1 m c ⟨n + 1, hn⟩ r k hR]
        simp [h0]
    · have hq : n / 16 = (n + 1) / 16 := by omega
      have hm : (n + 1) % 16 = n % 16 + 1 := by omega
      obtain ⟨i2, i1⟩ := ih (by omega) (by omega)
      have e := outsAt0_B m c ⟨n + 1, hn⟩ h0
      rw [out_later] at e
      have hRR : (⟨1024 * (n / 16) + r.val, by omega⟩ : Fin 8192) = ⟨1024 * ((n + 1) / 16) + r.val, hR⟩ := Fin.ext (by simp only [hq])
      have hs : ∀ k, (outsAt0 m c n (by omega)).2 (ix2 r k) = nrm (aX m c) (aG m c) ⟨1024 * ((n + 1) / 16) + r.val, hR⟩ k := fun k => by
        rw [← hRR]; exact i2 k
      constructor
      · intro k
        rw [show outsAt0 m c (n + 1) hn = _ from e]
        exact hs k
      · intro k
        rw [show outsAt0 m c (n + 1) hn = _ from e]
        refine (step_at m c ⟨n + 1, hn⟩ r k hR _ _ hs).trans ?_
        have i1k := i1 k
        rw [hRR] at i1k
        refine (congrArg (· + _) i1k).trans ?_
        rw [add_assoc, show 512 * ((n + 1) % 16 + 1) = 512 * (n % 16 + 1) + 512 by omega, Finset.sum_range_add]
        simp only [hm]

/-- The kernel's result at an index. -/
theorem kernel_at (R : Fin 8192) (k : Fin 2048) :
    G4 m c (ix2 R k) = aX m c (ix2 R k) + ∑ f, feat (aX m c) (aG m c) (aU m c) (aW m c) R k f := by
  have hN : cfg0.N = 128 := N_0
  have hp : pt4Of (ix2 R k) = 16 * (R.val / 1024) + 15 := by
    have := k.isLt
    show 16 * (1 * (R.val / 1024 - 0) + 1 * (k.val / 2048 - 0)) + 15 = _
    omega
  have hl : loc4Of (ix2 R k) = ix2 ⟨R.val % 1024, by omega⟩ k := by
    have := k.isLt
    funext a
    match a with
    | ⟨0, _⟩ => rfl
    | ⟨1, _⟩ => exact Fin.ext (Nat.mod_eq_of_lt k.isLt)
  have hlt : 16 * (R.val / 1024) + 15 < cfg0.N := by have := R.isLt; omega
  unfold G4
  rw [dif_pos (hp.trans_lt hlt), ← outsAt0_sweep m c _ (hp.trans_lt hlt), hl]
  rw [show ∀ h, outsAt0 m c (pt4Of (ix2 R k)) h = outsAt0 m c (16 * (R.val / 1024) + 15) hlt from fun h => by simp only [hp]]
  have hd : (16 * (R.val / 1024) + 15) / 16 = R.val / 1024 := by omega
  have hmo : (16 * (R.val / 1024) + 15) % 16 = 15 := by omega
  have hR : 1024 * ((16 * (R.val / 1024) + 15) / 16) + R.val % 1024 < 8192 := by have := R.isLt; omega
  have hRR : (⟨1024 * ((16 * (R.val / 1024) + 15) / 16) + R.val % 1024, hR⟩ : Fin 8192) = R := Fin.ext (by simp only [hd]; omega)
  have h := (state m c (16 * (R.val / 1024) + 15) hlt ⟨R.val % 1024, by omega⟩ hR).2 k
  rw [hRR, hmo] at h
  refine h.trans (congrArg _ ?_)
  rw [Finset.sum_range]
  exact Finset.sum_congr rfl fun f _ => dif_pos f.isLt

end

end Cert.MlpValue

end
-- ==== Proof.MlpClaim.lean ====
/-
  The MLP call's claims: both frames, the reference's frame, and the equality of the two programs' results at the
  ideal values.
-/
module

public import proofs.«01_k».proof.Proof.MlpValue
public import proofs.«01_k».proof.Proof.Gen.Kernel2.Frame
public import Idealize.ShloMosaic.Adequacy

@[expose] public section

set_option maxRecDepth 16384

noncomputable section

namespace Cert.MlpClaim

open Cert.MlpValue
open Idealize.ShloMosaic Idealize.ShloMosaic.TcCoe Idealize.SL.Sem

/-- The layer's result at row `R`, column `k`. -/
def res (X : Vec Ideal Cert.Kernel2Ideal.S8192x2048 .f32) (G : Vec Ideal Cert.Kernel2Ideal.S1x2048 .f32)
    (U : Vec Ideal Cert.Kernel2Ideal.S4x2048x8192 .f32) (W : Vec Ideal Cert.Kernel2Ideal.S4x8192x2048 .f32)
    (R : Fin 8192) (k : Fin 2048) : EReal :=
  X (ix2 R k) + ∑ f, feat X G U W R k f

/-- The reference's composed term at an index: the residual plus the sum over all hidden features. -/
theorem reference_at (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩
      fun r => ∀ c : Dev Cert.Reference2Ideal.nD,
        (∀ (R : Fin 8192) (k : Fin 2048), (r.2.mem ((c.tc : Thread Cert.Reference2Ideal.nD Cert.Reference2Ideal.τ).loc Cert.Reference2Ideal.main_v21) : Vec Ideal Cert.Kernel2Ideal.S8192x2048 .f32) (ix2 R k)
          = res (m ((c.tc : Thread Cert.Reference2Ideal.nD Cert.Reference2Ideal.τ).loc Cert.Reference2Ideal.main_arg0))
                (m ((c.tc : Thread Cert.Reference2Ideal.nD Cert.Reference2Ideal.τ).loc Cert.Reference2Ideal.main_arg1))
                (m ((c.tc : Thread Cert.Reference2Ideal.nD Cert.Reference2Ideal.τ).loc Cert.Reference2Ideal.main_arg2))
                (m ((c.tc : Thread Cert.Reference2Ideal.nD Cert.Reference2Ideal.τ).loc Cert.Reference2Ideal.main_arg3)) R k)
        ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3) := by
  refine (θ_run Cert.Reference2Ideal.defs _ _).mono (fun r h c => ⟨fun R k => ?_, (h c).2⟩) (Cert.Reference2Ideal.Value.run (F := Ideal) m ρ)
  refine (congrFun (h c).1 (ix2 R k)).trans ?_
  pointwise [res, feat, nrm]

theorem frame_p : Cert.quiescent_Kernel2 := fun m ρ _ => Cert.Kernel2.Gen.frame m ρ
theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m g m' g' _ hag
  refine ⟨fun c => Cert.Kernel2Ideal.Value.G4 m c, Cert.Kernel2Ideal.Value.run (F := Ideal) m g, ?_⟩
  refine (θ_run Cert.Reference2Ideal.defs _ _).mono (fun r h c => ⟨?_, (h c).2⟩) (reference_at m' g')
  obtain ⟨e0, e1, e2, e3⟩ := hag c
  funext i
  obtain ⟨R, k, rfl⟩ : ∃ (R : Fin 8192) (k : Fin 2048), i = ix2 R k := ⟨i 0, i 1, eq_ix2 i⟩
  refine ((h c).1 R k).trans (Eq.trans ?_ (kernel_at m c R k).symm)
  rw [e0, e1, e2, e3]
  rfl

end Cert.MlpClaim

end
-- ==== Proof.AttnPre.lean ====
/-
  What the attention call's first precondition says: the two tables list the ten pairs of query block and key block.
  From it the frames of the printed kernel and of its ideal form.
-/
module

public import proofs.«01_k».proof.Proof.MlpClaim
public import proofs.«01_k».proof.Proof.Gen.Kernel.Flash
public import proofs.«01_k».proof.Proof.Gen.KernelIdeal.Flash
public import proofs.«01_k».proof.Proof.Gen.Pre_tables
public import proofs.«01_k».proof.Proof.Gen.ReferenceIdeal.Run
public import Idealize.ShloMosaic.Lib.ReduceAll

@[expose] public section

set_option maxRecDepth 16384

noncomputable section

namespace Cert.AttnPre

open Idealize.ShloMosaic Idealize.ShloMosaic.TcCoe Idealize.SL.Sem

/-- The query block of each of the ten grid steps. -/
def qTab : List (BitVec 32) := [0#32, 1#32, 1#32, 2#32, 2#32, 2#32, 3#32, 3#32, 3#32, 3#32]
/-- The key block of each of the ten grid steps. -/
def kTab : List (BitVec 32) := [0#32, 0#32, 1#32, 0#32, 1#32, 2#32, 0#32, 1#32, 2#32, 3#32]

theorem and_one {a b : BitVec 1} (h : a &&& b = 1#1) : a = 1#1 ∧ b = 1#1 := by
  revert a b; decide

instance : Subsingleton Cert.Pre_tables.S_.Idx := ⟨fun a b => funext fun x => x.elim0⟩

theorem of_cmp {w : ℕ} {a b : BitVec w} (h : IntOp.cmpi .eq a b = 1#1) : a = b := IntOp.cmpi_eq.1 h

section
open Cert.Pre_tables
variable {F : FTy → Type} [FloatOps F]

theorem pairs_of_tables (a0 a1 : IVec S10 32) (a2 a3 a4 : FVec F S8192x2048 .bf16) (a5 : FVec F S32x1x4096 .f32) (a6 : FVec F S8192x2048 .f32)
    (e : Cert.Pre_tables.fn (F := F) a0 a1 a2 a3 a4 a5 a6 = fun _ => 1#1) (i : Fin 10) :
    a0 (ix1 i) = qTab.getD i.val 0#32 ∧ a1 (ix1 i) = kTab.getD i.val 0#32 := by
  have e0 := congrFun e (fun x => x.elim0)
  dsimp only [Cert.Pre_tables.fn, fn_part1, fn_part2] at e0
  obtain ⟨h0, h1⟩ := and_one e0
  have k0 := of_cmp (Host.reduce_andi_all _ _ _ _ _ h0 (ix1 i))
  have k1 := of_cmp (Host.reduce_andi_all _ _ _ _ _ h1 (ix1 i))
  rw [k0, k1]
  clear k0 k1 h0 h1 e0 e
  revert i
  decide +kernel
end

theorem pinned_bits (m : (ℓ : Loc Cert.Kernel.nD Cert.Kernel.τ Cert.Kernel.sig) → Buf (Elt Bits) ℓ)
    (h : Cert.Pre_Kernel m) : Cert.Kernel.Gen.Pinned 0 m := by
  constructor <;> intro c <;> funext x <;> obtain ⟨i, rfl⟩ : ∃ i : Fin 10, x = ix1 i := ⟨x 0, eq_ix1 x⟩
  · exact (pairs_of_tables _ _ _ _ _ _ _ (h c) i).1
  · exact (pairs_of_tables _ _ _ _ _ _ _ (h c) i).2

theorem pinned_ideal (m : (ℓ : Loc Cert.KernelIdeal.nD Cert.KernelIdeal.τ Cert.KernelIdeal.sig) → Buf (Elt Ideal) ℓ)
    (h : Cert.Pre_KernelIdeal m) : Cert.KernelIdeal.Gen.Pinned 0 m := by
  constructor <;> intro c <;> funext x <;> obtain ⟨i, rfl⟩ : ∃ i : Fin 10, x = ix1 i := ⟨x 0, eq_ix1 x⟩
  · exact (pairs_of_tables _ _ _ _ _ _ _ (h c) i).1
  · exact (pairs_of_tables _ _ _ _ _ _ _ (h c) i).2

theorem frame_p : Cert.quiescent_Kernel := fun m ρ h => Cert.Kernel.Gen.frame 0 m ρ (pinned_bits m h)
theorem frame_pi : Cert.quiescent_KernelIdeal := fun m ρ h => Cert.KernelIdeal.Gen.frame 0 m ρ (pinned_ideal m h)

/-- The reference's run with its named result, every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AttnPre

end
-- ==== Proof.AttnFinite.lean ====
/-
  What the attention call's second precondition says: besides the two tables, the queries, keys and cumulative gates
  are finite.
-/
module

public import proofs.«01_k».proof.Proof.AttnPre
public import proofs.«01_k».proof.Proof.Gen.Pre_finite

@[expose] public section

set_option maxRecDepth 16384

noncomputable section

namespace Cert.AttnFinite

open Idealize.ShloMosaic Idealize.ShloMosaic.TcCoe Idealize.SL.Sem Cert.AttnPre

instance : Subsingleton Cert.Pre_finite.S_.Idx := ⟨fun a b => funext fun x => x.elim0⟩

/-- A value whose magnitude compares below something is a real number. -/
theorem real_of (y v : EReal) (k : Ideal.cmp .olt (max y (-y)) v = 1#1) : ∃ r : ℝ, y = (r : EReal) := by
  have h : max y (-y) < v := by
    by_contra hn
    simp [Ideal.cmp, hn] at k
  have ht : max y (-y) < ⊤ := lt_of_lt_of_le h le_top
  have h1 : y ≠ ⊤ := fun e => by simp [e] at ht
  have h2 : y ≠ ⊥ := fun e => by simp [e] at ht
  exact ⟨y.toReal, (EReal.coe_toReal h1 h2).symm⟩

section
open Cert.Pre_finite

theorem pairs_of_finite (a0 a1 : IVec S10 32) (a2 a3 a4 : FVec Ideal S8192x2048 .bf16) (a5 : FVec Ideal S32x1x4096 .f32) (a6 : FVec Ideal S8192x2048 .f32)
    (e : Cert.Pre_finite.fn (F := Ideal) a0 a1 a2 a3 a4 a5 a6 = fun _ => 1#1) :
    (∀ i : Fin 10, a0 (ix1 i) = qTab.getD i.val 0#32 ∧ a1 (ix1 i) = kTab.getD i.val 0#32)
    ∧ (∀ x, ∃ r : ℝ, a2 x = (r : EReal)) ∧ (∀ x, ∃ r : ℝ, a3 x = (r : EReal)) ∧ (∀ x, ∃ r : ℝ, a5 x = (r : EReal)) := by
  have e0 := congrFun e (fun x => x.elim0)
  dsimp only [Cert.Pre_finite.fn, fn_part1, fn_part2, fn_part3] at e0
  obtain ⟨e1, h5⟩ := and_one e0
  obtain ⟨e2, h3⟩ := and_one e1
  obtain ⟨e3, h2⟩ := and_one e2
  obtain ⟨h0, h1⟩ := and_one e3
  refine ⟨fun i => ?_, fun x => ?_, fun x => ?_, fun x => ?_⟩
  · have k0 := of_cmp (Host.reduce_andi_all _ _ _ _ _ h0 (ix1 i))
    have k1 := of_cmp (Host.reduce_andi_all _ _ _ _ _ h1 (ix1 i))
    rw [k0, k1]
    clear k0 k1 h0 h1 e0 e e1 e2 e3 h5 h3 h2
    revert i
    decide +kernel
  · exact real_of _ _ (Host.reduce_andi_all _ _ _ _ _ h2 x)
  · exact real_of _ _ (Host.reduce_andi_all _ _ _ _ _ h3 x)
  · exact real_of _ _ (Host.reduce_andi_all _ _ _ _ _ h5 x)
end

end Cert.AttnFinite

end
-- ==== Proof.AttnMath.lean ====
/-
  Online softmax over the extended reals: the running maximum `M` and the running weighted sum `A` of a row's first
  `n` keys, how one block of keys is taken into them, and that their quotient is the softmax's weighted mean.
-/
module

public import proofs.«01_k».proof.Proof.AttnFinite
public import Idealize.ShloMosaic.PureOps.Ideal

@[expose] public section

set_option maxRecDepth 16384

noncomputable section

namespace Cert.AttnMath

open Idealize.ShloMosaic

/-- The largest of a row's first `n` scores. -/
def M (X : ℕ → EReal) (n : ℕ) : EReal := (Finset.range n).sup X

/-- The sum of the first `n` values, each with the exponential of its score less the largest score. -/
def A (X V : ℕ → EReal) (n : ℕ) : EReal := ∑ j ∈ Finset.range n, Ideal.exp (X j - M X n) * V j

theorem exp_coe (r : ℝ) : Ideal.exp (r : EReal) = (Real.exp r : EReal) := rfl
theorem exp_bot : Ideal.exp ⊥ = 0 := rfl

/-- The exponential of what is at most zero is a nonnegative real. -/
theorem exp_real (x : EReal) (h : x ≤ 0) : 0 ≤ Ideal.exp x ∧ Ideal.exp x ≠ ⊤ := by
  induction x with
  | bot => rw [exp_bot]; exact ⟨le_refl _, EReal.zero_ne_top⟩
  | coe r => rw [exp_coe]; exact ⟨by exact_mod_cast (Real.exp_pos r).le, EReal.coe_ne_top _⟩
  | top => simp at h

theorem sub_nonpos_of_le {x y : EReal} (h : x ≤ y) : x - y ≤ 0 := by
  induction x <;> induction y <;> simp_all [sub_eq_add_neg]
  · norm_cast; linarith

/-- A change of the largest score from `m` to `m'` multiplies every exponential by the same factor. -/
theorem exp_shift {x m m' : EReal} (h : x ≤ m) (h' : m ≤ m') :
    Ideal.exp (m - m') * Ideal.exp (x - m) = Ideal.exp (x - m') := by
  induction x with
  | bot => simp [sub_eq_add_neg, exp_bot]
  | top =>
    obtain rfl : m = ⊤ := top_le_iff.1 h
    obtain rfl : m' = ⊤ := top_le_iff.1 h'
    simp [sub_eq_add_neg, exp_bot]
  | coe x =>
    induction m with
    | bot => simp at h
    | top =>
      obtain rfl : m' = ⊤ := top_le_iff.1 h'
      simp [sub_eq_add_neg, exp_bot]
    | coe m =>
      induction m' with
      | bot => simp at h'
      | top => simp [sub_eq_add_neg, exp_bot]
      | coe m' =>
        rw [← EReal.coe_sub, ← EReal.coe_sub, ← EReal.coe_sub, exp_coe, exp_coe, exp_coe, ← EReal.coe_mul, ← Real.exp_add]
        congr 2; ring

/-- A nonnegative real factor goes into a sum. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem le_M (X : ℕ → EReal) {n j : ℕ} (h : j < n) : X j ≤ M X n := Finset.le_sup (f := X) (Finset.mem_range.2 h)

theorem M_mono (X : ℕ → EReal) {n n' : ℕ} (h : n ≤ n') : M X n ≤ M X n' :=
  Finset.sup_mono (Finset.range_mono h)

theorem M_zero (X : ℕ → EReal) : M X 0 = ⊥ := rfl
theorem A_zero (X V : ℕ → EReal) : A X V 0 = 0 := rfl

/-- The largest score after `b` more keys. -/
theorem M_add (X : ℕ → EReal) (n b : ℕ) :
    M X (n + b) = max (M X n) (Finset.univ.sup fun i : Fin b => X (n + i.val)) := by
  apply le_antisymm
  · refine Finset.sup_le fun j hj => ?_
    have hj := Finset.mem_range.1 hj
    by_cases h : j < n
    · exact le_max_of_le_left (le_M X h)
    · refine le_max_of_le_right ?_
      have := Finset.le_sup (f := fun i : Fin b => X (n + i.val)) (Finset.mem_univ ⟨j - n, by omega⟩)
      simpa [Nat.add_sub_cancel' (not_lt.1 h)] using this
  · refine max_le (M_mono X (Nat.le_add_right n b)) (Finset.sup_le fun i _ => le_M X (by omega))

/-- The weighted sum after `b` more keys: the old one brought to the new largest score, and the block's own. -/
theorem A_add (X V : ℕ → EReal) (n b : ℕ) :
    A X V (n + b) = Ideal.exp (M X n - M X (n + b)) * A X V n
      + ∑ i : Fin b, Ideal.exp (X (n + i.val) - M X (n + b)) * V (n + i.val) := by
  unfold A
  rw [Finset.sum_range_add]
  congr 1
  · obtain ⟨h0, ht⟩ := exp_real _ (sub_nonpos_of_le (M_mono X (Nat.le_add_right n b)))
    rw [mul_sum _ _ h0 ht]
    refine Finset.sum_congr rfl fun j hj => ?_
    rw [← mul_assoc, exp_shift (le_M X (Finset.mem_range.1 hj)) (M_mono X (Nat.le_add_right n b))]
  · exact (Fin.sum_univ_eq_sum_range (fun i => Ideal.exp (X (n + i) - M X (n + b)) * V (n + i)) b).symm

/-- The running maximum after a block of scores `s`, from `μ`. -/
def blkM {b : ℕ} (μ : EReal) (s : Fin b → EReal) : EReal := max μ (Finset.univ.sup s)

/-- The running sum after a block of scores `s` with values `v`, from the maximum `μ` and the sum `α`. -/
def blkA {b : ℕ} (μ α : EReal) (s v : Fin b → EReal) : EReal :=
  Ideal.exp (μ - blkM μ s) * α + ∑ i, Ideal.exp (s i - blkM μ s) * v i

theorem blkM_eq (X : ℕ → EReal) (n b : ℕ) (s : Fin b → EReal) (hs : ∀ i, s i = X (n + i.val)) :
    blkM (M X n) s = M X (n + b) := by
  rw [M_add, funext hs]; rfl

theorem blkA_eq (X V : ℕ → EReal) (n b : ℕ) (s v : Fin b → EReal) (hs : ∀ i, s i = X (n + i.val))
    (hv : ∀ i, v i = V (n + i.val)) : blkA (M X n) (A X V n) s v = A X V (n + b) := by
  unfold blkA
  rw [blkM_eq X n b s hs, A_add, funext hs, funext hv]

/-- Keys that are masked out change neither. -/
theorem masked (X V : ℕ → EReal) (n b : ℕ) (h : ∀ j, n ≤ j → X j = ⊥) :
    M X (n + b) = M X n ∧ A X V (n + b) = A X V n := by
  have hM : M X (n + b) = M X n := by
    rw [M_add]
    refine max_eq_left (Finset.sup_le fun i _ => ?_)
    rw [h _ (Nat.le_add_right n i.val)]; exact bot_le
  refine ⟨hM, ?_⟩
  unfold A
  rw [Finset.sum_range_add, hM]
  rw [Finset.sum_eq_zero (s := Finset.range b), add_zero]
  intro j hj
  rw [h _ (Nat.le_add_right n j)]
  simp [sub_eq_add_neg, exp_bot]

theorem fold_max {ι : Type} (s : Finset ι) (f : ι → EReal) : s.fold max ⊥ f = s.sup f := rfl

theorem sup_range (X : ℕ → EReal) (n : ℕ) : (Finset.univ.sup fun i : Fin n => X i.val) = M X n := by
  have := M_add X 0 n
  simpa [M_zero] using this.symm

/-- The largest of finitely many scores, each a real or `⊥`, is a real if one of them is. -/
theorem M_real (X : ℕ → EReal) (n : ℕ) (hX : ∀ j, X j = ⊥ ∨ ∃ r : ℝ, X j = r) (j0 : ℕ) (hj : j0 < n) (r0 : ℝ) (h0 : X j0 = r0) :
    ∃ r : ℝ, M X n = r := by
  have hb : M X n ≠ ⊥ := fun e => by
    have := le_M X hj
    rw [e, h0] at this
    simp at this
  have ht : M X n ≠ ⊤ := by
    refine ne_of_lt ((Finset.sup_lt_iff (bot_lt_top)).2 fun j _ => ?_)
    rcases hX j with h | ⟨r, h⟩ <;> rw [h]
    · exact bot_lt_top
    · exact EReal.coe_lt_top r
  exact ⟨(M X n).toReal, (EReal.coe_toReal ht hb).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of the weighted sum by the sum of weights is the softmax's weighted mean, though the softmax's scores
    have a real number `cq` added. -/
theorem softmax (X V : ℕ → EReal) (n : ℕ) (hX : ∀ j, X j = ⊥ ∨ ∃ r : ℝ, X j = r) (j0 : ℕ) (hj : j0 < n) (r0 : ℝ) (h0 : X j0 = r0)
    (cq : ℝ) :
    Ideal.div (A X V n) (A X (fun _ => 1) n)
      = ∑ j : Fin n, V j.val * Ideal.div (Ideal.exp (X j.val + cq - Finset.univ.sup fun i : Fin n => X i.val + cq))
          (∑ k : Fin n, Ideal.exp (X k.val + cq - Finset.univ.sup fun i : Fin n => X i.val + cq)) := by
  obtain ⟨μ, hμ⟩ := M_real X n hX j0 hj r0 h0
  have hs : (Finset.univ.sup fun i : Fin n => X i.val + cq) = (μ + cq : ℝ) := by
    apply le_antisymm
    · refine Finset.sup_le fun i _ => ?_
      have := le_M X i.isLt
      rw [hμ] at this
      rw [EReal.coe_add]
      exact add_le_add this (le_refl _)
    · obtain ⟨i, hi, he⟩ := Finset.exists_mem_eq_sup (Finset.range n) ⟨j0, Finset.mem_range.2 hj⟩ X
      have hi := Finset.mem_range.1 hi
      have := Finset.le_sup (f := fun i : Fin n => X i.val + cq) (Finset.mem_univ ⟨i, hi⟩)
      have e : X i = μ := by rw [← he]; exact hμ
      simp only [e] at this
      rw [EReal.coe_add]; exact this
  have hp : ∀ j, Ideal.exp (X j + cq - (μ + cq : ℝ)) = Ideal.exp (X j - μ) := by
    intro j
    rcases hX j with h | ⟨r, h⟩ <;> rw [h]
    · simp [sub_eq_add_neg]
    · rw [← EReal.coe_add, ← EReal.coe_sub, ← EReal.coe_sub]; congr 2; ring
  have hreal : ∀ j, ∃ p : ℝ, 0 ≤ p ∧ Ideal.exp (X j - μ) = p := by
    intro j
    rcases hX j with h | ⟨r, h⟩ <;> rw [h]
    · exact ⟨0, le_refl _, by simp [sub_eq_add_neg, exp_bot]⟩
    · exact ⟨Real.exp (r - μ), (Real.exp_pos _).le, by rw [← EReal.coe_sub, exp_coe]⟩
  choose p hp0 hpe using hreal
  have hl : A X (fun _ => 1) n = (∑ j ∈ Finset.range n, p j : ℝ) := by
    unfold A
    rw [hμ, coe_sum]
    simp only [hpe, mul_one]
  have hl' : (∑ k : Fin n, Ideal.exp (X k.val + cq - (μ + cq : ℝ))) = (∑ j ∈ Finset.range n, p j : ℝ) := by
    rw [coe_sum, ← Fin.sum_univ_eq_sum_range (fun j => (p j : EReal)) n]
    exact Finset.sum_congr rfl fun k _ => by rw [hp, hpe]
  have hpos : 0 < ∑ j ∈ Finset.range n, p j := by
    refine Finset.sum_pos' (fun j _ => hp0 j) ⟨j0, Finset.mem_range.2 hj, ?_⟩
    have := hpe j0
    rw [h0, ← EReal.coe_sub, exp_coe] at this
    have := EReal.coe_injective this
    rw [← this]; exact Real.exp_pos _
  have hdiv : ∀ x : EReal, Ideal.div x ((∑ j ∈ Finset.range n, p j : ℝ) : EReal) = x * (((∑ j ∈ Finset.range n, p j)⁻¹ : ℝ) : EReal) := by
    intro x
    unfold Ideal.div
    rw [if_neg (by exact_mod_cast hpos.ne'), EReal.coe_inv]
  rw [hs, hl', hl, hdiv, mul_comm]
  unfold A
  rw [hμ, mul_sum _ _ (by exact_mod_cast (inv_pos.2 hpos).le) (EReal.coe_ne_top _),
    ← Fin.sum_univ_eq_sum_range (fun j => _ * (Ideal.exp (X j - μ) * V j)) n]
  refine Finset.sum_congr rfl fun j _ => ?_
  rw [hdiv, hp]
  ac_rfl

end Cert.AttnMath

end
-- ==== Proof.AttnStep.lean ====
/-
  What one step of the attention kernel leaves in its two scratch buffers and in the output block, on each of its four
  paths (first or later key block, full or diagonal), at an index.
-/
module

public import proofs.«01_k».proof.Proof.AttnMath
public import proofs.«01_k».proof.Proof.Gen.KernelIdeal.Flash
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttnStep

open Cert.KernelIdeal Cert.KernelIdeal.Gen Cert.AttnMath
open Idealize.ShloMosaic Idealize.ShloMosaic.TcCoe Idealize.ShloMosaic.Tactic Idealize.SL.Sem

set_option maxHeartbeats 2000000

/-- The running maxima, as an array of values. -/
def S0 {c : Dev nD} (b : Buf (Elt Ideal) ((c : Thread nD τ).loc cc0_scratch0)) : Vec Ideal S1024x1 .f32 := b
/-- The running sums, as an array of values. -/
def S1 {c : Dev nD} (b : Buf (Elt Ideal) ((c : Thread nD τ).loc cc0_scratch1)) : Vec Ideal S1024x256 .f32 := b

theorem S0_canon {c : Dev nD} (L : List (View.Piece (Elt Ideal) S1024x1 .f32)) (h : ∀ y, ∃ p ∈ L, y ∈ p.1.set) :
    S0 (c := c) ((View.whole cc0_scratch0).writes (Elt Ideal) (View.whole cc0_scratch0).junk L) = View.canon L :=
  View.read_writes_eq_canon (View.whole cc0_scratch0) _ L h

theorem S1_canon {c : Dev nD} (L : List (View.Piece (Elt Ideal) S1024x256 .f32)) (h : ∀ y, ∃ p ∈ L, y ∈ p.1.set) :
    S1 (c := c) ((View.whole cc0_scratch1).writes (Elt Ideal) (View.whole cc0_scratch1).junk L) = View.canon L :=
  View.read_writes_eq_canon (View.whole cc0_scratch1) _ L h

theorem S0_read {c : Dev nD} (b : Buf (Elt Ideal) ((c : Thread nD τ).loc cc0_scratch0)) :
    View.read (Elt Ideal) (View.whole cc0_scratch0) b = S0 b := rfl
theorem S1_read {c : Dev nD} (b : Buf (Elt Ideal) ((c : Thread nD τ).loc cc0_scratch1)) :
    View.read (Elt Ideal) (View.whole cc0_scratch1) b = S1 b := rfl

/-- Stores that cover the buffer hide the older ones. -/
theorem canon_cov {S : Shape} {e : EltTy} (L R : List (View.Piece (Elt Ideal) S e)) (h : ∀ y, ∃ p ∈ L, y ∈ p.1.set) :
    View.canon (L ++ R) = View.canon L := by
  funext y
  replace h := h y
  induction L with
  | nil => obtain ⟨_, hm, _⟩ := h; exact absurd hm List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine ih ?_
      obtain ⟨p', hm, hy'⟩ := h
      rcases List.mem_cons.mp hm with rfl | hm
      · exact absurd hy' hy
      · exact ⟨p', hm, hy'⟩

theorem cover_app {S : Shape} {e : EltTy} (L R : List (View.Piece (Elt Ideal) S e)) (h : ∀ y, ∃ p ∈ L, y ∈ p.1.set) :
    ∀ y, ∃ p ∈ L ++ R, y ∈ p.1.set := by
  intro y
  obtain ⟨p, hp, hy⟩ := h y
  exact ⟨p, List.mem_append_left _ hp, hy⟩

/-- A load out of a buffer just stored into reads what the stores left. -/
theorem readCov_ld {S : Shape} {e : EltTy} {κ : Kind} {sp : Space} (v : View sig κ sp S e)
    (L : List (View.Piece (Elt Ideal) S e)) (r : Rect S) : v.readCov L r.toLoadRect = View.ld (View.canon L) r :=
  View.readCov_eq_canon' v L _

theorem neg_inf : Ideal.ofBits .f32 4286578688#32 = ⊥ := by
  simp [Ideal.ofBits, Ideal.ieee]

theorem off_lt {o b : ℕ} (x : Fin b) (h : o + b ≤ 1024) : o + x.val < 1024 := by omega

theorem mask_bot : (Named.named κ "mask" 4048155338#32 : Ideal .f32) = ⊥ := rfl

/-- The first half of an accumulator row: the weighted values. -/
def dl (d : Fin 128) : Fin 256 := ⟨d.val, d.isLt.trans (by decide)⟩

/-- The second half of an accumulator row: the sum of the weights. -/
def dh (d : Fin 128) : Fin 256 := ⟨128 + d.val, by omega⟩

/-- The quotient of an accumulator row, times the sigmoid of the gate. -/
def gated (a l g : EReal) : EReal := Ideal.div a l * Ideal.div 1 (1 + Ideal.exp (0 - g))

/-- The causal comparison of the diagonal block's two index arrays. -/
theorem causal (i j : Fin 512) (o : ℕ) (ho : o ≤ 512) (a b : EReal) :
    Scalar.select (IntOp.cmpi CmpIPredicate.sle (IntOp.addi (BitVec.ofNat 32 i.val) (BitVec.ofNat 32 o))
      (IntOp.addi (BitVec.ofNat 32 j.val) (BitVec.ofNat 32 o))) a b = if i.val ≤ j.val then a else b := by
  have hi := i.isLt
  have hj := j.isLt
  have e : IntOp.addi (BitVec.ofNat 32 i.val) (BitVec.ofNat 32 o) = BitVec.ofNat 32 (i.val + o) := by
    simp [IntOp.addi, BitVec.ofNat_add]
  have e' : IntOp.addi (BitVec.ofNat 32 j.val) (BitVec.ofNat 32 o) = BitVec.ofNat 32 (j.val + o) := by
    simp [IntOp.addi, BitVec.ofNat_add]
  rw [e, e']
  have hb : (BitVec.ofNat 32 (i.val + o)).sle (BitVec.ofNat 32 (j.val + o)) = decide (i.val ≤ j.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold Scalar.select IntOp.cmpi
  simp only [hb]
  by_cases h : i.val ≤ j.val <;> simp [h]

/-- The score of query row `r` against key row `j` of a block: the product, scaled, less the key's cumulative gate. -/
def sc (q k : Vec Ideal S1024x128 .bf16) (g : Vec Ideal S1x1x1024 .f32) (r j : Fin 1024) : EReal :=
  (∑ d : Fin 128, q (ix2 r d) * k (ix2 j d)) * Ideal.ofBits .f32 1035273459#32 - g (ix3 0 0 j)

/-- The score on the diagonal block: later keys are masked out. -/
def scm (q k : Vec Ideal S1024x128 .bf16) (g : Vec Ideal S1x1x1024 .f32) (r j : Fin 1024) : EReal :=
  if j.val ≤ r.val then sc q k g r j else ⊥

/-- The values with a block of ones to their right, which sum the weights. -/
def vx (v : Vec Ideal S1024x128 .bf16) (n : Fin 256) (j : Fin 1024) : EReal :=
  if h : n.val < 128 then v (ix2 j ⟨n.val, h⟩) else 1

/-- Key row `i` of the block's first half, and of its second. -/
def lo (i : Fin 512) : Fin 1024 := ⟨i.val, by omega⟩
def hi (i : Fin 512) : Fin 1024 := ⟨512 + i.val, by omega⟩

variable (ch : Fin 1) (m : (ℓ : Loc nD τ sig) → Buf (Elt Ideal) ℓ) (ρ : Dev nD → PrngReg) (c : Dev nD) (t : Fin (cfgA ch).N)

/-- The query, key, value and cumulative-gate blocks of point `t`. -/
def bq : Vec Ideal S1024x128 .bf16 := iblk ch m ρ c (0 : Fin 6) t
def bk : Vec Ideal S1024x128 .bf16 := iblk ch m ρ c (1 : Fin 6) t
def bv : Vec Ideal S1024x128 .bf16 := iblk ch m ρ c (2 : Fin 6) t
def bc : Vec Ideal S1x1x1024 .f32 := iblk ch m ρ c (3 : Fin 6) t
def bg : Vec Ideal S1024x128 .f32 := iblk ch m ρ c (4 : Fin 6) t

/-! Blocks of keys before the query's own, all of them unmasked. -/

theorem D1 (prev) (q0 : ¬ P0_0 ch t) (q1 : P0_1 ch t) (r : Fin 1024) :
    S0 (step0 ch m ρ c t prev).2.1 (ix2 r 0) = blkM (S0 prev.2.1 (ix2 r 0)) (sc (bq ch m ρ c t) (bk ch m ρ c t) (bc ch m ρ c t) r) := by
  rw [step0_D ch m ρ c t prev q0 q1]
  dsimp only
  unfold kernelRun0_D
  dsimp only
  sl_unfold_words
  rw [S0_canon]
  rotate_left
  · exact View.cover_of_tiled_head _ _ _ rfl
  canon_tiles x h
  all_goals
    idx_vars x
    pointwise [View.readAt_eq_ld, k0_pay3, k0_pay4, k0_pay5, k0_pay6]
    simp only [View.read_rep, S0_read, S1_read, neg_inf, mask_bot, fold_max]
  · obtain rfl : r = ⟨768 + x0.val, off_lt x0 (by decide)⟩ := Fin.ext h0
    rfl
  · obtain rfl : r = ⟨512 + x0.val, off_lt x0 (by decide)⟩ := Fin.ext h0
    rfl
  · obtain rfl : r = ⟨256 + x0.val, off_lt x0 (by decide)⟩ := Fin.ext h0
    rfl
  · obtain rfl : r = ⟨x0.val, x0.isLt.trans (by decide)⟩ := Fin.ext h0
    rfl

theorem D2 (prev) (q0 : ¬ P0_0 ch t) (q1 : P0_1 ch t) (r : Fin 1024) (n : Fin 256) :
    S1 (step0 ch m ρ c t prev).2.2 (ix2 r n) = blkA (S0 prev.2.1 (ix2 r 0)) (S1 prev.2.2 (ix2 r n)) (sc (bq ch m ρ c t) (bk ch m ρ c t) (bc ch m ρ c t) r) (vx (bv ch m ρ c t) n) := by
  rw [step0_D ch m ρ c t prev q0 q1]
  dsimp only
  unfold kernelRun0_D
  dsimp only
  sl_unfold_words
  rw [S1_canon]
  rotate_left
  · exact View.cover_of_tiled_head _ _ _ rfl
  canon_tiles x h
  all_goals
    idx_vars x
    pointwise [View.readAt_eq_ld, k0_pay3, k0_pay4, k0_pay5, k0_pay6]
    simp only [View.read_rep, S0_read, S1_read, neg_inf, mask_bot, fold_max]
  · obtain rfl : r = ⟨768 + x0.val, off_lt x0 (by decide)⟩ := Fin.ext h0
    obtain rfl : n = x1 := Fin.ext h1
    rfl
  · obtain rfl : r = ⟨512 + x0.val, off_lt x0 (by decide)⟩ := Fin.ext h0
    obtain rfl : n = x1 := Fin.ext h1
    rfl
  · obtain rfl : r = ⟨256 + x0.val, off_lt x0 (by decide)⟩ := Fin.ext h0
    obtain rfl : n = x1 := Fin.ext h1
    rfl
  · obtain rfl : r = ⟨x0.val, x0.isLt.trans (by decide)⟩ := Fin.ext h0
    obtain rfl : n = x1 := Fin.ext h1
    rfl

theorem B1 (prev) (q0 : P0_0 ch t) (q1 : P0_1 ch t) (r : Fin 1024) :
    S0 (step0 ch m ρ c t prev).2.1 (ix2 r 0) = blkM ⊥ (sc (bq ch m ρ c t) (bk ch m ρ c t) (bc ch m ρ c t) r) := by
  rw [step0_B ch m ρ c t prev q0 q1]
  dsimp only
  unfold kernelRun0_B
  dsimp only
  sl_unfold_words
  simp (disch := decide) only [↓ View.readCov_skip, ↓ View.readCov_cons_toLoadRect, ↓ View.readCov_fill]
  have cov : ∀ L R : List (View.Piece (Elt Ideal) S1024x1 .f32), (∀ y, ∃ p ∈ L, y ∈ p.1.set) →
      S0 (c := c) ((View.whole cc0_scratch0).writes (Elt Ideal) (View.whole cc0_scratch0).junk (L ++ R)) = View.canon L := by
    intro L R hL
    rw [S0_canon _ (cover_app L R hL), canon_cov _ _ hL]
  refine (congrFun (cov [_, _, _, _] [_] ?_) _).trans ?_
  · exact View.cover_of_tiled_head _ _ _ rfl
  canon_tiles x h
  all_goals
    idx_vars x
    pointwise [View.readAt_eq_ld, k0_pay3, k0_pay4, k0_pay5, k0_pay6, k0_pay1, k0_pay2]
    simp only [View.read_rep, neg_inf, mask_bot, fold_max]
  · obtain rfl : r = ⟨768 + x0.val, off_lt x0 (by decide)⟩ := Fin.ext h0
    rfl
  · obtain rfl : r = ⟨512 + x0.val, off_lt x0 (by decide)⟩ := Fin.ext h0
    rfl
  · obtain rfl : r = ⟨256 + x0.val, off_lt x0 (by decide)⟩ := Fin.ext h0
    rfl
  · obtain rfl : r = ⟨x0.val, x0.isLt.trans (by decide)⟩ := Fin.ext h0
    rfl

theorem B2 (prev) (q0 : P0_0 ch t) (q1 : P0_1 ch t) (r : Fin 1024) (n : Fin 256) :
    S1 (step0 ch m ρ c t prev).2.2 (ix2 r n) = blkA ⊥ 0 (sc (bq ch m ρ c t) (bk ch m ρ c t) (bc ch m ρ c t) r) (vx (bv ch m ρ c t) n) := by
  rw [step0_B ch m ρ c t prev q0 q1]
  dsimp only
  unfold kernelRun0_B
  dsimp only
  sl_unfold_words
  simp (disch := decide) only [↓ View.readCov_skip, ↓ View.readCov_cons_toLoadRect, ↓ View.readCov_fill]
  have cov : ∀ L R : List (View.Piece (Elt Ideal) S1024x256 .f32), (∀ y, ∃ p ∈ L, y ∈ p.1.set) →
      S1 (c := c) ((View.whole cc0_scratch1).writes (Elt Ideal) (View.whole cc0_scratch1).junk (L ++ R)) = View.canon L := by
    intro L R hL
    rw [S1_canon _ (cover_app L R hL), canon_cov _ _ hL]
  refine (congrFun (cov [_, _, _, _] [_] ?_) _).trans ?_
  · exact View.cover_of_tiled_head _ _ _ rfl
  canon_tiles x h
  all_goals
    idx_vars x
    pointwise [View.readAt_eq_ld, k0_pay3, k0_pay4, k0_pay5, k0_pay6, k0_pay1, k0_pay2]
    simp only [View.read_rep, neg_inf, mask_bot, fold_max]
  · obtain rfl : r = ⟨768 + x0.val, off_lt x0 (by decide)⟩ := Fin.ext h0
    obtain rfl : n = x1 := Fin.ext h1
    rfl
  · obtain rfl : r = ⟨512 + x0.val, off_lt x0 (by decide)⟩ := Fin.ext h0
    obtain rfl : n = x1 := Fin.ext h1
    rfl
  · obtain rfl : r = ⟨256 + x0.val, off_lt x0 (by decide)⟩ := Fin.ext h0
    obtain rfl : n = x1 := Fin.ext h1
    rfl
  · obtain rfl : r = ⟨x0.val, x0.isLt.trans (by decide)⟩ := Fin.ext h0
    obtain rfl : n = x1 := Fin.ext h1
    rfl

/-! The block of keys on the diagonal, in two halves. -/

theorem C1_lo (prev) (q0 : ¬ P0_0 ch t) (q1 : ¬ P0_1 ch t) (r : Fin 1024) (hr : r.val < 512) :
    S0 (step0 ch m ρ c t prev).2.1 (ix2 r 0) = blkM (S0 prev.2.1 (ix2 r 0)) (fun i : Fin 512 => scm (bq ch m ρ c t) (bk ch m ρ c t) (bc ch m ρ c t) r (lo i)) := by
  rw [step0_C ch m ρ c t prev q0 q1]
  dsimp only
  unfold kernelRun0_C
  dsimp only
  sl_unfold_words
  rw [S0_canon]
  rotate_left
  · exact View.cover_of_tiled_head _ _ _ rfl
  canon_tiles x h
  · exfalso; idx_vars x; omega
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36]
    simp only [View.read_rep, S0_read, S1_read, neg_inf, mask_bot, fold_max]
    obtain rfl : r = ⟨x0.val, x0.isLt.trans (by decide)⟩ := Fin.ext h0
    simp only [causal _ _ 0 (by omega)]
    rfl

theorem C1_hi (prev) (q0 : ¬ P0_0 ch t) (q1 : ¬ P0_1 ch t) (r : Fin 1024) (hr : 512 ≤ r.val) :
    S0 (step0 ch m ρ c t prev).2.1 (ix2 r 0) = blkM (blkM (S0 prev.2.1 (ix2 r 0)) (fun i : Fin 512 => sc (bq ch m ρ c t) (bk ch m ρ c t) (bc ch m ρ c t) r (lo i))) (fun i : Fin 512 => scm (bq ch m ρ c t) (bk ch m ρ c t) (bc ch m ρ c t) r (hi i)) := by
  rw [step0_C ch m ρ c t prev q0 q1]
  dsimp only
  unfold kernelRun0_C
  dsimp only
  sl_unfold_words
  rw [S0_canon]
  rotate_left
  · exact View.cover_of_tiled_head _ _ _ rfl
  canon_tiles x h
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36]
    simp only [View.read_rep, S0_read, S1_read, neg_inf, mask_bot, fold_max]
    obtain rfl : r = ⟨512 + x0.val, off_lt x0 (by decide)⟩ := Fin.ext h0
    have e : ∀ (i : Fin 512) (a : EReal), (if i.val ≤ x0.val then a else ⊥) = if 512 + i.val ≤ 512 + x0.val then a else ⊥ := by
      intro i a; congr 1; exact propext (by omega)
    simp only [causal _ _ 512 (by omega), e]
    rfl
  · exfalso; idx_vars x; omega

theorem C2_lo (prev) (q0 : ¬ P0_0 ch t) (q1 : ¬ P0_1 ch t) (r : Fin 1024) (n : Fin 256) (hr : r.val < 512) :
    S1 (step0 ch m ρ c t prev).2.2 (ix2 r n) = blkA (S0 prev.2.1 (ix2 r 0)) (S1 prev.2.2 (ix2 r n)) (fun i : Fin 512 => scm (bq ch m ρ c t) (bk ch m ρ c t) (bc ch m ρ c t) r (lo i)) (fun i : Fin 512 => vx (bv ch m ρ c t) n (lo i)) := by
  rw [step0_C ch m ρ c t prev q0 q1]
  dsimp only
  unfold kernelRun0_C
  dsimp only
  sl_unfold_words
  rw [S1_canon]
  rotate_left
  · exact View.cover_of_tiled_head _ _ _ rfl
  canon_tiles x h
  · exfalso; idx_vars x; omega
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36]
    simp only [View.read_rep, S0_read, S1_read, neg_inf, mask_bot, fold_max]
    obtain rfl : n = x1 := Fin.ext h1
    obtain rfl : r = ⟨x0.val, x0.isLt.trans (by decide)⟩ := Fin.ext h0
    simp only [causal _ _ 0 (by omega)]
    rfl

theorem C2_hi (prev) (q0 : ¬ P0_0 ch t) (q1 : ¬ P0_1 ch t) (r : Fin 1024) (n : Fin 256) (hr : 512 ≤ r.val) :
    S1 (step0 ch m ρ c t prev).2.2 (ix2 r n) = blkA (blkM (S0 prev.2.1 (ix2 r 0)) (fun i : Fin 512 => sc (bq ch m ρ c t) (bk ch m ρ c t) (bc ch m ρ c t) r (lo i))) (blkA (S0 prev.2.1 (ix2 r 0)) (S1 prev.2.2 (ix2 r n)) (fun i : Fin 512 => sc (bq ch m ρ c t) (bk ch m ρ c t) (bc ch m ρ c t) r (lo i)) (fun i : Fin 512 => vx (bv ch m ρ c t) n (lo i)))
      (fun i : Fin 512 => scm (bq ch m ρ c t) (bk ch m ρ c t) (bc ch m ρ c t) r (hi i)) (fun i : Fin 512 => vx (bv ch m ρ c t) n (hi i)) := by
  rw [step0_C ch m ρ c t prev q0 q1]
  dsimp only
  unfold kernelRun0_C
  dsimp only
  sl_unfold_words
  rw [S1_canon]
  rotate_left
  · exact View.cover_of_tiled_head _ _ _ rfl
  canon_tiles x h
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36]
    simp only [View.read_rep, S0_read, S1_read, neg_inf, mask_bot, fold_max]
    obtain rfl : n = x1 := Fin.ext h1
    obtain rfl : r = ⟨512 + x0.val, off_lt x0 (by decide)⟩ := Fin.ext h0
    have e : ∀ (i : Fin 512) (a : EReal), (if i.val ≤ x0.val then a else ⊥) = if 512 + i.val ≤ 512 + x0.val then a else ⊥ := by
      intro i a; congr 1; exact propext (by omega)
    simp only [causal _ _ 512 (by omega), e]
    rfl
  · exfalso; idx_vars x; omega

theorem A1_lo (prev) (q0 : P0_0 ch t) (q1 : ¬ P0_1 ch t) (r : Fin 1024) (hr : r.val < 512) :
    S0 (step0 ch m ρ c t prev).2.1 (ix2 r 0) = blkM ⊥ (fun i : Fin 512 => scm (bq ch m ρ c t) (bk ch m ρ c t) (bc ch m ρ c t) r (lo i)) := by
  rw [step0_A ch m ρ c t prev q0 q1]
  dsimp only
  unfold kernelRun0_A
  dsimp only
  sl_unfold_words
  simp (disch := decide) only [↓ View.readCov_skip, ↓ View.readCov_cons_toLoadRect, ↓ View.readCov_fill]
  have cov : ∀ L R : List (View.Piece (Elt Ideal) S1024x1 .f32), (∀ y, ∃ p ∈ L, y ∈ p.1.set) →
      S0 (c := c) ((View.whole cc0_scratch0).writes (Elt Ideal) (View.whole cc0_scratch0).junk (L ++ R)) = View.canon L := by
    intro L R hL
    rw [S0_canon _ (cover_app L R hL), canon_cov _ _ hL]
  refine (congrFun (cov [_, _] [_] ?_) _).trans ?_
  · exact View.cover_of_tiled_head _ _ _ rfl
  canon_tiles x h
  · exfalso; idx_vars x; omega
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36, k0_pay1, k0_pay2]
    simp only [View.read_rep, S0_read, S1_read, neg_inf, mask_bot, fold_max]
    obtain rfl : r = ⟨x0.val, x0.isLt.trans (by decide)⟩ := Fin.ext h0
    simp only [causal _ _ 0 (by omega)]
    rfl

theorem A1_hi (prev) (q0 : P0_0 ch t) (q1 : ¬ P0_1 ch t) (r : Fin 1024) (hr : 512 ≤ r.val) :
    S0 (step0 ch m ρ c t prev).2.1 (ix2 r 0) = blkM (blkM ⊥ (fun i : Fin 512 => sc (bq ch m ρ c t) (bk ch m ρ c t) (bc ch m ρ c t) r (lo i))) (fun i : Fin 512 => scm (bq ch m ρ c t) (bk ch m ρ c t) (bc ch m ρ c t) r (hi i)) := by
  rw [step0_A ch m ρ c t prev q0 q1]
  dsimp only
  unfold kernelRun0_A
  dsimp only
  sl_unfold_words
  simp (disch := decide) only [↓ View.readCov_skip, ↓ View.readCov_cons_toLoadRect, ↓ View.readCov_fill]
  have cov : ∀ L R : List (View.Piece (Elt Ideal) S1024x1 .f32), (∀ y, ∃ p ∈ L, y ∈ p.1.set) →
      S0 (c := c) ((View.whole cc0_scratch0).writes (Elt Ideal) (View.whole cc0_scratch0).junk (L ++ R)) = View.canon L := by
    intro L R hL
    rw [S0_canon _ (cover_app L R hL), canon_cov _ _ hL]
  refine (congrFun (cov [_, _] [_] ?_) _).trans ?_
  · exact View.cover_of_tiled_head _ _ _ rfl
  canon_tiles x h
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36, k0_pay1, k0_pay2]
    simp only [View.read_rep, S0_read, S1_read, neg_inf, mask_bot, fold_max]
    obtain rfl : r = ⟨512 + x0.val, off_lt x0 (by decide)⟩ := Fin.ext h0
    have e : ∀ (i : Fin 512) (a : EReal), (if i.val ≤ x0.val then a else ⊥) = if 512 + i.val ≤ 512 + x0.val then a else ⊥ := by
      intro i a; congr 1; exact propext (by omega)
    simp only [causal _ _ 512 (by omega), e]
    rfl
  · exfalso; idx_vars x; omega

theorem A2_lo (prev) (q0 : P0_0 ch t) (q1 : ¬ P0_1 ch t) (r : Fin 1024) (n : Fin 256) (hr : r.val < 512) :
    S1 (step0 ch m ρ c t prev).2.2 (ix2 r n) = blkA ⊥ 0 (fun i : Fin 512 => scm (bq ch m ρ c t) (bk ch m ρ c t) (bc ch m ρ c t) r (lo i)) (fun i : Fin 512 => vx (bv ch m ρ c t) n (lo i)) := by
  rw [step0_A ch m ρ c t prev q0 q1]
  dsimp only
  unfold kernelRun0_A
  dsimp only
  sl_unfold_words
  simp (disch := decide) only [↓ View.readCov_skip, ↓ View.readCov_cons_toLoadRect, ↓ View.readCov_fill]
  have cov : ∀ L R : List (View.Piece (Elt Ideal) S1024x256 .f32), (∀ y, ∃ p ∈ L, y ∈ p.1.set) →
      S1 (c := c) ((View.whole cc0_scratch1).writes (Elt Ideal) (View.whole cc0_scratch1).junk (L ++ R)) = View.canon L := by
    intro L R hL
    rw [S1_canon _ (cover_app L R hL), canon_cov _ _ hL]
  refine (congrFun (cov [_, _] [_] ?_) _).trans ?_
  · exact View.cover_of_tiled_head _ _ _ rfl
  canon_tiles x h
  · exfalso; idx_vars x; omega
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36, k0_pay1, k0_pay2]
    simp only [View.read_rep, S0_read, S1_read, neg_inf, mask_bot, fold_max]
    obtain rfl : n = x1 := Fin.ext h1
    obtain rfl : r = ⟨x0.val, x0.isLt.trans (by decide)⟩ := Fin.ext h0
    simp only [causal _ _ 0 (by omega)]
    rfl

theorem A2_hi (prev) (q0 : P0_0 ch t) (q1 : ¬ P0_1 ch t) (r : Fin 1024) (n : Fin 256) (hr : 512 ≤ r.val) :
    S1 (step0 ch m ρ c t prev).2.2 (ix2 r n) = blkA (blkM ⊥ (fun i : Fin 512 => sc (bq ch m ρ c t) (bk ch m ρ c t) (bc ch m ρ c t) r (lo i))) (blkA ⊥ 0 (fun i : Fin 512 => sc (bq ch m ρ c t) (bk ch m ρ c t) (bc ch m ρ c t) r (lo i)) (fun i : Fin 512 => vx (bv ch m ρ c t) n (lo i)))
      (fun i : Fin 512 => scm (bq ch m ρ c t) (bk ch m ρ c t) (bc ch m ρ c t) r (hi i)) (fun i : Fin 512 => vx (bv ch m ρ c t) n (hi i)) := by
  rw [step0_A ch m ρ c t prev q0 q1]
  dsimp only
  unfold kernelRun0_A
  dsimp only
  sl_unfold_words
  simp (disch := decide) only [↓ View.readCov_skip, ↓ View.readCov_cons_toLoadRect, ↓ View.readCov_fill]
  have cov : ∀ L R : List (View.Piece (Elt Ideal) S1024x256 .f32), (∀ y, ∃ p ∈ L, y ∈ p.1.set) →
      S1 (c := c) ((View.whole cc0_scratch1).writes (Elt Ideal) (View.whole cc0_scratch1).junk (L ++ R)) = View.canon L := by
    intro L R hL
    rw [S1_canon _ (cover_app L R hL), canon_cov _ _ hL]
  refine (congrFun (cov [_, _] [_] ?_) _).trans ?_
  · exact View.cover_of_tiled_head _ _ _ rfl
  canon_tiles x h
  · idx_vars x
    pointwise [View.readAt_eq_ld, k0_pay22, k0_pay23, k0_pay24, k0_pay25, k0_pay26, k0_pay27, k0_pay28, k0_pay29, k0_pay30, k0_pay31, k0_pay32, k0_pay33, k0_pay34, k0_pay35, k0_pay36, k0_pay1, k0_pay2]
    simp only [View.read_rep, S0_read, S1_read, neg_inf, mask_bot, fold_max]
    obtain rfl : n = x1 := Fin.ext h1
    obtain rfl : r = ⟨512 + x0.val, off_lt x0 (by decide)⟩ := Fin.ext h0
    have e : ∀ (i : Fin 512) (a : EReal), (if i.val ≤ x0.val then a else ⊥) = if 512 + i.val ≤ 512 + x0.val then a else ⊥ := by
      intro i a; congr 1; exact propext (by omega)
    simp only [causal _ _ 512 (by omega), e]
    rfl
  · exfalso; idx_vars x; omega

/-! What the last step of a query block writes out. -/

theorem O_C (prev) (q0 : ¬ P0_0 ch t) (q1 : ¬ P0_1 ch t) (r : Fin 1024) (d : Fin 128) :
    (step0 ch m ρ c t prev).1 (ix2 r d) = gated (S1 (step0 ch m ρ c t prev).2.2 (ix2 r (dl d))) (S1 (step0 ch m ρ c t prev).2.2 (ix2 r (dh d))) (bg ch m ρ c t (ix2 r d)) := by
  rw [step0_C ch m ρ c t prev q0 q1]
  dsimp only
  unfold out0_C_5 kernelRun0_C
  dsimp only
  sl_unfold_words
  generalize hL : ([_, _] : List (View.Piece (Elt Ideal) S1024x256 .f32)) = L
  have hc : ∀ y, ∃ p ∈ L, y ∈ p.1.set := by
    rw [← hL]
    exact View.cover_of_tiled_head _ _ _ rfl
  clear hL
  rw [S1_canon L hc, View.read_writes_eq_canon _ _ _ (by exact View.cover_of_tiled_head _ _ _ rfl), View.canon_cons_unit_lit _ _ _ (by decide)]
  simp only [readCov_ld]
  generalize View.canon L = G
  pointwise [View.readAt_eq_ld, k0_pay7, k0_pay37, k0_pay38]
  simp only [View.read_rep]
  rfl

theorem O_A (prev) (q0 : P0_0 ch t) (q1 : ¬ P0_1 ch t) (r : Fin 1024) (d : Fin 128) :
    (step0 ch m ρ c t prev).1 (ix2 r d) = gated (S1 (step0 ch m ρ c t prev).2.2 (ix2 r (dl d))) (S1 (step0 ch m ρ c t prev).2.2 (ix2 r (dh d))) (bg ch m ρ c t (ix2 r d)) := by
  rw [step0_A ch m ρ c t prev q0 q1]
  dsimp only
  unfold out0_A_5 kernelRun0_A
  dsimp only
  sl_unfold_words
  generalize hL : ([_, _, _] : List (View.Piece (Elt Ideal) S1024x256 .f32)) = L
  have hc : ∀ y, ∃ p ∈ L, y ∈ p.1.set := by
    rw [← hL]
    exact cover_app [_, _] [_] (View.cover_of_tiled_head _ _ _ rfl)
  clear hL
  rw [S1_canon L hc, View.read_writes_eq_canon _ _ _ (by exact View.cover_of_tiled_head _ _ _ rfl), View.canon_cons_unit_lit _ _ _ (by decide)]
  simp only [readCov_ld]
  generalize View.canon L = G
  pointwise [View.readAt_eq_ld, k0_pay7, k0_pay37, k0_pay38]
  simp only [View.read_rep]
  rfl

end Cert.AttnStep
-- ==== Proof.AttnIdx.lean ====
/-
  Which blocks the attention kernel's windows show at each of its 320 grid points, and the four paths' conditions, in
  terms of the batch, the head, the query block and the key block of the point.
-/
module

public import proofs.«01_k».proof.Proof.AttnStep

@[expose] public section

set_option maxRecDepth 16384

noncomputable section

namespace Cert.AttnIdx

open Cert.KernelIdeal Cert.KernelIdeal.Gen
open Idealize.ShloMosaic Idealize.ShloMosaic.TcCoe Idealize.ShloMosaic.Tactic Idealize.SL.Sem

/-- The query block of a grid point. -/
def qn (n : ℕ) : ℕ := [0, 1, 1, 2, 2, 2, 3, 3, 3, 3].getD (n % 10) 0
/-- The key block of a grid point. -/
def kn (n : ℕ) : ℕ := [0, 0, 1, 0, 1, 2, 0, 1, 2, 3].getD (n % 10) 0

theorem npts : (cfgA 0).N = 320 := by decide +kernel

theorem idx0 (t : Fin (cfgA 0).N) : ((cfgA 0).win 0).index t = ![4 * (t.val / 160) + qn t.val, t.val / 10 % 16] := by
  revert t; decide +kernel

theorem idx1 (t : Fin (cfgA 0).N) : ((cfgA 0).win 1).index t = ![4 * (t.val / 160) + kn t.val, t.val / 10 % 16] := by
  revert t; decide +kernel

theorem idx2 (t : Fin (cfgA 0).N) : ((cfgA 0).win 2).index t = ![4 * (t.val / 160) + kn t.val, t.val / 10 % 16] := by
  revert t; decide +kernel

theorem idx3 (t : Fin (cfgA 0).N) : ((cfgA 0).win 3).index t = ![16 * (t.val / 160) + t.val / 10 % 16, 0, kn t.val] := by
  revert t; decide +kernel

theorem idx4 (t : Fin (cfgA 0).N) : ((cfgA 0).win 4).index t = ![4 * (t.val / 160) + qn t.val, t.val / 10 % 16] := by
  revert t; decide +kernel

theorem idx5 (t : Fin (cfgA 0).N) : ((cfgA 0).win 5).index t = ![4 * (t.val / 160) + qn t.val, t.val / 10 % 16] := by
  revert t; decide +kernel

theorem first_iff (t : Fin (cfgA 0).N) : P0_0 0 t ↔ kn t.val = 0 := by
  revert t; decide +kernel

theorem before_iff (t : Fin (cfgA 0).N) : P0_1 0 t ↔ kn t.val < qn t.val := by
  revert t; decide +kernel

theorem flush_iff (t : Fin (cfgA 0).N) : ((cfgA 0).win 5).flush t = true ↔ kn t.val = qn t.val := by
  revert t; decide +kernel

theorem kn_le (n : ℕ) : kn n ≤ qn n := by
  have h : ∀ i < 10, [0, 0, 1, 0, 1, 2, 0, 1, 2, 3].getD i 0 ≤ [0, 1, 1, 2, 2, 2, 3, 3, 3, 3].getD i 0 := by decide
  exact h _ (Nat.mod_lt _ (by decide))

theorem qn_lt (n : ℕ) : qn n < 4 := by
  have h : ∀ i < 10, [0, 1, 1, 2, 2, 2, 3, 3, 3, 3].getD i 0 < 4 := by decide
  exact h _ (Nat.mod_lt _ (by decide))

/-- A later key block follows the block before it, of the same queries. -/
theorem kn_succ (n : ℕ) (h : kn (n + 1) ≠ 0) :
    kn n + 1 = kn (n + 1) ∧ qn n = qn (n + 1) ∧ n / 160 = (n + 1) / 160 ∧ n / 10 = (n + 1) / 10 := by
  have d : ∀ i < 10, [0, 0, 1, 0, 1, 2, 0, 1, 2, 3].getD ((i + 1) % 10) 0 ≠ 0 →
      [0, 0, 1, 0, 1, 2, 0, 1, 2, 3].getD i 0 + 1 = [0, 0, 1, 0, 1, 2, 0, 1, 2, 3].getD ((i + 1) % 10) 0
      ∧ [0, 1, 1, 2, 2, 2, 3, 3, 3, 3].getD i 0 = [0, 1, 1, 2, 2, 2, 3, 3, 3, 3].getD ((i + 1) % 10) 0 ∧ i + 1 < 10 := by decide
  have e : (n % 10 + 1) % 10 = (n + 1) % 10 := by omega
  have d := d (n % 10) (Nat.mod_lt _ (by decide))
  rw [e] at d
  obtain ⟨a, b, c⟩ := d h
  exact ⟨a, b, by omega, by omega⟩

end Cert.AttnIdx
-- ==== Proof.AttnValue.lean ====
/-
  What the attention kernel computes: along the ten steps of one batch and head the scratch buffers hold the running
  maximum and the running sums over the keys seen so far, and the output rows are the gated quotient.
-/
module

public import proofs.«01_k».proof.Proof.AttnIdx

@[expose] public section

set_option maxRecDepth 16384

noncomputable section

namespace Cert.AttnValue

open Cert.KernelIdeal Cert.KernelIdeal.Gen Cert.AttnMath Cert.AttnStep Cert.AttnIdx
open Idealize.ShloMosaic Idealize.ShloMosaic.TcCoe Idealize.ShloMosaic.Tactic Idealize.SL.Sem

set_option maxHeartbeats 1000000

/-- Column `d` of head `h`. -/
def col (h : Fin 16) (d : Fin 128) : Fin 2048 := ⟨128 * h.val + d.val, by omega⟩

/-- Row `j` of the batch that row `R` belongs to. -/
def row (R : Fin 8192) (j : ℕ) (hj : j < 4096) : Fin 8192 := ⟨4096 * (R.val / 4096) + j, by omega⟩

/-- The head's line of the cumulative gates. -/
def line (R : Fin 8192) (h : Fin 16) : Fin 32 := ⟨16 * (R.val / 4096) + h.val, by omega⟩

/-- The score of key `j` for query row `R` in head `h`, up to the query's own gate: masked past the query. -/
def xs (Q K : Vec Ideal S8192x2048 .bf16) (G : Vec Ideal S32x1x4096 .f32) (R : Fin 8192) (h : Fin 16) (j : ℕ) : EReal :=
  if hj : j ≤ R.val % 4096 then
    (∑ d, Q (ix2 R (col h d)) * K (ix2 (row R j (by omega)) (col h d))) * Ideal.ofBits .f32 1035273459#32
      - G (ix3 (line R h) 0 ⟨j, by omega⟩)
  else ⊥

/-- Entry `n` of key `j`'s value row, with ones to the right of it. -/
def ve (V : Vec Ideal S8192x2048 .bf16) (R : Fin 8192) (h : Fin 16) (n : Fin 256) (j : ℕ) : EReal :=
  if hn : n.val < 128 then (if hj : j < 4096 then V (ix2 (row R j hj) (col h ⟨n.val, hn⟩)) else 0) else 1

section
variable (m : (ℓ : Loc nD τ sig) → Buf (Elt Ideal) ℓ) (ρ : Dev nD → PrngReg) (c : Dev nD)

abbrev aQ : Vec Ideal S8192x2048 .bf16 := m ((c : Thread nD τ).loc main_arg2)
abbrev aK : Vec Ideal S8192x2048 .bf16 := m ((c : Thread nD τ).loc main_arg3)
abbrev aV : Vec Ideal S8192x2048 .bf16 := m ((c : Thread nD τ).loc main_arg4)
abbrev aC : Vec Ideal S32x1x4096 .f32 := m ((c : Thread nD τ).loc main_arg5)
abbrev aG : Vec Ideal S8192x2048 .f32 := m ((c : Thread nD τ).loc main_arg6)

/-! ## The blocks at an index -/

theorem blk0 (t : Fin (cfgA 0).N) (r : Fin 1024) (d : Fin 128) (h0 : 1024 * (4 * (t.val / 160) + qn t.val) + r.val < 8192)
    (h1 : 128 * (t.val / 10 % 16) + d.val < 2048) :
    bq 0 m ρ c t (ix2 r d) = aQ m c (ix2 ⟨1024 * (4 * (t.val / 160) + qn t.val) + r.val, h0⟩ ⟨128 * (t.val / 10 % 16) + d.val, h1⟩) := by
  have e := idx0 t
  unfold bq
  blk_ext [iblk, e]

theorem blk1 (t : Fin (cfgA 0).N) (r : Fin 1024) (d : Fin 128) (h0 : 1024 * (4 * (t.val / 160) + kn t.val) + r.val < 8192)
    (h1 : 128 * (t.val / 10 % 16) + d.val < 2048) :
    bk 0 m ρ c t (ix2 r d) = aK m c (ix2 ⟨1024 * (4 * (t.val / 160) + kn t.val) + r.val, h0⟩ ⟨128 * (t.val / 10 % 16) + d.val, h1⟩) := by
  have e := idx1 t
  unfold bk
  blk_ext [iblk, e]

theorem blk2 (t : Fin (cfgA 0).N) (r : Fin 1024) (d : Fin 128) (h0 : 1024 * (4 * (t.val / 160) + kn t.val) + r.val < 8192)
    (h1 : 128 * (t.val / 10 % 16) + d.val < 2048) :
    bv 0 m ρ c t (ix2 r d) = aV m c (ix2 ⟨1024 * (4 * (t.val / 160) + kn t.val) + r.val, h0⟩ ⟨128 * (t.val / 10 % 16) + d.val, h1⟩) := by
  have e := idx2 t
  unfold bv
  blk_ext [iblk, e]

theorem blk3 (t : Fin (cfgA 0).N) (r : Fin 1024) (h0 : 16 * (t.val / 160) + t.val / 10 % 16 < 32)
    (h1 : 1024 * kn t.val + r.val < 4096) :
    bc 0 m ρ c t (ix3 0 0 r) = aC m c (ix3 ⟨16 * (t.val / 160) + t.val / 10 % 16, h0⟩ 0 ⟨1024 * kn t.val + r.val, h1⟩) := by
  have e := idx3 t
  unfold bc
  blk_ext [iblk, e]

theorem blk4 (t : Fin (cfgA 0).N) (r : Fin 1024) (d : Fin 128) (h0 : 1024 * (4 * (t.val / 160) + qn t.val) + r.val < 8192)
    (h1 : 128 * (t.val / 10 % 16) + d.val < 2048) :
    bg 0 m ρ c t (ix2 r d) = aG m c (ix2 ⟨1024 * (4 * (t.val / 160) + qn t.val) + r.val, h0⟩ ⟨128 * (t.val / 10 % 16) + d.val, h1⟩) := by
  have e := idx4 t
  unfold bg
  blk_ext [iblk, e]

/-! ## Scores and values at an index -/

/-- Row `r` of step `t`'s query block is row `R` of the whole array, and its head is `h`. -/
def At (t : Fin (cfgA 0).N) (r : Fin 1024) (R : Fin 8192) (h : Fin 16) : Prop :=
  R.val = 1024 * (4 * (t.val / 160) + qn t.val) + r.val ∧ h.val = t.val / 10 % 16

abbrev X (R : Fin 8192) (h : Fin 16) : ℕ → EReal := xs (aQ m c) (aK m c) (aC m c) R h
abbrev W (R : Fin 8192) (h : Fin 16) (n : Fin 256) : ℕ → EReal := ve (aV m c) R h n

theorem sc_at (t : Fin (cfgA 0).N) (r : Fin 1024) (R : Fin 8192) (h : Fin 16) (hA : At t r R h) (j : Fin 1024)
    (hj : 1024 * kn t.val + j.val ≤ 1024 * qn t.val + r.val) :
    sc (bq 0 m ρ c t) (bk 0 m ρ c t) (bc 0 m ρ c t) r j = X m c R h (1024 * kn t.val + j.val) := by
  obtain ⟨hR, hh⟩ := hA
  have q4 := qn_lt t.val
  have kq := kn_le t.val
  have tN : t.val < 320 := npts ▸ t.isLt
  have h1 : R.val / 4096 = t.val / 160 := by omega
  have h2 : R.val % 4096 = 1024 * qn t.val + r.val := by omega
  unfold sc X xs
  rw [dif_pos (by omega)]
  congr 1
  · congr 1
    refine Finset.sum_congr rfl fun d _ => ?_
    rw [blk0 m ρ c t r d (by omega) (by omega), blk1 m ρ c t j d (by omega) (by omega)]
    congr 2
    · congr 1 <;> apply Fin.ext <;> simp only [col] <;> omega
    · congr 1 <;> apply Fin.ext <;> simp only [col, row] <;> omega
  · rw [blk3 m ρ c t j (by omega) (by omega)]
    congr 2
    apply Fin.ext
    simp only [line]
    omega

theorem scm_at (t : Fin (cfgA 0).N) (r : Fin 1024) (R : Fin 8192) (h : Fin 16) (hA : At t r R h) (e : kn t.val = qn t.val)
    (j : Fin 1024) :
    scm (bq 0 m ρ c t) (bk 0 m ρ c t) (bc 0 m ρ c t) r j = X m c R h (1024 * kn t.val + j.val) := by
  unfold scm
  by_cases hj : j.val ≤ r.val
  · rw [if_pos hj, sc_at m ρ c t r R h hA j (by omega)]
  · rw [if_neg hj]
    obtain ⟨hR, hh⟩ := hA
    have q4 := qn_lt t.val
    unfold X xs
    rw [dif_neg (by omega)]

theorem vx_at (t : Fin (cfgA 0).N) (r : Fin 1024) (R : Fin 8192) (h : Fin 16) (hA : At t r R h) (n : Fin 256) (j : Fin 1024) :
    vx (bv 0 m ρ c t) n j = W m c R h n (1024 * kn t.val + j.val) := by
  obtain ⟨hR, hh⟩ := hA
  have q4 := qn_lt t.val
  have kq := kn_le t.val
  have tN : t.val < 320 := npts ▸ t.isLt
  unfold vx W ve
  by_cases hn : n.val < 128
  · rw [dif_pos hn, dif_pos hn, dif_pos (by omega), blk2 m ρ c t j ⟨n.val, hn⟩ (by omega) (by simp only []; omega)]
    congr 2 <;> apply Fin.ext <;> simp only [col, row] <;> omega
  · rw [dif_neg hn, dif_neg hn]

/-- Past the query every key is masked. -/
theorem past (R : Fin 8192) (h : Fin 16) (j : ℕ) (hj : R.val % 4096 < j) : X m c R h j = ⊥ := by
  unfold X xs
  rw [dif_neg (by omega)]

/-! ## One step -/

/-- The scratch buffers' contents at row `r` and entry `n` after the first `N` keys. -/
def Holds (R : Fin 8192) (h : Fin 16) (r : Fin 1024) (n : Fin 256) (b0 : Vec Ideal S1024x1 .f32) (b1 : Vec Ideal S1024x256 .f32) (N : ℕ) : Prop :=
  b0 (ix2 r 0) = M (X m c R h) N ∧ b1 (ix2 r n) = A (X m c R h) (W m c R h n) N

theorem lo_val (i : Fin 512) : (lo i).val = i.val := rfl
theorem hi_val (i : Fin 512) : (hi i).val = 512 + i.val := rfl

theorem step (t : Fin (cfgA 0).N) (prev) (r : Fin 1024) (R : Fin 8192) (h : Fin 16) (hA : At t r R h) (n : Fin 256)
    (hp : kn t.val ≠ 0 → Holds m c R h r n (S0 prev.2.1) (S1 prev.2.2) (1024 * kn t.val)) :
    Holds m c R h r n (S0 (step0 0 m ρ c t prev).2.1) (S1 (step0 0 m ρ c t prev).2.2) (1024 * kn t.val + 1024) := by
  have kq := kn_le t.val
  have hV : ∀ j : Fin 1024, vx (bv 0 m ρ c t) n j = W m c R h n (1024 * kn t.val + j.val) := vx_at m ρ c t r R h hA n
  by_cases q1 : P0_1 0 t
  · have lt := (before_iff t).1 q1
    have hs : ∀ j : Fin 1024, sc (bq 0 m ρ c t) (bk 0 m ρ c t) (bc 0 m ρ c t) r j = X m c R h (1024 * kn t.val + j.val) :=
      fun j => sc_at m ρ c t r R h hA j (by omega)
    by_cases q0 : P0_0 0 t
    · have k0 := (first_iff t).1 q0
      refine ⟨(B1 0 m ρ c t prev q0 q1 r).trans ?_, (B2 0 m ρ c t prev q0 q1 r n).trans ?_⟩
      · rw [← blkM_eq _ _ 1024 _ hs, k0, Nat.mul_zero, M_zero]
      · rw [← blkA_eq _ _ _ 1024 _ _ hs hV, k0, Nat.mul_zero, M_zero, A_zero]
    · obtain ⟨p0, p1⟩ := hp fun k0 => q0 ((first_iff t).2 k0)
      refine ⟨(D1 0 m ρ c t prev q0 q1 r).trans ?_, (D2 0 m ρ c t prev q0 q1 r n).trans ?_⟩
      · rw [p0, ← blkM_eq _ _ 1024 _ hs]
      · rw [p0, p1, ← blkA_eq _ _ _ 1024 _ _ hs hV]
  · have e : kn t.val = qn t.val := by
      by_contra ne
      exact q1 ((before_iff t).2 (by omega))
    have q4 := qn_lt t.val
    have R2 : R.val % 4096 = 1024 * qn t.val + r.val := by
      have := hA.1
      omega
    have hm := scm_at m ρ c t r R h hA e
    have V1 : ∀ i : Fin 512, vx (bv 0 m ρ c t) n (lo i) = W m c R h n (1024 * kn t.val + i.val) := fun i => hV (lo i)
    have V2 : ∀ i : Fin 512, vx (bv 0 m ρ c t) n (hi i) = W m c R h n (1024 * kn t.val + 512 + i.val) := fun i => by
      rw [hV (hi i), hi_val, Nat.add_assoc]
    have m1 : ∀ i : Fin 512, scm (bq 0 m ρ c t) (bk 0 m ρ c t) (bc 0 m ρ c t) r (lo i) = X m c R h (1024 * kn t.val + i.val) :=
      fun i => hm (lo i)
    have m2 : ∀ i : Fin 512, scm (bq 0 m ρ c t) (bk 0 m ρ c t) (bc 0 m ρ c t) r (hi i) = X m c R h (1024 * kn t.val + 512 + i.val) :=
      fun i => by rw [hm (hi i), hi_val, Nat.add_assoc]
    by_cases hr : r.val < 512
    · have mk := masked (X m c R h) (W m c R h n) (1024 * kn t.val + 512) 512 fun j hj => past m c R h j (by omega)
      rw [show 1024 * kn t.val + 512 + 512 = 1024 * kn t.val + 1024 by omega] at mk
      by_cases q0 : P0_0 0 t
      · have k0 := (first_iff t).1 q0
        refine ⟨(A1_lo 0 m ρ c t prev q0 q1 r hr).trans ?_, (A2_lo 0 m ρ c t prev q0 q1 r n hr).trans ?_⟩
        · rw [mk.1, ← blkM_eq _ _ 512 _ m1, k0, Nat.mul_zero, M_zero]
        · rw [mk.2, ← blkA_eq _ _ _ 512 _ _ m1 V1, k0, Nat.mul_zero, M_zero, A_zero]
      · obtain ⟨p0, p1⟩ := hp fun k0 => q0 ((first_iff t).2 k0)
        refine ⟨(C1_lo 0 m ρ c t prev q0 q1 r hr).trans ?_, (C2_lo 0 m ρ c t prev q0 q1 r n hr).trans ?_⟩
        · rw [mk.1, p0, ← blkM_eq _ _ 512 _ m1]
        · rw [mk.2, p0, p1, ← blkA_eq _ _ _ 512 _ _ m1 V1]
    · have hr' : 512 ≤ r.val := by omega
      have s1 : ∀ i : Fin 512, sc (bq 0 m ρ c t) (bk 0 m ρ c t) (bc 0 m ρ c t) r (lo i) = X m c R h (1024 * kn t.val + i.val) :=
        fun i => sc_at m ρ c t r R h hA (lo i) (by rw [lo_val]; omega)
      have eM := blkM_eq (X m c R h) (1024 * kn t.val) 512 _ s1
      have eA := blkA_eq (X m c R h) (W m c R h n) (1024 * kn t.val) 512 _ _ s1 V1
      have fM := blkM_eq (X m c R h) (1024 * kn t.val + 512) 512 _ m2
      have fA := blkA_eq (X m c R h) (W m c R h n) (1024 * kn t.val + 512) 512 _ _ m2 V2
      rw [show 1024 * kn t.val + 512 + 512 = 1024 * kn t.val + 1024 by omega] at fM fA
      by_cases q0 : P0_0 0 t
      · have k0 := (first_iff t).1 q0
        have z0 : M (X m c R h) (1024 * kn t.val) = ⊥ := by rw [k0, Nat.mul_zero, M_zero]
        have z1 : A (X m c R h) (W m c R h n) (1024 * kn t.val) = 0 := by rw [k0, Nat.mul_zero, A_zero]
        refine ⟨(A1_hi 0 m ρ c t prev q0 q1 r hr').trans ?_, (A2_hi 0 m ρ c t prev q0 q1 r n hr').trans ?_⟩
        · rw [← z0, eM, fM]
        · rw [← z0, ← z1, eM, eA, fA]
      · obtain ⟨p0, p1⟩ := hp fun k0 => q0 ((first_iff t).2 k0)
        refine ⟨(C1_hi 0 m ρ c t prev q0 q1 r hr').trans ?_, (C2_hi 0 m ρ c t prev q0 q1 r n hr').trans ?_⟩
        · rw [p0, eM, fM]
        · rw [p0, p1, eM, eA, fA]

/-! ## All steps -/

theorem along (n : Fin 256) (r : Fin 1024) : ∀ (i : ℕ) (hi : i < (cfgA 0).N) (R : Fin 8192) (h : Fin 16), At ⟨i, hi⟩ r R h →
    Holds m c R h r n (S0 (traj0 0 m ρ c i hi).2.1) (S1 (traj0 0 m ρ c i hi).2.2) (1024 * kn i + 1024) := by
  intro i
  induction i with
  | zero =>
    intro hi R h hA
    exact step m ρ c ⟨0, hi⟩ _ r R h hA n fun ne => absurd (by decide : kn 0 = 0) ne
  | succ i ih =>
    intro hi R h hA
    refine step m ρ c ⟨i + 1, hi⟩ (traj0 0 m ρ c i (by omega)) r R h hA n fun ne => ?_
    obtain ⟨e1, e2, e3, e4⟩ := kn_succ i ne
    have := ih (by omega) R h ⟨hA.1.trans (by simp only [e2, e3]), hA.2.trans (by simp only [e4])⟩
    rwa [show 1024 * kn i + 1024 = 1024 * kn (i + 1) by omega] at this

/-- The attention's output at row `R` and column `C` as the kernel leaves it. -/
def res (R : Fin 8192) (C : Fin 2048) : EReal :=
  gated (A (X m c R ⟨C.val / 128, by omega⟩) (W m c R ⟨C.val / 128, by omega⟩ (dl ⟨C.val % 128, by omega⟩)) 4096)
    (A (X m c R ⟨C.val / 128, by omega⟩) (fun _ => 1) 4096) (aG m c (ix2 R C))

theorem W_one (R : Fin 8192) (h : Fin 16) (d : Fin 128) : W m c R h (dh d) = fun _ => 1 := by
  funext j
  unfold W ve
  rw [dif_neg (by simp only [dh]; omega)]

theorem out_at (t : Fin (cfgA 0).N) (e : kn t.val = qn t.val) (r : Fin 1024) (d : Fin 128) (R : Fin 8192) (C : Fin 2048)
    (hR : R.val = 1024 * (4 * (t.val / 160) + qn t.val) + r.val) (hC : C.val = 128 * (t.val / 10 % 16) + d.val) :
    (traj0 0 m ρ c t.val t.isLt).1 (ix2 r d) = res m c R C := by
  have q4 := qn_lt t.val
  have tN : t.val < 320 := npts ▸ t.isLt
  have q1 : ¬ P0_1 0 t := fun q => by have := (before_iff t).1 q; omega
  have hA : At t r R ⟨C.val / 128, by omega⟩ := ⟨hR, by simp only []; omega⟩
  obtain ⟨a0, a1⟩ := along m ρ c (dl d) r t.val t.isLt R _ hA
  obtain ⟨b0, b1⟩ := along m ρ c (dh d) r t.val t.isLt R _ hA
  have mk := fun V => (masked (X m c R ⟨C.val / 128, by omega⟩) V (1024 * kn t.val + 1024) (4096 - (1024 * kn t.val + 1024))
    fun j hj => past m c R _ j (by omega)).2
  rw [show 1024 * kn t.val + 1024 + (4096 - (1024 * kn t.val + 1024)) = 4096 by omega] at mk
  have hd : (⟨C.val % 128, by omega⟩ : Fin 128) = d := Fin.ext (by simp only []; omega)
  have g : bg 0 m ρ c t (ix2 r d) = aG m c (ix2 R C) := by
    rw [blk4 m ρ c t r d (by omega) (by omega)]
    congr 2
    · exact Fin.ext hR.symm
    · exact Fin.ext hC.symm
  obtain ⟨prev, hprev⟩ : ∃ prev, traj0 0 m ρ c t.val t.isLt = step0 0 m ρ c t prev := by
    obtain ⟨i, hi⟩ := t
    cases i with
    | zero => exact ⟨_, rfl⟩
    | succ i => exact ⟨_, rfl⟩
  rw [hprev] at a1 b1 ⊢
  have o : (step0 0 m ρ c t prev).1 (ix2 r d) = gated (S1 (step0 0 m ρ c t prev).2.2 (ix2 r (dl d)))
      (S1 (step0 0 m ρ c t prev).2.2 (ix2 r (dh d))) (bg 0 m ρ c t (ix2 r d)) := by
    by_cases q0 : P0_0 0 t
    · exact O_A 0 m ρ c t prev q0 q1 r d
    · exact O_C 0 m ρ c t prev q0 q1 r d
  rw [o, a1, b1, g, W_one, ← mk, ← mk]
  unfold res
  rw [hd]

/-! ## The output array -/

/-- After the last step the output array holds `res` everywhere. -/
theorem final : (dats 0 m ρ 0 c).arrAt (5 : Fin 6) (cfgA 0).N = (fun i => res m c (i 0) (i 1) : Vec Ideal S8192x2048 .bf16) := by
  refine (dats 0 m ρ 0 c).arrAt_eq_of_covers (5 : Fin 6) _ (by decide +kernel) fun t hf y => ?_
  have e := idx5 t
  have hk := (flush_iff t).1 hf
  rw [after0_5]
  generalize hy : ((cfgA 0).win 5).xinj ((cfgA 0).grid.coords t) y = z
  obtain ⟨r, d, rfl⟩ : ∃ (r : Fin 1024) (d : Fin 128), z = ix2 r d := ⟨z 0, z 1, eq_ix2 z⟩
  have h0 : (y 0).val = r.val := congrArg (fun z : S1024x128.Idx => (z 0).val) hy
  have h1 : (y 1).val = d.val := congrArg (fun z : S1024x128.Idx => (z 1).val) hy
  blk_simp [e]
  refine out_at m ρ c t hk r d _ _ ?_ ?_
  · blk_simp [e]
    omega
  · blk_simp [e]
    omega

/-- The run with the output at an index. -/
theorem kernel_at (hp : Pinned 0 m) :
    θ_run (defs (F := Ideal)) (onTc (τ := τ) (main (F := Ideal))) ⟨m, fun _ => 0, ρ⟩
      (fun r => ∀ c : Dev nD, r.2.mem ((c.tc : Thread nD τ).loc main_v0) = (fun i => res m c (i 0) (i 1) : Vec Ideal S8192x2048 .bf16)) :=
  (θ_run defs _ _).mono (fun _ h c => ((h c).1 (5 : Fin 6)).trans (final m ρ c)) (run_main 0 m ρ hp)

end

end Cert.AttnValue

end
-- ==== Proof.AttnRef.lean ====
/-
  The attention reference read at an index: masked scores, their exponentials, the probabilities, the weighted values
  and the gate.  Under real queries, keys and cumulative gates it is what the kernel leaves.
-/
module

public import proofs.«01_k».proof.Proof.AttnValue

@[expose] public section

set_option maxRecDepth 16384

noncomputable section

namespace Cert.AttnRef

open Cert.ReferenceIdeal Cert.ReferenceIdeal.Gen Cert.AttnMath
open Idealize.ShloMosaic Idealize.ShloMosaic.TcCoe Idealize.ShloMosaic.Tactic Idealize.SL.Sem

/-- The masked scores of all heads. -/
def scores (Q K : FVec Ideal S8192x2048 .bf16) (G : FVec Ideal S32x1x4096 .f32) : FVec Ideal S2x16x4096x4096 .f32 :=
  select (broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S2x4096x16x128_S2x4096x16x128_S2x16x4096x4096_3_3_1_1_02_02 none (shapeCast _ (extf .f32 Q bitsLt_bf16_f32) shapeCasts_S8192x2048_S2x4096x16x128) (shapeCast _ (extf .f32 K bitsLt_bf16_f32) shapeCasts_S8192x2048_S2x4096x16x128)) (broadcastInDim S2x16x4096x4096 ![] bcast_S_S2x16x4096x4096 (constant S_ .f32 0x3DB504F3#32))) (subf (broadcastInDim S2x16x4096x4096 ![0, 1, 2, 3] bcast_S2x16x4096x1_S2x16x4096x4096_0_1_2_3 (broadcastInDim S2x16x4096x1 ![0, 1, 2] bcast_S2x16x4096_S2x16x4096x1_0_1_2 (shapeCast _ G shapeCasts_S32x1x4096_S2x16x4096))) (broadcastInDim S2x16x4096x4096 ![0, 1, 2, 3] bcast_S2x16x1x4096_S2x16x4096x4096_0_1_2_3 (broadcastInDim S2x16x1x4096 ![0, 1, 3] bcast_S2x16x4096_S2x16x1x4096_0_1_3 (shapeCast _ G shapeCasts_S32x1x4096_S2x16x4096))))) (broadcastInDim S2x16x4096x4096 ![] bcast_S_S2x16x4096x4096 (id (constant (F := Ideal) S_ .f32 0xFF800000#32) : FVec Ideal S_ .f32))

/-- The largest entry along the last of four axes, from the least value. -/
theorem max_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (i : Fin n2)
    (hi : init (Shape.Idx.first hu) = (⊥ : EReal)) :
    Host.reduce FloatOps.maximumf x init h hu (ix3 a b i) = Finset.univ.sup fun k : Fin n3 => x (ix4 a b i k) := by
  simp only [pointwise]
  rw [hi]
  exact fold_max _ _

/-- Each row's largest score. -/
def most (s : FVec Ideal S2x16x4096x4096 .f32) : FVec Ideal S2x16x4096 .f32 :=
  Host.reduce FloatOps.maximumf s (constant S_ .f32 0xFF800000#32) reducesTo_S2x16x4096x4096_S2x16x4096_d3 h_S_

theorem most_at (s : FVec Ideal S2x16x4096x4096 .f32) (b : Fin 2) (h : Fin 16) (i : Fin 4096) :
    most s (ix3 b h i) = Finset.univ.sup fun k : Fin 4096 => s (ix4 b h i k) := by
  unfold most
  exact max_last (n0 := 2) (n1 := 16) (n2 := 4096) (n3 := 4096) s (constant S_ .f32 0xFF800000#32) reducesTo_S2x16x4096x4096_S2x16x4096_d3 h_S_ b h i
    Cert.AttnStep.neg_inf

/-- Their exponentials, each row's largest score subtracted first. -/
def expo (s : FVec Ideal S2x16x4096x4096 .f32) : FVec Ideal S2x16x4096x4096 .f32 :=
  Host.exp (subf s (broadcastInDim S2x16x4096x4096 ![0, 1, 2, 3] bcast_S2x16x4096x1_S2x16x4096x4096_0_1_2_3 (broadcastInDim S2x16x4096x1 ![0, 1, 2] bcast_S2x16x4096_S2x16x4096x1_0_1_2 (maximumf (broadcastInDim S2x16x4096 ![] bcast_S_S2x16x4096 (constant S_ .f32 0xFF800000#32)) (most s)))))

/-- The probabilities. -/
def prob (p : FVec Ideal S2x16x4096x4096 .f32) : FVec Ideal S2x16x4096x4096 .f32 :=
  Host.divf p (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd p (constant S_ .f32 0x00000000#32) reducesTo_S2x16x4096x4096_S2x16x4096_d3 h_S_)))

/-- The values weighted with them. -/
def mix (V : FVec Ideal S8192x2048 .bf16) (p : FVec Ideal S2x16x4096x4096 .f32) : FVec Ideal S2x16x128x4096 .f32 :=
  Host.dotGeneral dot_S2x4096x16x128_S2x16x4096x4096_S2x16x128x4096_1_3_3_2_02_01 none (shapeCast _ (extf .f32 V bitsLt_bf16_f32) shapeCasts_S8192x2048_S2x4096x16x128) p

/-- The gated result. -/
def out (o : FVec Ideal S2x16x128x4096 .f32) (g : FVec Ideal S8192x2048 .f32) : FVec Ideal S8192x2048 .bf16 :=
  truncf .bf16 (mulf (shapeCast _ (transpose S2x4096x16x128 [0, 3, 1, 2] o transposes_S2x16x128x4096_S2x4096x16x128_0_3_1_2) shapeCasts_S2x4096x16x128_S8192x2048) (Host.divf (broadcastInDim S8192x2048 ![] bcast_S_S8192x2048 (constant S_ .f32 0x3F800000#32)) (addf (broadcastInDim S8192x2048 ![] bcast_S_S8192x2048 (constant S_ .f32 0x3F800000#32)) (Host.exp (Host.negf g))))) bitsLt_bf16_f32

theorem res_eq (m : (ℓ : Loc nD τ sig) → Buf (Elt Ideal) ℓ) (c : Dev nD) :
    Value.res_main_v44 (F := Ideal) m c = out (mix (m ((c.tc : Thread nD τ).loc main_arg4)) (prob (expo (scores (m ((c.tc : Thread nD τ).loc main_arg2)) (m ((c.tc : Thread nD τ).loc main_arg3)) (m ((c.tc : Thread nD τ).loc main_arg5)))))) (m ((c.tc : Thread nD τ).loc main_arg6)) := rfl

theorem cap_at (w : FVec Ideal S2x16x4096 .f32) (b : Fin 2) (h : Fin 16) (i : Fin 4096) :
    maximumf (broadcastInDim S2x16x4096 ![] bcast_S_S2x16x4096 (constant S_ .f32 0xFF800000#32)) w (ix3 b h i)
      = max (Ideal.ofBits .f32 0xFF800000#32) (w (ix3 b h i)) := by
  pointwise

theorem spread_at (w : FVec Ideal S2x16x4096 .f32) (b : Fin 2) (h : Fin 16) (i j : Fin 4096) :
    broadcastInDim S2x16x4096x4096 ![0, 1, 2, 3] bcast_S2x16x4096x1_S2x16x4096x4096_0_1_2_3 (broadcastInDim S2x16x4096x1 ![0, 1, 2] bcast_S2x16x4096_S2x16x4096x1_0_1_2 w) (ix4 b h i j)
      = w (ix3 b h i) := by
  pointwise

theorem exp_at (s t : FVec Ideal S2x16x4096x4096 .f32) (b : Fin 2) (h : Fin 16) (i j : Fin 4096) :
    Host.exp (subf s t) (ix4 b h i j) = Ideal.exp (s (ix4 b h i j) - t (ix4 b h i j)) := by
  pointwise

theorem least (z : EReal) : max (Ideal.ofBits .f32 0xFF800000#32) z = z := by
  rw [Cert.AttnStep.neg_inf]
  exact bot_sup_eq _

theorem expo_at (s : FVec Ideal S2x16x4096x4096 .f32) (b : Fin 2) (h : Fin 16) (i j : Fin 4096) :
    expo s (ix4 b h i j) = Ideal.exp (s (ix4 b h i j) - Finset.univ.sup fun k : Fin 4096 => s (ix4 b h i k)) :=
  (exp_at s _ b h i j).trans (congrArg (fun z : EReal => Ideal.exp (s (ix4 b h i j) - z))
    ((spread_at _ b h i j).trans ((cap_at _ b h i).trans ((least _).trans (most_at s b h i)))))

theorem prob_at (s : FVec Ideal S2x16x4096x4096 .f32) (b : Fin 2) (h : Fin 16) (i j : Fin 4096) :
    prob s (ix4 b h i j) = Ideal.div (s (ix4 b h i j)) (∑ k, s (ix4 b h i k)) := by
  pointwise [prob]

theorem mix_at (V : FVec Ideal S8192x2048 .bf16) (s : FVec Ideal S2x16x4096x4096 .f32) (b : Fin 2) (h : Fin 16) (i : Fin 4096) (d : Fin 128) :
    mix V s (ix4 b h d i) = ∑ j : Fin 4096, V (ix2 ⟨b.val * 4096 + j.val, by omega⟩ ⟨h.val * 128 + d.val, by omega⟩) * s (ix4 b h i j) := by
  pointwise [mix]

theorem out_at (o : FVec Ideal S2x16x128x4096 .f32) (g : FVec Ideal S8192x2048 .f32) (R : Fin 8192) (C : Fin 2048) :
    out o g (ix2 R C) = o (ix4 ⟨R.val / 4096, by omega⟩ ⟨C.val / 128, by omega⟩ ⟨C.val % 128, by omega⟩ ⟨R.val % 4096, by omega⟩)
      * Ideal.div 1 (1 + Ideal.exp (-g (ix2 R C))) := by
  pointwise [out]

theorem sle (i j : Fin 4096) :
    IntOp.cmpi CmpIPredicate.sle (BitVec.ofNat 32 j.val) (BitVec.ofNat 32 i.val) = if j.val ≤ i.val then 1#1 else 0#1 := by
  have hi := i.isLt
  have hj := j.isLt
  have hb : (BitVec.ofNat 32 j.val).sle (BitVec.ofNat 32 i.val) = decide (j.val ≤ i.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold IntOp.cmpi
  simp only [hb]
  by_cases h : j.val ≤ i.val <;> simp [h]

theorem scores_at (Q K : FVec Ideal S8192x2048 .bf16) (G : FVec Ideal S32x1x4096 .f32) (b : Fin 2) (h : Fin 16) (i j : Fin 4096) :
    scores Q K G (ix4 b h i j) = if j.val ≤ i.val then
      (∑ d : Fin 128, Q (ix2 ⟨b.val * 4096 + i.val, by omega⟩ ⟨h.val * 128 + d.val, by omega⟩) * K (ix2 ⟨b.val * 4096 + j.val, by omega⟩ ⟨h.val * 128 + d.val, by omega⟩))
        * Ideal.ofBits .f32 1035273459#32 + (G (ix3 ⟨b.val * 16 + h.val, by omega⟩ 0 i) - G (ix3 ⟨b.val * 16 + h.val, by omega⟩ 0 j))
      else ⊥ := by
  pointwise [scores]
  have c : (id (constant (F := Ideal) S_ .f32 0xFF800000#32) : FVec Ideal S_ .f32) ix0 = (⊥ : EReal) := Cert.AttnStep.neg_inf
  rw [sle]
  by_cases hj : j.val ≤ i.val
  · rw [if_pos hj, if_pos hj]; rfl
  · rw [if_neg hj, if_neg hj]; exact c

/-! ## The kernel's value is the reference's -/

open Cert.AttnValue Cert.AttnStep

theorem scale_real : ∃ r : ℝ, Ideal.ofBits .f32 1035273459#32 = (r : EReal) := by
  unfold Ideal.ofBits Ideal.ieee
  simp
  exact ⟨_, rfl⟩

section
variable (Q K V : Vec Ideal S8192x2048 .bf16) (G : Vec Ideal S32x1x4096 .f32) (g : Vec Ideal S8192x2048 .f32)

/-- A key the query may see has a real score. -/
theorem xs_real (hQ : ∀ x, ∃ r : ℝ, Q x = (r : EReal)) (hK : ∀ x, ∃ r : ℝ, K x = (r : EReal)) (hG : ∀ x, ∃ r : ℝ, G x = (r : EReal))
    (R : Fin 8192) (h : Fin 16) (j : ℕ) (hj : j ≤ R.val % 4096) : ∃ r : ℝ, xs Q K G R h j = (r : EReal) := by
  choose q hq using hQ
  choose k hk using hK
  choose u hu using hG
  obtain ⟨σ, hσ⟩ := scale_real
  unfold xs
  rw [dif_pos hj, hσ]
  simp only [hq, hk, hu]
  refine ⟨(∑ d, q (ix2 R (col h d)) * k (ix2 (row R j (by omega)) (col h d))) * σ - u (ix3 (line R h) 0 ⟨j, by omega⟩), ?_⟩
  rw [EReal.coe_sub, EReal.coe_mul, coe_sum]
  simp only [EReal.coe_mul]

theorem value_eq (hQ : ∀ x, ∃ r : ℝ, Q x = (r : EReal)) (hK : ∀ x, ∃ r : ℝ, K x = (r : EReal)) (hG : ∀ x, ∃ r : ℝ, G x = (r : EReal))
    (R : Fin 8192) (C : Fin 2048) :
    gated (A (xs Q K G R ⟨C.val / 128, by omega⟩) (ve V R ⟨C.val / 128, by omega⟩ (dl ⟨C.val % 128, by omega⟩)) 4096)
      (A (xs Q K G R ⟨C.val / 128, by omega⟩) (fun _ => 1) 4096) (g (ix2 R C))
      = out (mix V (prob (expo (scores Q K G)))) g (ix2 R C) := by
  obtain ⟨cq, hcq⟩ := hG (ix3 (line R ⟨C.val / 128, by omega⟩) 0 ⟨R.val % 4096, by omega⟩)
  obtain ⟨r0, h0⟩ := xs_real Q K G hQ hK hG R ⟨C.val / 128, by omega⟩ (R.val % 4096) (le_refl _)
  have hX : ∀ j, xs Q K G R ⟨C.val / 128, by omega⟩ j = ⊥ ∨ ∃ r : ℝ, xs Q K G R ⟨C.val / 128, by omega⟩ j = r := fun j => by
    by_cases hj : j ≤ R.val % 4096
    · exact Or.inr (xs_real Q K G hQ hK hG R _ j hj)
    · left
      unfold xs
      rw [dif_neg hj]
  have S : ∀ j : Fin 4096, scores Q K G (ix4 ⟨R.val / 4096, by omega⟩ ⟨C.val / 128, by omega⟩ ⟨R.val % 4096, by omega⟩ j)
      = xs Q K G R ⟨C.val / 128, by omega⟩ j.val + cq := fun j => by
    rw [scores_at]
    unfold xs
    by_cases hj : j.val ≤ R.val % 4096
    · rw [if_pos hj, dif_pos hj, ← hcq, sub_eq_add_neg, sub_eq_add_neg, add_assoc, add_comm (-_) (_ : EReal)]
      congr 1
      · congr 1
        refine Finset.sum_congr rfl fun d _ => ?_
        congr 2
        · congr 1 <;> apply Fin.ext <;> simp only [col] <;> omega
        · congr 1 <;> apply Fin.ext <;> simp only [col, row] <;> omega
      · have l : (⟨R.val / 4096 * 16 + C.val / 128, by omega⟩ : Fin 32) = line R ⟨C.val / 128, by omega⟩ :=
          Fin.ext (by simp only [line]; omega)
        rw [l]
    · rw [if_neg hj, dif_neg hj, EReal.bot_add]
  have W : ∀ j : Fin 4096, V (ix2 ⟨R.val / 4096 * 4096 + j.val, by omega⟩ ⟨C.val / 128 * 128 + C.val % 128, by omega⟩)
      = ve V R ⟨C.val / 128, by omega⟩ (dl ⟨C.val % 128, by omega⟩) j.val := fun j => by
    unfold ve
    rw [dif_pos (by simp only [dl]; omega), dif_pos j.isLt]
    congr 2 <;> apply Fin.ext <;> simp only [col, row, dl] <;> omega
  rw [out_at, mix_at]
  simp only [prob_at, expo_at, S, W]
  unfold gated
  rw [softmax _ (ve V R ⟨C.val / 128, by omega⟩ (dl ⟨C.val % 128, by omega⟩)) 4096 hX (R.val % 4096) (by omega) r0 h0 cq, zero_sub]

end

end Cert.AttnRef

end
-- ==== Proof.AttnClaim.lean ====
/-
  The attention call's claims under the finite precondition: both programs' frames, and equal results.
-/
module

public import proofs.«01_k».proof.Proof.AttnRef

@[expose] public section

set_option maxRecDepth 16384

noncomputable section

namespace Cert.AttnClaim

open Idealize.ShloMosaic Idealize.ShloMosaic.TcCoe Idealize.SL.Sem Cert.AttnFinite

theorem pinned (m : (ℓ : Loc Cert.KernelIdeal.nD Cert.KernelIdeal.τ Cert.KernelIdeal.sig) → Buf (Elt Ideal) ℓ)
    (h : Cert.Pre_KernelIdeal_finite m) : Cert.KernelIdeal.Gen.Pinned 0 m := by
  constructor <;> intro c <;> funext x <;> obtain ⟨i, rfl⟩ : ∃ i : Fin 10, x = ix1 i := ⟨x 0, eq_ix1 x⟩
  · exact ((pairs_of_finite _ _ _ _ _ _ _ (h c)).1 i).1
  · exact ((pairs_of_finite _ _ _ _ _ _ _ (h c)).1 i).2

theorem frame_pi : Cert.quiescent_KernelIdeal_pre_finite := fun m ρ h => Cert.KernelIdeal.Gen.frame 0 m ρ (pinned m h)

theorem frame_ri : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite := by
  intro m g m' g' hp hag
  refine ⟨fun c => (fun i => Cert.AttnValue.res m c (i 0) (i 1) : Vec Ideal Cert.KernelIdeal.S8192x2048 .bf16),
    (θ_run Cert.KernelIdeal.defs _ _).mono (fun r h c => ⟨h.1 c, h.2 c⟩)
      (θ_run_and (Cert.AttnValue.kernel_at m g (pinned m hp)) (Cert.KernelIdeal.Gen.unchanged 0 m g (pinned m hp))), ?_⟩
  refine (θ_run Cert.ReferenceIdeal.defs _ _).mono (fun r h c => ⟨?_, (h c).2⟩) (Cert.ReferenceIdeal.Value.run (F := Ideal) m' g')
  obtain ⟨e0, e1, e2, e3, e4, e5, e6⟩ := hag c
  obtain ⟨-, hQ, hK, hG⟩ := pairs_of_finite _ _ _ _ _ _ _ (hp c)
  refine (h c).1.trans ((Cert.AttnRef.res_eq m' c).trans ?_)
  rw [e2, e3, e4, e5, e6]
  funext i
  obtain ⟨R, C, rfl⟩ : ∃ (R : Fin 8192) (C : Fin 2048), i = ix2 R C := ⟨i 0, i 1, eq_ix2 i⟩
  exact (Cert.AttnRef.value_eq (Cert.AttnValue.aQ m c) (Cert.AttnValue.aK m c) (Cert.AttnValue.aV m c) (Cert.AttnValue.aC m c)
    (Cert.AttnValue.aG m c) hQ hK hG R C).symm

end Cert.AttnClaim

end
-- ==== Proof.FoxStep.lean ====
/-
  The fused attention input projection, one grid point at a time: what the body leaves in each staging block it
  stores into, from the blocks it reads. Column steps 0–3 of a row block give queries, 4–7 keys, 8–11 values and
  12–15 the gate; the first step also normalises the rows into the carried scratch and writes the forget gate.
-/
module

public import proofs.«01_k».proof.Proof.AttnClaim
public import proofs.«01_k».proof.Proof.Gen.Kernel3Ideal.Frame
public import proofs.«01_k».proof.Proof.Gen.Kernel3Ideal.Skeleton
public import proofs.«01_k».proof.Proof.Gen.Kernel3.Frame
public import proofs.«01_k».proof.Proof.Gen.Kernel3.Skeleton
public import proofs.«01_k».proof.Proof.Gen.Reference3Ideal.Run
public import Idealize.ShloMosaic.Lib.Pipeline.TableIdle
public import Idealize.ShloMosaic.Lib.Pipeline.Value

@[expose] public section

set_option maxRecDepth 16384

noncomputable section

namespace Cert.FoxStep

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-! ## What the body stores -/

/-- The stored query block: per head of the four the normalised columns under the query gains. -/
abbrev qL (xs : Vec F S1024x2048 .bf16) (w : Vec F S1x2048x512 .f32) (qg : Vec F S1x128 .f32) : List (View.Piece (Elt F) S1024x512 .bf16) :=
    [⟨Rect.unit (s := S1024x512) ![0, 384] S1024x128.size inb_S1024x512_S1024x128_0_384, k0_pay16 xs w qg⟩,
     ⟨Rect.unit (s := S1024x512) ![0, 256] S1024x128.size inb_S1024x512_S1024x128_0_256, k0_pay15 (k0_pay7 (k0_pay14 xs w)) qg (k0_pay8 (k0_pay14 xs w)) (Scalar.ofBits .f32 0x358637BD#32)⟩,
     ⟨Rect.unit (s := S1024x512) ![0, 128] S1024x128.size inb_S1024x512_S1024x128_0_128, k0_pay6 (k0_pay14 xs w) qg⟩,
     ⟨Rect.unit (s := S1024x512) ![0, 0] S1024x128.size inb_S1024x512_S1024x128_0_0, k0_pay5 (k0_pay14 xs w) qg⟩]
/-- The stored key block, -/
abbrev kL (xs : Vec F S1024x2048 .bf16) (w : Vec F S1x2048x512 .f32) (kg : Vec F S1x128 .f32) : List (View.Piece (Elt F) S1024x512 .f32) :=
    [⟨Rect.unit (s := S1024x512) ![0, 384] S1024x128.size inb_S1024x512_S1024x128_0_384, k0_pay19 xs w kg⟩,
     ⟨Rect.unit (s := S1024x512) ![0, 256] S1024x128.size inb_S1024x512_S1024x128_0_256, k0_pay17 (k0_pay13 (k0_pay14 xs w)) kg⟩,
     ⟨Rect.unit (s := S1024x512) ![0, 128] S1024x128.size inb_S1024x512_S1024x128_0_128, k0_pay11 (k0_pay14 xs w) kg⟩,
     ⟨Rect.unit (s := S1024x512) ![0, 0] S1024x128.size inb_S1024x512_S1024x128_0_0, k0_pay9 (k0_pay14 xs w) kg⟩]
/-- and its rounding. -/
abbrev kbL (xs : Vec F S1024x2048 .bf16) (w : Vec F S1x2048x512 .f32) (kg : Vec F S1x128 .f32) : List (View.Piece (Elt F) S1024x512 .bf16) :=
    [⟨Rect.unit (s := S1024x512) ![0, 384] S1024x128.size inb_S1024x512_S1024x128_0_384, k0_pay20 xs w kg⟩,
     ⟨Rect.unit (s := S1024x512) ![0, 256] S1024x128.size inb_S1024x512_S1024x128_0_256, k0_pay18 (k0_pay13 (k0_pay14 xs w)) kg⟩,
     ⟨Rect.unit (s := S1024x512) ![0, 128] S1024x128.size inb_S1024x512_S1024x128_0_128, k0_pay12 (k0_pay14 xs w) kg⟩,
     ⟨Rect.unit (s := S1024x512) ![0, 0] S1024x128.size inb_S1024x512_S1024x128_0_0, k0_pay10 (k0_pay14 xs w) kg⟩]
def qv (xs : Vec F S1024x2048 .bf16) (w : Vec F S1x2048x512 .f32) (qg : Vec F S1x128 .f32) : Vec F S1024x512 .bf16 := View.canon (qL xs w qg)
def kv (xs : Vec F S1024x2048 .bf16) (w : Vec F S1x2048x512 .f32) (kg : Vec F S1x128 .f32) : Vec F S1024x512 .f32 := View.canon (kL xs w kg)
def kbv (xs : Vec F S1024x2048 .bf16) (w : Vec F S1x2048x512 .f32) (kg : Vec F S1x128 .f32) : Vec F S1024x512 .bf16 := View.canon (kbL xs w kg)

theorem qcov (xs : Vec F S1024x2048 .bf16) (w : Vec F S1x2048x512 .f32) (qg : Vec F S1x128 .f32) (y : S1024x512.Idx) : ∃ p ∈ qL xs w qg, y ∈ p.1.set :=
  View.cover_of_tiledL (qL xs w qg) S1024x128.size (by sl_kernel_rfl) y
theorem kcov (xs : Vec F S1024x2048 .bf16) (w : Vec F S1x2048x512 .f32) (kg : Vec F S1x128 .f32) (y : S1024x512.Idx) : ∃ p ∈ kL xs w kg, y ∈ p.1.set :=
  View.cover_of_tiledL (kL xs w kg) S1024x128.size (by sl_kernel_rfl) y
theorem kbcov (xs : Vec F S1024x2048 .bf16) (w : Vec F S1x2048x512 .f32) (kg : Vec F S1x128 .f32) (y : S1024x512.Idx) : ∃ p ∈ kbL xs w kg, y ∈ p.1.set :=
  View.cover_of_tiledL (kbL xs w kg) S1024x128.size (by sl_kernel_rfl) y

/-- A buffer stored whole by one store holds what was stored. -/
theorem read_whole {S : Shape} {e : EltTy} {κ : Kind} {sp : Space} (v : View sig κ sp S e) (f : v.ty.Contents (Elt F)) {o : Fin S.rank → Nat} (ho : o = fun _ => 0)
    (inb : ∀ a, o a + S.size a ≤ S.size a) (p : S.Idx → Elt F e) :
    v.read (Elt F) (v.writes (Elt F) f [⟨Rect.unit (s := S) o S.size inb, p⟩]) = p := by
  rw [View.read_writes_eq_canon _ _ _ (fun y => ⟨_, List.mem_singleton.2 rfl, by rw [Rect.mem_set_unit]; subst ho; exact fun a => ⟨Nat.zero_le _, by simpa using (y a).isLt⟩⟩)]
  exact View.canon_unit_zero ho _ _

section Runs

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .bf16) (harg13 : arg13.IsWhole) (arg14 : Memref sig .tc .vmem S1024x512 .f32) (harg14 : arg14.IsWhole) (arg15 : Memref sig .tc .vmem S1024x128 .f32) (harg15 : arg15.IsWhole) (arg16 : Memref sig .tc .vmem S1024x2048 .bf16) (harg16 : arg16.IsWhole)

/-! ## The body at a point of each kind -/

set_option maxHeartbeats 2000000 in
/-- The first column step of a row block. -/
theorem run_A (h1 : k0_cond1 i = 1#1) (h2 : k0_cond2 i = 1#1) (h3 : ¬k0_cond3 i = 1#1) (h4 : ¬k0_cond4 i = 1#1) (h5 : ¬k0_cond5 i = 1#1) (x : Vec F S1024x2048 .f32) (g : Vec F S1x2048 .f32) (w : Vec F S1x2048x512 .f32) (wt : Vec F S2048x128 .f32) (bt : Vec F S1x128 .f32) (qg : Vec F S1x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare bt ∗ owns (c : Thread nD τ) arg7 fullShare qg ∗ (∃ d, owns (c : Thread nD τ) arg9 fullShare d) ∗ (∃ d, owns (c : Thread nD τ) arg15 fullShare d) ∗ (∃ d, owns (c : Thread nD τ) arg16 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare bt ∗ owns (c : Thread nD τ) arg7 fullShare qg ∗ owns (c : Thread nD τ) arg9 fullShare (qv (k0_pay3 x g) w qg) ∗ owns (c : Thread nD τ) arg15 fullShare (k0_pay4 x g wt bt) ∗ owns (c : Thread nD τ) arg16 fullShare (k0_pay3 x g)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    simp only [View.readCov_unit_zero (S := S1024x2048) _ z2, View.readAt_eq_ld, harg2.read_unread, harg3.read_unread, harg4.read_unread, harg5.read_unread, harg6.read_unread, harg7.read_unread, View.ld_unit_zero (S := S1024x2048) z2, View.ld_unit_zero (S := S1x2048x512) z3, View.ld_unit_zero (S := S1x128) z2, View.ld_unit_zero (S := S1x2048) z2, View.ld_unit_zero (S := S2048x128) z2]
    exact View.read_writes_eq_canon _ _ _ (qcov _ _ _)
  isplitl [H15]
  · iexists _; isplitr; swap; · iexact H15
    ipureintro
    try sl_unfold_words
    simp only [View.readCov_unit_zero (S := S1024x2048) _ z2, View.readAt_eq_ld, harg2.read_unread, harg3.read_unread, harg4.read_unread, harg5.read_unread, harg6.read_unread, harg7.read_unread, View.ld_unit_zero (S := S1024x2048) z2, View.ld_unit_zero (S := S1x2048x512) z3, View.ld_unit_zero (S := S1x128) z2, View.ld_unit_zero (S := S1x2048) z2, View.ld_unit_zero (S := S2048x128) z2]
    exact read_whole _ _ z2 _ _
  iexists _; isplitr; swap; · iexact H16
  ipureintro
  try sl_unfold_words
  simp only [View.readCov_unit_zero (S := S1024x2048) _ z2, View.readAt_eq_ld, harg2.read_unread, harg3.read_unread, harg4.read_unread, harg5.read_unread, harg6.read_unread, harg7.read_unread, View.ld_unit_zero (S := S1024x2048) z2, View.ld_unit_zero (S := S1x2048x512) z3, View.ld_unit_zero (S := S1x128) z2, View.ld_unit_zero (S := S1x2048) z2, View.ld_unit_zero (S := S2048x128) z2]
  exact read_whole _ _ z2 _ _

set_option maxHeartbeats 2000000 in
/-- Another column step of the queries. -/
theorem run_B (h1 : ¬k0_cond1 i = 1#1) (h2 : k0_cond2 i = 1#1) (h3 : ¬k0_cond3 i = 1#1) (h4 : ¬k0_cond4 i = 1#1) (h5 : ¬k0_cond5 i = 1#1) (w : Vec F S1x2048x512 .f32) (qg : Vec F S1x128 .f32) (xs : Vec F S1024x2048 .bf16) (E : Set ℕ) (K : PUnit → sProp 𝕄) :
    iprop(owns (c : Thread nD τ) arg4 fullShare w ∗ owns (c : Thread nD τ) arg7 fullShare qg ∗ owns (c : Thread nD τ) arg16 fullShare xs ∗ (∃ d, owns (c : Thread nD τ) arg9 fullShare d)
        ∗ (iprop(owns (c : Thread nD τ) arg4 fullShare w ∗ owns (c : Thread nD τ) arg7 fullShare qg ∗ owns (c : Thread nD τ) arg16 fullShare xs ∗ owns (c : Thread nD τ) arg9 fullShare (qv xs w qg)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f7, %hf7, H7⟩, ⟨%f16, %hf16, H16⟩, ⟨%d9, %f9, -, H9⟩, Hk⟩
  obtain rfl := harg4.eq_unread hf4; obtain rfl := harg7.eq_unread hf7; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H7]
  · iexists _; isplitr; · ipureintro; exact harg7.read_unread _
    iexact H7
  isplitl [H16]
  · iexists _; isplitr; · ipureintro; exact harg16.read_unread _
    iexact H16
  iexists _; isplitr; swap; · iexact H9
  ipureintro
  try sl_unfold_words
  simp only [View.readCov_unit_zero (S := S1024x2048) _ z2, View.readAt_eq_ld, harg4.read_unread, harg7.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
  exact View.read_writes_eq_canon _ _ _ (qcov _ _ _)

set_option maxHeartbeats 2000000 in
/-- A column step of the keys. -/
theorem run_C (h1 : ¬k0_cond1 i = 1#1) (h2 : ¬k0_cond2 i = 1#1) (h3 : k0_cond3 i = 1#1) (h4 : ¬k0_cond4 i = 1#1) (h5 : ¬k0_cond5 i = 1#1) (w : Vec F S1x2048x512 .f32) (kg : Vec F S1x128 .f32) (xs : Vec F S1024x2048 .bf16) (E : Set ℕ) (K : PUnit → sProp 𝕄) :
    iprop(owns (c : Thread nD τ) arg4 fullShare w ∗ owns (c : Thread nD τ) arg8 fullShare kg ∗ owns (c : Thread nD τ) arg16 fullShare xs ∗ (∃ d, owns (c : Thread nD τ) arg10 fullShare d) ∗ (∃ d, owns (c : Thread nD τ) arg11 fullShare d)
        ∗ (iprop(owns (c : Thread nD τ) arg4 fullShare w ∗ owns (c : Thread nD τ) arg8 fullShare kg ∗ owns (c : Thread nD τ) arg16 fullShare xs ∗ owns (c : Thread nD τ) arg10 fullShare (kv xs w kg) ∗ owns (c : Thread nD τ) arg11 fullShare (kbv xs w kg)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f8, %hf8, H8⟩, ⟨%f16, %hf16, H16⟩, ⟨%d10, %f10, -, H10⟩, ⟨%d11, %f11, -, H11⟩, Hk⟩
  obtain rfl := harg4.eq_unread hf4; obtain rfl := harg8.eq_unread hf8; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H8]
  · iexists _; isplitr; · ipureintro; exact harg8.read_unread _
    iexact H8
  isplitl [H16]
  · iexists _; isplitr; · ipureintro; exact harg16.read_unread _
    iexact H16
  isplitl [H10]
  · iexists _; isplitr; swap; · iexact H10
    ipureintro
    try sl_unfold_words
    simp only [View.readCov_unit_zero (S := S1024x2048) _ z2, View.readAt_eq_ld, harg4.read_unread, harg8.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
    exact View.read_writes_eq_canon _ _ _ (kcov _ _ _)
  iexists _; isplitr; swap; · iexact H11
  ipureintro
  try sl_unfold_words
  simp only [View.readCov_unit_zero (S := S1024x2048) _ z2, View.readAt_eq_ld, harg4.read_unread, harg8.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
  exact View.read_writes_eq_canon _ _ _ (kbcov _ _ _)

set_option maxHeartbeats 2000000 in
/-- A column step of the values. -/
theorem run_D (h1 : ¬k0_cond1 i = 1#1) (h2 : ¬k0_cond2 i = 1#1) (h3 : ¬k0_cond3 i = 1#1) (h4 : k0_cond4 i = 1#1) (h5 : ¬k0_cond5 i = 1#1) (w : Vec F S1x2048x512 .f32) (xs : Vec F S1024x2048 .bf16) (E : Set ℕ) (K : PUnit → sProp 𝕄) :
    iprop(owns (c : Thread nD τ) arg4 fullShare w ∗ owns (c : Thread nD τ) arg16 fullShare xs ∗ (∃ d, owns (c : Thread nD τ) arg12 fullShare d) ∗ (∃ d, owns (c : Thread nD τ) arg13 fullShare d)
        ∗ (iprop(owns (c : Thread nD τ) arg4 fullShare w ∗ owns (c : Thread nD τ) arg16 fullShare xs ∗ owns (c : Thread nD τ) arg12 fullShare (k0_pay14 xs w) ∗ owns (c : Thread nD τ) arg13 fullShare (k0_pay1 (k0_pay14 xs w))) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f16, %hf16, H16⟩, ⟨%d12, %f12, -, H12⟩, ⟨%d13, %f13, -, H13⟩, Hk⟩
  obtain rfl := harg4.eq_unread hf4; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H16]
  · iexists _; isplitr; · ipureintro; exact harg16.read_unread _
    iexact H16
  isplitl [H12]
  · iexists _; isplitr; swap; · iexact H12
    ipureintro
    try sl_unfold_words
    simp only [View.readCov_unit_zero (S := S1024x2048) _ z2, View.readAt_eq_ld, harg4.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
    exact read_whole _ _ z2 _ _
  iexists _; isplitr; swap; · iexact H13
  ipureintro
  try sl_unfold_words
  simp only [View.readCov_unit_zero (S := S1024x2048) _ z2, View.readAt_eq_ld, harg4.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
  exact read_whole _ _ z2 _ _

set_option maxHeartbeats 2000000 in
/-- A column step of the gate. -/
theorem run_E (h1 : ¬k0_cond1 i = 1#1) (h2 : ¬k0_cond2 i = 1#1) (h3 : ¬k0_cond3 i = 1#1) (h4 : ¬k0_cond4 i = 1#1) (h5 : k0_cond5 i = 1#1) (w : Vec F S1x2048x512 .f32) (xs : Vec F S1024x2048 .bf16) (E : Set ℕ) (K : PUnit → sProp 𝕄) :
    iprop(owns (c : Thread nD τ) arg4 fullShare w ∗ owns (c : Thread nD τ) arg16 fullShare xs ∗ (∃ d, owns (c : Thread nD τ) arg14 fullShare d)
        ∗ (iprop(owns (c : Thread nD τ) arg4 fullShare w ∗ owns (c : Thread nD τ) arg16 fullShare xs ∗ owns (c : Thread nD τ) arg14 fullShare (k0_pay14 xs w)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f16, %hf16, H16⟩, ⟨%d14, %f14, -, H14⟩, Hk⟩
  obtain rfl := harg4.eq_unread hf4; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H16]
  · iexists _; isplitr; · ipureintro; exact harg16.read_unread _
    iexact H16
  iexists _; isplitr; swap; · iexact H14
  ipureintro
  try sl_unfold_words
  simp only [View.readCov_unit_zero (S := S1024x2048) _ z2, View.readAt_eq_ld, harg4.read_unread, harg16.read_unread, View.ld_unit_zero (S := S1024x2048) z2, View.ld_unit_zero (S := S1x2048x512) z3, View.ld_unit_zero (S := S1x128) z2, View.ld_unit_zero (S := S1x2048) z2, View.ld_unit_zero (S := S2048x128) z2]
  exact read_whole _ _ z2 _ _

end Runs

end Cert.FoxStep

end
-- ==== Proof.FoxData.lean ====
/-
  The fused attention input projection: the pipeline's proof data and its body obligation. An output block is
  stored at the points of its own four column steps only and stays in its staging buffer until the row block
  ends, so what a buffer holds at any point is what its last storing point left there.
-/
module

public import proofs.«01_k».proof.Proof.FoxStep
public import Idealize.ShloMosaic.Lib.Claim

@[expose] public section

set_option maxRecDepth 16384

noncomputable section

namespace Cert.FoxData

open Cert.Kernel3Ideal Cert.Kernel3Ideal.Gen Cert.FoxStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The point of `t`'s row block whose column step is nearest to `t`'s among `lo … hi`. -/
def pt (lo hi : Fin 16) (t : Fin cfg0.N) : Fin cfg0.N :=
  ⟨16 * (t.val / 16) + max lo.val (min hi.val (t.val % 16)), by
    have h : cfg0.N = 128 := N_0
    have := t.isLt; have := lo.isLt; have := hi.isLt; omega⟩

theorem pt_live (lo hi : Fin 16) (t : Fin cfg0.N) (h : lo.val ≤ t.val % 16) (h' : t.val % 16 ≤ hi.val) : pt lo hi t = t :=
  Fin.ext (by simp only [pt]; omega)

theorem pt_pred (lo hi : Fin 16) (t : Fin cfg0.N) (h : hi.val < t.val % 16) (hp : t.val - 1 < cfg0.N) :
    pt lo hi t = pt lo hi ⟨t.val - 1, hp⟩ := Fin.ext (by simp only [pt]; omega)

theorem cond_1 : ∀ t : Fin grid0.N, k0_cond1 (grid0.coords t) = 1#1 ↔ t.val % 16 = 0 := by decide +kernel
theorem cond_2 : ∀ t : Fin grid0.N, k0_cond2 (grid0.coords t) = 1#1 ↔ t.val % 16 < 4 := by decide +kernel
theorem cond_3 : ∀ t : Fin grid0.N, k0_cond3 (grid0.coords t) = 1#1 ↔ 4 ≤ t.val % 16 ∧ t.val % 16 < 8 := by decide +kernel
theorem cond_4 : ∀ t : Fin grid0.N, k0_cond4 (grid0.coords t) = 1#1 ↔ 8 ≤ t.val % 16 ∧ t.val % 16 < 12 := by decide +kernel
theorem cond_5 : ∀ t : Fin grid0.N, k0_cond5 (grid0.coords t) = 1#1 ↔ 12 ≤ t.val % 16 := by decide +kernel

/-- Output window 7: where the body stores nothing into it, where its buffer holds nothing yet, and that the only such point written back is a row block's last. -/
theorem idle_7 : ∀ t : Fin cfg0.N, cfg0.idle 7 (cfg0.grid.coords t) = !decide (0 ≤ t.val % 16 ∧ t.val % 16 ≤ 3) :=
  (by decide +kernel : ∀ t : Fin grid0.N, idle0 7 (grid0.coords t) = !decide (0 ≤ t.val % 16 ∧ t.val % 16 ≤ 3))
theorem fstep_7 : ∀ t : Fin cfg0.N, decide ((t.val + 1) % 16 ≤ 3) = ((cfg0.win 7).flush t || (cfg0.idle 7 (cfg0.grid.coords t) && decide (t.val % 16 ≤ 3))) := by decide +kernel
theorem fresh_7 (n : ℕ) (h : n ≤ cfg0.N) : cfg0.fresh 7 n = decide (n % 16 ≤ 3) :=
  cfg0.fresh_tab 7 (fun n => decide (n % 16 ≤ 3)) (by decide) fstep_7 n h
theorem fl_7 : ∀ t : Fin cfg0.N, (cfg0.win 7).flush t = true → t.val % 16 = 15 ∨ (0 ≤ t.val % 16 ∧ t.val % 16 ≤ 3) := by decide +kernel

/-- Output window 8: where the body stores nothing into it, where its buffer holds nothing yet, and that the only such point written back is a row block's last. -/
theorem idle_8 : ∀ t : Fin cfg0.N, cfg0.idle 8 (cfg0.grid.coords t) = !decide (4 ≤ t.val % 16 ∧ t.val % 16 ≤ 7) :=
  (by decide +kernel : ∀ t : Fin grid0.N, idle0 8 (grid0.coords t) = !decide (4 ≤ t.val % 16 ∧ t.val % 16 ≤ 7))
theorem fstep_8 : ∀ t : Fin cfg0.N, decide ((t.val + 1) % 16 ≤ 7) = ((cfg0.win 8).flush t || (cfg0.idle 8 (cfg0.grid.coords t) && decide (t.val % 16 ≤ 7))) := by decide +kernel
theorem fresh_8 (n : ℕ) (h : n ≤ cfg0.N) : cfg0.fresh 8 n = decide (n % 16 ≤ 7) :=
  cfg0.fresh_tab 8 (fun n => decide (n % 16 ≤ 7)) (by decide) fstep_8 n h
theorem fl_8 : ∀ t : Fin cfg0.N, (cfg0.win 8).flush t = true → t.val % 16 = 15 ∨ (4 ≤ t.val % 16 ∧ t.val % 16 ≤ 7) := by decide +kernel

/-- Output window 9: where the body stores nothing into it, where its buffer holds nothing yet, and that the only such point written back is a row block's last. -/
theorem idle_9 : ∀ t : Fin cfg0.N, cfg0.idle 9 (cfg0.grid.coords t) = !decide (4 ≤ t.val % 16 ∧ t.val % 16 ≤ 7) :=
  (by decide +kernel : ∀ t : Fin grid0.N, idle0 9 (grid0.coords t) = !decide (4 ≤ t.val % 16 ∧ t.val % 16 ≤ 7))
theorem fstep_9 : ∀ t : Fin cfg0.N, decide ((t.val + 1) % 16 ≤ 7) = ((cfg0.win 9).flush t || (cfg0.idle 9 (cfg0.grid.coords t) && decide (t.val % 16 ≤ 7))) := by decide +kernel
theorem fresh_9 (n : ℕ) (h : n ≤ cfg0.N) : cfg0.fresh 9 n = decide (n % 16 ≤ 7) :=
  cfg0.fresh_tab 9 (fun n => decide (n % 16 ≤ 7)) (by decide) fstep_9 n h
theorem fl_9 : ∀ t : Fin cfg0.N, (cfg0.win 9).flush t = true → t.val % 16 = 15 ∨ (4 ≤ t.val % 16 ∧ t.val % 16 ≤ 7) := by decide +kernel

/-- Output window 10: where the body stores nothing into it, where its buffer holds nothing yet, and that the only such point written back is a row block's last. -/
theorem idle_10 : ∀ t : Fin cfg0.N, cfg0.idle 10 (cfg0.grid.coords t) = !decide (8 ≤ t.val % 16 ∧ t.val % 16 ≤ 11) :=
  (by decide +kernel : ∀ t : Fin grid0.N, idle0 10 (grid0.coords t) = !decide (8 ≤ t.val % 16 ∧ t.val % 16 ≤ 11))
theorem fstep_10 : ∀ t : Fin cfg0.N, decide ((t.val + 1) % 16 ≤ 11) = ((cfg0.win 10).flush t || (cfg0.idle 10 (cfg0.grid.coords t) && decide (t.val % 16 ≤ 11))) := by decide +kernel
theorem fresh_10 (n : ℕ) (h : n ≤ cfg0.N) : cfg0.fresh 10 n = decide (n % 16 ≤ 11) :=
  cfg0.fresh_tab 10 (fun n => decide (n % 16 ≤ 11)) (by decide) fstep_10 n h
theorem fl_10 : ∀ t : Fin cfg0.N, (cfg0.win 10).flush t = true → t.val % 16 = 15 ∨ (8 ≤ t.val % 16 ∧ t.val % 16 ≤ 11) := by decide +kernel

/-- Output window 11: where the body stores nothing into it, where its buffer holds nothing yet, and that the only such point written back is a row block's last. -/
theorem idle_11 : ∀ t : Fin cfg0.N, cfg0.idle 11 (cfg0.grid.coords t) = !decide (8 ≤ t.val % 16 ∧ t.val % 16 ≤ 11) :=
  (by decide +kernel : ∀ t : Fin grid0.N, idle0 11 (grid0.coords t) = !decide (8 ≤ t.val % 16 ∧ t.val % 16 ≤ 11))
theorem fstep_11 : ∀ t : Fin cfg0.N, decide ((t.val + 1) % 16 ≤ 11) = ((cfg0.win 11).flush t || (cfg0.idle 11 (cfg0.grid.coords t) && decide (t.val % 16 ≤ 11))) := by decide +kernel
theorem fresh_11 (n : ℕ) (h : n ≤ cfg0.N) : cfg0.fresh 11 n = decide (n % 16 ≤ 11) :=
  cfg0.fresh_tab 11 (fun n => decide (n % 16 ≤ 11)) (by decide) fstep_11 n h
theorem fl_11 : ∀ t : Fin cfg0.N, (cfg0.win 11).flush t = true → t.val % 16 = 15 ∨ (8 ≤ t.val % 16 ∧ t.val % 16 ≤ 11) := by decide +kernel

/-- Output window 12: where the body stores nothing into it, where its buffer holds nothing yet, and that the only such point written back is a row block's last. -/
theorem idle_12 : ∀ t : Fin cfg0.N, cfg0.idle 12 (cfg0.grid.coords t) = !decide (12 ≤ t.val % 16 ∧ t.val % 16 ≤ 15) :=
  (by decide +kernel : ∀ t : Fin grid0.N, idle0 12 (grid0.coords t) = !decide (12 ≤ t.val % 16 ∧ t.val % 16 ≤ 15))
theorem fstep_12 : ∀ t : Fin cfg0.N, decide ((t.val + 1) % 16 ≤ 15) = ((cfg0.win 12).flush t || (cfg0.idle 12 (cfg0.grid.coords t) && decide (t.val % 16 ≤ 15))) := by decide +kernel
theorem fresh_12 (n : ℕ) (h : n ≤ cfg0.N) : cfg0.fresh 12 n = decide (n % 16 ≤ 15) :=
  cfg0.fresh_tab 12 (fun n => decide (n % 16 ≤ 15)) (by decide) fstep_12 n h
theorem fl_12 : ∀ t : Fin cfg0.N, (cfg0.win 12).flush t = true → t.val % 16 = 15 ∨ (12 ≤ t.val % 16 ∧ t.val % 16 ≤ 15) := by decide +kernel

/-- Output window 13: where the body stores nothing into it, where its buffer holds nothing yet, and that the only such point written back is a row block's last. -/
theorem idle_13 : ∀ t : Fin cfg0.N, cfg0.idle 13 (cfg0.grid.coords t) = !decide (0 ≤ t.val % 16 ∧ t.val % 16 ≤ 0) :=
  (by decide +kernel : ∀ t : Fin grid0.N, idle0 13 (grid0.coords t) = !decide (0 ≤ t.val % 16 ∧ t.val % 16 ≤ 0))
theorem fstep_13 : ∀ t : Fin cfg0.N, decide ((t.val + 1) % 16 ≤ 0) = ((cfg0.win 13).flush t || (cfg0.idle 13 (cfg0.grid.coords t) && decide (t.val % 16 ≤ 0))) := by decide +kernel
theorem fresh_13 (n : ℕ) (h : n ≤ cfg0.N) : cfg0.fresh 13 n = decide (n % 16 ≤ 0) :=
  cfg0.fresh_tab 13 (fun n => decide (n % 16 ≤ 0)) (by decide) fstep_13 n h
theorem fl_13 : ∀ t : Fin cfg0.N, (cfg0.win 13).flush t = true → t.val % 16 = 15 ∨ (0 ≤ t.val % 16 ∧ t.val % 16 ≤ 0) := by decide +kernel

/-! ## What the buffers hold -/

/-- The normalised rows in the scratch, from a row block's first point on. -/
def xnAt (c : Dev nD) (t : Fin cfg0.N) : Vec F S1024x2048 .bf16 :=
  k0_pay3 (iblk m c 0 (pt 0 0 t)) (iblk m c 1 (pt 0 0 t))
def oq (c : Dev nD) (t : Fin cfg0.N) : Vec F S1024x512 .bf16 := qv (xnAt m c t) (X0_2 m c t) (iblk m c 5 t)
def ok (c : Dev nD) (t : Fin cfg0.N) : Vec F S1024x512 .f32 := kv (xnAt m c t) (X0_2 m c t) (iblk m c 6 t)
def okb (c : Dev nD) (t : Fin cfg0.N) : Vec F S1024x512 .bf16 := kbv (xnAt m c t) (X0_2 m c t) (iblk m c 6 t)
def ov (c : Dev nD) (t : Fin cfg0.N) : Vec F S1024x512 .f32 := k0_pay14 (xnAt m c t) (X0_2 m c t)
def ovb (c : Dev nD) (t : Fin cfg0.N) : Vec F S1024x512 .bf16 := k0_pay1 (k0_pay14 (xnAt m c t) (X0_2 m c t))
def og (c : Dev nD) (t : Fin cfg0.N) : Vec F S1024x512 .f32 := k0_pay14 (xnAt m c t) (X0_2 m c t)
def ol (c : Dev nD) (t : Fin cfg0.N) : Vec F S1024x128 .f32 := k0_pay4 (iblk m c 0 t) (iblk m c 1 t) (iblk m c 3 t) (iblk m c 4 t)

theorem xnAt_start (c : Dev nD) (t : Fin cfg0.N) (h : t.val % 16 = 0) : xnAt m c t = k0_pay3 (iblk m c 0 t) (iblk m c 1 t) := by
  unfold xnAt; rw [pt_live 0 0 t (Nat.zero_le _) (le_of_eq h)]

theorem xnAt_pred (c : Dev nD) (t : Fin cfg0.N) (h : t.val % 16 ≠ 0) (hp : t.val - 1 < cfg0.N) : xnAt m c ⟨t.val - 1, hp⟩ = xnAt m c t := by
  unfold xnAt; rw [pt_pred 0 0 t (Nat.pos_of_ne_zero h) hp]

/-! ## The invariant -/

/-- The scratch, whole. -/
abbrev scr : Memref sig .tc .vmem S1024x2048 .bf16 := Memref.whole cc0_scratch0

theorem PhiA_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before the first point the scratch holds anything; afterwards the normalised rows of the point before. -/
def Inv (c : Dev nD) : (n : ℕ) → n ≤ cfg0.N → sProp 𝕄
  | 0, _ => Pipeline.ΦA spec0 c
  | n + 1, hn => iprop(iprop(owns (c : Thread nD τ) scr fullShare (xnAt m c ⟨n, hn⟩)) ∗ (∃ r, prngReg c r))

theorem Inv_succ (c : Dev nD) (n : ℕ) (hn : n < cfg0.N) :
    Inv m c (n + 1) hn = iprop(iprop(owns (c : Thread nD τ) scr fullShare (xnAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scr fullShare (xnAt m c ⟨n - 1, by omega⟩)) ∗ (∃ r, prngReg c r)) := by
  cases n with
  | zero => exact absurd rfl hz
  | succ n => rfl

theorem Inv_any (c : Dev nD) (n : ℕ) (h : n ≤ cfg0.N) : Inv m c n h ⊢ (iprop(iprop((∃ d, owns (c : Thread nD τ) scr fullShare d)) ∗ (∃ r, prngReg c r)) : sProp 𝕄) := by
  cases n with
  | zero => rw [← PhiA_eq]; exact Idealize.SL.BI.Entails.refl _
  | succ n =>
    rw [Inv_succ]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => oq m c (pt 0 3 t)
    | ⟨8, _⟩ => ok m c (pt 4 7 t)
    | ⟨9, _⟩ => okb m c (pt 4 7 t)
    | ⟨10, _⟩ => ov m c (pt 8 11 t)
    | ⟨11, _⟩ => ovb m c (pt 8 11 t)
    | ⟨12, _⟩ => og m c (pt 12 15 t)
    | ⟨13, _⟩ => ol m c (pt 0 0 t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- A window the body stores into is left at what the body stored, -/
theorem left_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact; rw [hi]

/-- and one it does not touch at what it held, which is its block where it is written back. -/
theorem left_idle (c : Dev nD) (w : Fin cfg0.W) (t : Fin cfg0.N) (d) (hi : cfg0.idle w (cfg0.grid.coords t) = true)
    (hk : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  unfold Dat.leavesExact; rw [hi]
  cases hf : (cfg0.win w).flush t
  · iintro H; iexists d; iexact H
  · rw [hk hf]

theorem after_7 (c : Dev nD) (t : Fin cfg0.N) : (dats m 0 c).after 7 t = oq m c (pt 0 3 t) := by dsimp only [dats]
theorem before_7 (c : Dev nD) (t : Fin cfg0.N) (d) (h : 3 < t.val % 16) : (dats m 0 c).before 7 t d = (dats m 0 c).after 7 t := by
  have hc : ∀ (t : Fin cfg0.N), 3 < t.val % 16 → ∀ hp : t.val - 1 < cfg0.N, (dats m 0 c).after 7 t = (dats m 0 c).after 7 ⟨t.val - 1, hp⟩ := fun t h hp => by
    rw [after_7, after_7]; exact congrArg (oq m c) (pt_pred 0 3 t h hp)
  rw [Dat.before_out_traj (dats m 0 c) 7 rfl (fun _ _ => rfl)
    (fun t ht hi hf => hc t (by rw [fresh_7 _ (le_of_lt t.isLt)] at hf; have := of_decide_eq_false hf; omega) _) t.val t rfl d,
    fresh_7 _ (le_of_lt t.isLt), if_neg (by rw [decide_eq_true_iff]; omega)]
  exact (hc t h _).symm
theorem leave_7 (c : Dev nD) (t : Fin cfg0.N) (h : (0 ≤ t.val % 16 ∧ t.val % 16 ≤ 3)) :
    owns (c : Thread nD τ) (st0_7 t) fullShare (oq m c t) ⊢ (dats m 0 c).leavesExact 7 t := by
  have e : (dats m 0 c).after 7 t = oq m c t := by rw [after_7, pt_live 0 3 t h.1 h.2]
  have := left_live m c 7 t (by rw [idle_7, decide_eq_true h]; rfl)
  rw [e] at this; exact this
theorem pass_7 (c : Dev nD) (t : Fin cfg0.N) (d) (h : ¬(0 ≤ t.val % 16 ∧ t.val % 16 ≤ 3)) :
    owns (c : Thread nD τ) (st0_7 t) fullShare ((dats m 0 c).before 7 t d) ⊢ (dats m 0 c).leavesExact 7 t :=
  left_idle m c 7 t d (by rw [idle_7, decide_eq_false h]; rfl) fun hf => before_7 m c t d (by
    rcases fl_7 t hf with h' | h'
    · omega
    · exact absurd h' h)

theorem after_8 (c : Dev nD) (t : Fin cfg0.N) : (dats m 0 c).after 8 t = ok m c (pt 4 7 t) := by dsimp only [dats]
theorem before_8 (c : Dev nD) (t : Fin cfg0.N) (d) (h : 7 < t.val % 16) : (dats m 0 c).before 8 t d = (dats m 0 c).after 8 t := by
  have hc : ∀ (t : Fin cfg0.N), 7 < t.val % 16 → ∀ hp : t.val - 1 < cfg0.N, (dats m 0 c).after 8 t = (dats m 0 c).after 8 ⟨t.val - 1, hp⟩ := fun t h hp => by
    rw [after_8, after_8]; exact congrArg (ok m c) (pt_pred 4 7 t h hp)
  rw [Dat.before_out_traj (dats m 0 c) 8 rfl (fun _ _ => rfl)
    (fun t ht hi hf => hc t (by rw [fresh_8 _ (le_of_lt t.isLt)] at hf; have := of_decide_eq_false hf; omega) _) t.val t rfl d,
    fresh_8 _ (le_of_lt t.isLt), if_neg (by rw [decide_eq_true_iff]; omega)]
  exact (hc t h _).symm
theorem leave_8 (c : Dev nD) (t : Fin cfg0.N) (h : (4 ≤ t.val % 16 ∧ t.val % 16 ≤ 7)) :
    owns (c : Thread nD τ) (st0_8 t) fullShare (ok m c t) ⊢ (dats m 0 c).leavesExact 8 t := by
  have e : (dats m 0 c).after 8 t = ok m c t := by rw [after_8, pt_live 4 7 t h.1 h.2]
  have := left_live m c 8 t (by rw [idle_8, decide_eq_true h]; rfl)
  rw [e] at this; exact this
theorem pass_8 (c : Dev nD) (t : Fin cfg0.N) (d) (h : ¬(4 ≤ t.val % 16 ∧ t.val % 16 ≤ 7)) :
    owns (c : Thread nD τ) (st0_8 t) fullShare ((dats m 0 c).before 8 t d) ⊢ (dats m 0 c).leavesExact 8 t :=
  left_idle m c 8 t d (by rw [idle_8, decide_eq_false h]; rfl) fun hf => before_8 m c t d (by
    rcases fl_8 t hf with h' | h'
    · omega
    · exact absurd h' h)

theorem after_9 (c : Dev nD) (t : Fin cfg0.N) : (dats m 0 c).after 9 t = okb m c (pt 4 7 t) := by dsimp only [dats]
theorem before_9 (c : Dev nD) (t : Fin cfg0.N) (d) (h : 7 < t.val % 16) : (dats m 0 c).before 9 t d = (dats m 0 c).after 9 t := by
  have hc : ∀ (t : Fin cfg0.N), 7 < t.val % 16 → ∀ hp : t.val - 1 < cfg0.N, (dats m 0 c).after 9 t = (dats m 0 c).after 9 ⟨t.val - 1, hp⟩ := fun t h hp => by
    rw [after_9, after_9]; exact congrArg (okb m c) (pt_pred 4 7 t h hp)
  rw [Dat.before_out_traj (dats m 0 c) 9 rfl (fun _ _ => rfl)
    (fun t ht hi hf => hc t (by rw [fresh_9 _ (le_of_lt t.isLt)] at hf; have := of_decide_eq_false hf; omega) _) t.val t rfl d,
    fresh_9 _ (le_of_lt t.isLt), if_neg (by rw [decide_eq_true_iff]; omega)]
  exact (hc t h _).symm
theorem leave_9 (c : Dev nD) (t : Fin cfg0.N) (h : (4 ≤ t.val % 16 ∧ t.val % 16 ≤ 7)) :
    owns (c : Thread nD τ) (st0_9 t) fullShare (okb m c t) ⊢ (dats m 0 c).leavesExact 9 t := by
  have e : (dats m 0 c).after 9 t = okb m c t := by rw [after_9, pt_live 4 7 t h.1 h.2]
  have := left_live m c 9 t (by rw [idle_9, decide_eq_true h]; rfl)
  rw [e] at this; exact this
theorem pass_9 (c : Dev nD) (t : Fin cfg0.N) (d) (h : ¬(4 ≤ t.val % 16 ∧ t.val % 16 ≤ 7)) :
    owns (c : Thread nD τ) (st0_9 t) fullShare ((dats m 0 c).before 9 t d) ⊢ (dats m 0 c).leavesExact 9 t :=
  left_idle m c 9 t d (by rw [idle_9, decide_eq_false h]; rfl) fun hf => before_9 m c t d (by
    rcases fl_9 t hf with h' | h'
    · omega
    · exact absurd h' h)

theorem after_10 (c : Dev nD) (t : Fin cfg0.N) : (dats m 0 c).after 10 t = ov m c (pt 8 11 t) := by dsimp only [dats]
theorem before_10 (c : Dev nD) (t : Fin cfg0.N) (d) (h : 11 < t.val % 16) : (dats m 0 c).before 10 t d = (dats m 0 c).after 10 t := by
  have hc : ∀ (t : Fin cfg0.N), 11 < t.val % 16 → ∀ hp : t.val - 1 < cfg0.N, (dats m 0 c).after 10 t = (dats m 0 c).after 10 ⟨t.val - 1, hp⟩ := fun t h hp => by
    rw [after_10, after_10]; exact congrArg (ov m c) (pt_pred 8 11 t h hp)
  rw [Dat.before_out_traj (dats m 0 c) 10 rfl (fun _ _ => rfl)
    (fun t ht hi hf => hc t (by rw [fresh_10 _ (le_of_lt t.isLt)] at hf; have := of_decide_eq_false hf; omega) _) t.val t rfl d,
    fresh_10 _ (le_of_lt t.isLt), if_neg (by rw [decide_eq_true_iff]; omega)]
  exact (hc t h _).symm
theorem leave_10 (c : Dev nD) (t : Fin cfg0.N) (h : (8 ≤ t.val % 16 ∧ t.val % 16 ≤ 11)) :
    owns (c : Thread nD τ) (st0_10 t) fullShare (ov m c t) ⊢ (dats m 0 c).leavesExact 10 t := by
  have e : (dats m 0 c).after 10 t = ov m c t := by rw [after_10, pt_live 8 11 t h.1 h.2]
  have := left_live m c 10 t (by rw [idle_10, decide_eq_true h]; rfl)
  rw [e] at this; exact this
theorem pass_10 (c : Dev nD) (t : Fin cfg0.N) (d) (h : ¬(8 ≤ t.val % 16 ∧ t.val % 16 ≤ 11)) :
    owns (c : Thread nD τ) (st0_10 t) fullShare ((dats m 0 c).before 10 t d) ⊢ (dats m 0 c).leavesExact 10 t :=
  left_idle m c 10 t d (by rw [idle_10, decide_eq_false h]; rfl) fun hf => before_10 m c t d (by
    rcases fl_10 t hf with h' | h'
    · omega
    · exact absurd h' h)

theorem after_11 (c : Dev nD) (t : Fin cfg0.N) : (dats m 0 c).after 11 t = ovb m c (pt 8 11 t) := by dsimp only [dats]
theorem before_11 (c : Dev nD) (t : Fin cfg0.N) (d) (h : 11 < t.val % 16) : (dats m 0 c).before 11 t d = (dats m 0 c).after 11 t := by
  have hc : ∀ (t : Fin cfg0.N), 11 < t.val % 16 → ∀ hp : t.val - 1 < cfg0.N, (dats m 0 c).after 11 t = (dats m 0 c).after 11 ⟨t.val - 1, hp⟩ := fun t h hp => by
    rw [after_11, after_11]; exact congrArg (ovb m c) (pt_pred 8 11 t h hp)
  rw [Dat.before_out_traj (dats m 0 c) 11 rfl (fun _ _ => rfl)
    (fun t ht hi hf => hc t (by rw [fresh_11 _ (le_of_lt t.isLt)] at hf; have := of_decide_eq_false hf; omega) _) t.val t rfl d,
    fresh_11 _ (le_of_lt t.isLt), if_neg (by rw [decide_eq_true_iff]; omega)]
  exact (hc t h _).symm
theorem leave_11 (c : Dev nD) (t : Fin cfg0.N) (h : (8 ≤ t.val % 16 ∧ t.val % 16 ≤ 11)) :
    owns (c : Thread nD τ) (st0_11 t) fullShare (ovb m c t) ⊢ (dats m 0 c).leavesExact 11 t := by
  have e : (dats m 0 c).after 11 t = ovb m c t := by rw [after_11, pt_live 8 11 t h.1 h.2]
  have := left_live m c 11 t (by rw [idle_11, decide_eq_true h]; rfl)
  rw [e] at this; exact this
theorem pass_11 (c : Dev nD) (t : Fin cfg0.N) (d) (h : ¬(8 ≤ t.val % 16 ∧ t.val % 16 ≤ 11)) :
    owns (c : Thread nD τ) (st0_11 t) fullShare ((dats m 0 c).before 11 t d) ⊢ (dats m 0 c).leavesExact 11 t :=
  left_idle m c 11 t d (by rw [idle_11, decide_eq_false h]; rfl) fun hf => before_11 m c t d (by
    rcases fl_11 t hf with h' | h'
    · omega
    · exact absurd h' h)

theorem after_12 (c : Dev nD) (t : Fin cfg0.N) : (dats m 0 c).after 12 t = og m c (pt 12 15 t) := by dsimp only [dats]
theorem before_12 (c : Dev nD) (t : Fin cfg0.N) (d) (h : 15 < t.val % 16) : (dats m 0 c).before 12 t d = (dats m 0 c).after 12 t := by
  have hc : ∀ (t : Fin cfg0.N), 15 < t.val % 16 → ∀ hp : t.val - 1 < cfg0.N, (dats m 0 c).after 12 t = (dats m 0 c).after 12 ⟨t.val - 1, hp⟩ := fun t h hp => by
    rw [after_12, after_12]; exact congrArg (og m c) (pt_pred 12 15 t h hp)
  rw [Dat.before_out_traj (dats m 0 c) 12 rfl (fun _ _ => rfl)
    (fun t ht hi hf => hc t (by rw [fresh_12 _ (le_of_lt t.isLt)] at hf; have := of_decide_eq_false hf; omega) _) t.val t rfl d,
    fresh_12 _ (le_of_lt t.isLt), if_neg (by rw [decide_eq_true_iff]; omega)]
  exact (hc t h _).symm
theorem leave_12 (c : Dev nD) (t : Fin cfg0.N) (h : (12 ≤ t.val % 16 ∧ t.val % 16 ≤ 15)) :
    owns (c : Thread nD τ) (st0_12 t) fullShare (og m c t) ⊢ (dats m 0 c).leavesExact 12 t := by
  have e : (dats m 0 c).after 12 t = og m c t := by rw [after_12, pt_live 12 15 t h.1 h.2]
  have := left_live m c 12 t (by rw [idle_12, decide_eq_true h]; rfl)
  rw [e] at this; exact this
theorem pass_12 (c : Dev nD) (t : Fin cfg0.N) (d) (h : ¬(12 ≤ t.val % 16 ∧ t.val % 16 ≤ 15)) :
    owns (c : Thread nD τ) (st0_12 t) fullShare ((dats m 0 c).before 12 t d) ⊢ (dats m 0 c).leavesExact 12 t :=
  left_idle m c 12 t d (by rw [idle_12, decide_eq_false h]; rfl) fun hf => before_12 m c t d (by
    rcases fl_12 t hf with h' | h'
    · omega
    · exact absurd h' h)

theorem after_13 (c : Dev nD) (t : Fin cfg0.N) : (dats m 0 c).after 13 t = ol m c (pt 0 0 t) := by dsimp only [dats]
theorem before_13 (c : Dev nD) (t : Fin cfg0.N) (d) (h : 0 < t.val % 16) : (dats m 0 c).before 13 t d = (dats m 0 c).after 13 t := by
  have hc : ∀ (t : Fin cfg0.N), 0 < t.val % 16 → ∀ hp : t.val - 1 < cfg0.N, (dats m 0 c).after 13 t = (dats m 0 c).after 13 ⟨t.val - 1, hp⟩ := fun t h hp => by
    rw [after_13, after_13]; exact congrArg (ol m c) (pt_pred 0 0 t h hp)
  rw [Dat.before_out_traj (dats m 0 c) 13 rfl (fun _ _ => rfl)
    (fun t ht hi hf => hc t (by rw [fresh_13 _ (le_of_lt t.isLt)] at hf; have := of_decide_eq_false hf; omega) _) t.val t rfl d,
    fresh_13 _ (le_of_lt t.isLt), if_neg (by rw [decide_eq_true_iff]; omega)]
  exact (hc t h _).symm
theorem leave_13 (c : Dev nD) (t : Fin cfg0.N) (h : (0 ≤ t.val % 16 ∧ t.val % 16 ≤ 0)) :
    owns (c : Thread nD τ) (st0_13 t) fullShare (ol m c t) ⊢ (dats m 0 c).leavesExact 13 t := by
  have e : (dats m 0 c).after 13 t = ol m c t := by rw [after_13, pt_live 0 0 t h.1 h.2]
  have := left_live m c 13 t (by rw [idle_13, decide_eq_true h]; rfl)
  rw [e] at this; exact this
theorem pass_13 (c : Dev nD) (t : Fin cfg0.N) (d) (h : ¬(0 ≤ t.val % 16 ∧ t.val % 16 ≤ 0)) :
    owns (c : Thread nD τ) (st0_13 t) fullShare ((dats m 0 c).before 13 t d) ⊢ (dats m 0 c).leavesExact 13 t :=
  left_idle m c 13 t d (by rw [idle_13, decide_eq_false h]; rfl) fun hf => before_13 m c t d (by
    rcases fl_13 t hf with h' | h'
    · omega
    · exact absurd h' h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 3200000 in
/-- The body at column step 0. -/
theorem body_A (c : Dev nD) (t : Fin cfg0.N) (h : (0 ≤ t.val % 16 ∧ t.val % 16 ≤ 0)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HP' := (Inv_any m c _ _) $$ HP
  icases HP' with ⟨HS, Hg⟩
  iapply (run_A c (grid0.coords t) _ _ _ _ _ _ _ _ _ _ _ _ _ _ _ _ _ _ _ _ _ _ _ _ _ _ _ _ _ _ ((cond_1 t).mpr (by omega)) ((cond_2 t).mpr (by omega)) (fun e => absurd ((cond_3 t).mp e) (by omega)) (fun e => absurd ((cond_4 t).mp e) (by omega)) (fun e => absurd ((cond_5 t).mp e) (by omega)) (iblk m c 0 t) (iblk m c 1 t) (X0_2 m c t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H13]; · iexists _; iexact H13
  isplitl [HS]; · iexact HS
  iintro ⟨H0, H1, H2, H3, H4, H5, H7, H13, HS⟩
  isplitl [HS Hg]
  · isplitl [HS]
    · rw [xnAt_start m c t (by omega)]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave_7 m c t (by omega)); unfold oq; rw [xnAt_start m c t (by omega)]; iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (leave_13 m c t (by omega)); unfold ol; iexact H13

set_option maxHeartbeats 3200000 in
/-- The body at column steps 1–3. -/
theorem body_B (c : Dev nD) (t : Fin cfg0.N) (h : (1 ≤ t.val % 16 ∧ t.val % 16 ≤ 3)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ _ _ (fun e => absurd ((cond_1 t).mp e) (by omega)) ((cond_2 t).mpr (by omega)) (fun e => absurd ((cond_3 t).mp e) (by omega)) (fun e => absurd ((cond_4 t).mp e) (by omega)) (fun e => absurd ((cond_5 t).mp e) (by omega)) (X0_2 m c t) (iblk m c 5 t) (xnAt m c t) Set.univ _)
  isplitl [H2]; · iexact H2
  isplitl [H5]; · iexact H5
  isplitl [HS]; · iexact HS
  isplitl [H7]; · iexists _; iexact H7
  iintro ⟨H2, H5, HS, H7⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave_7 m c t (by omega)); unfold oq; iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (pass_13 m c t d13 (by omega)); iexact H13

set_option maxHeartbeats 3200000 in
/-- The body at column steps 4–7. -/
theorem body_C (c : Dev nD) (t : Fin cfg0.N) (h : (4 ≤ t.val % 16 ∧ t.val % 16 ≤ 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ _ _ (fun e => absurd ((cond_1 t).mp e) (by omega)) (fun e => absurd ((cond_2 t).mp e) (by omega)) ((cond_3 t).mpr (by omega)) (fun e => absurd ((cond_4 t).mp e) (by omega)) (fun e => absurd ((cond_5 t).mp e) (by omega)) (X0_2 m c t) (iblk m c 6 t) (xnAt m c t) Set.univ _)
  isplitl [H2]; · iexact H2
  isplitl [H6]; · iexact H6
  isplitl [HS]; · iexact HS
  isplitl [H8]; · iexists _; iexact H8
  isplitl [H9]; · iexists _; iexact H9
  iintro ⟨H2, H6, HS, H8, H9⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (leave_8 m c t (by omega)); unfold ok; iexact H8
  isplitl [H9]; · iapply (leave_9 m c t (by omega)); unfold okb; iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (pass_13 m c t d13 (by omega)); iexact H13

set_option maxHeartbeats 3200000 in
/-- The body at column steps 8–11. -/
theorem body_D (c : Dev nD) (t : Fin cfg0.N) (h : (8 ≤ t.val % 16 ∧ t.val % 16 ≤ 11)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_D c (grid0.coords t) _ _ _ _ _ _ _ _ _ _ _ _ _ _ _ _ _ _ _ _ _ _ _ _ _ _ _ _ _ _ (fun e => absurd ((cond_1 t).mp e) (by omega)) (fun e => absurd ((cond_2 t).mp e) (by omega)) (fun e => absurd ((cond_3 t).mp e) (by omega)) ((cond_4 t).mpr (by omega)) (fun e => absurd ((cond_5 t).mp e) (by omega)) (X0_2 m c t) (xnAt m c t) Set.univ _)
  isplitl [H2]; · iexact H2
  isplitl [HS]; · iexact HS
  isplitl [H10]; · iexists _; iexact H10
  isplitl [H11]; · iexists _; iexact H11
  iintro ⟨H2, HS, H10, H11⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (pass_8 m c t d8 (by omega)); iexact H8
  isplitl [H9]; · iapply (pass_9 m c t d9 (by omega)); iexact H9
  isplitl [H10]; · iapply (leave_10 m c t (by omega)); unfold ov; iexact H10
  isplitl [H11]; · iapply (leave_11 m c t (by omega)); unfold ovb; iexact H11
  isplitl [H12]; · iapply (pass_12 m c t d12 (by omega)); iexact H12
  iapply (pass_13 m c t d13 (by omega)); iexact H13

set_option maxHeartbeats 3200000 in
/-- The body at column steps 12–15. -/
theorem body_E (c : Dev nD) (t : Fin cfg0.N) (h : (12 ≤ t.val % 16 ∧ t.val % 16 ≤ 15)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_E c (grid0.coords t) _ _ _ _ _ _ _ _ _ _ _ _ _ _ _ _ _ _ _ _ _ _ _ _ _ _ _ _ _ _ (fun e => absurd ((cond_1 t).mp e) (by omega)) (fun e => absurd ((cond_2 t).mp e) (by omega)) (fun e => absurd ((cond_3 t).mp e) (by omega)) (fun e => absurd ((cond_4 t).mp e) (by omega)) ((cond_5 t).mpr (by omega)) (X0_2 m c t) (xnAt m c t) Set.univ _)
  isplitl [H2]; · iexact H2
  isplitl [HS]; · iexact HS
  isplitl [H12]; · iexists _; iexact H12
  iintro ⟨H2, HS, H12⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (leave_12 m c t (by omega)); unfold og; iexact H12
  iapply (pass_13 m c t d13 (by omega)); iexact H13

theorem sound_body (c : Dev nD) (t : Fin cfg0.N) :
    bodyPre m c t ⊢ wp frame (wpE (defs₀ (F := F)) Variants.none c none) Set.univ (bodyAt0 t) (fun _ => bodyPost m c t) := by
  rcases (by omega : t.val % 16 ≤ 0 ∨ (1 ≤ t.val % 16 ∧ t.val % 16 ≤ 3) ∨ (4 ≤ t.val % 16 ∧ t.val % 16 ≤ 7) ∨ (8 ≤ t.val % 16 ∧ t.val % 16 ≤ 11) ∨ (12 ≤ t.val % 16 ∧ t.val % 16 ≤ 15)) with h | h | h | h | h
  · exact body_A m c t ⟨Nat.zero_le _, h⟩
  · exact body_B m c t h
  · exact body_C m c t h
  · exact body_D m c t h
  · exact body_E m c t h

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

/-! ## The run -/

set_option backward.isDefEq.respectTransparency.types false in
/-- Every run ends, with the arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.FoxData

end
-- ==== Proof.FoxValue.lean ====
/-
  The fused attention input projection's values: each output at an index, as the normalised row projected on one
  column of the weights, for queries and keys normalised again over the 128 columns of its head.
-/
module

public import proofs.«01_k».proof.Proof.FoxDataBits
public import Idealize.ShloMosaic.Lib.Pointwise
public import Idealize.ShloMosaic.Lib.Pipeline.ValueKit

@[expose] public section

set_option maxRecDepth 16384

noncomputable section

namespace Cert.FoxValue

open Cert.Kernel3Ideal Cert.Kernel3Ideal.Gen Cert.FoxStep Cert.FoxData
open Idealize.ShloMosaic Idealize.ShloMosaic.TcCoe Idealize.SL.Sem
open Idealize.ShloMosaic.Pipeline (Dat)

/-! ## The layer's mathematics -/

/-- The normalised row `R` at feature `k`. -/
def nrm (X : Vec Ideal S8192x2048 .f32) (G : Vec Ideal S1x2048 .f32) (R : Fin 8192) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- Row `R` projected on column `f` of the weights. -/
def prj (X : Vec Ideal S8192x2048 .f32) (G : Vec Ideal S1x2048 .f32) (W : Vec Ideal S2x2048x8208 .f32) (R : Fin 8192) (f : Fin 8208) : EReal :=
  ∑ q, nrm X G R q * W (ix3 0 q f)

/-- A head's 128 columns normalised, under the gains. -/
def hnorm (z : Fin 128 → EReal) (g : Vec Ideal S1x128 .f32) (d : Fin 128) : EReal :=
  z d * Ideal.rsqrt (Ideal.div (∑ e, z e * z e) (Ideal.ofBits .f32 0x43000000#32) + Ideal.ofBits .f32 0x358637BD#32) * g (ix2 0 d)

/-- The logarithm of the logistic function. -/
def lsig (z : EReal) : EReal :=
  -(max (-z) 0 + Ideal.log (1 + Ideal.exp (-(FloatOps.absf (F := Ideal) (φ := .f32) (-z)))))

/-! ## The payloads at an index -/

def col (o : ℕ) (ho : o ≤ 384) (e : Fin 128) : Fin 512 := ⟨o + e.val, by have := e.isLt; omega⟩

theorem rows_pay (x : Vec Ideal S1024x2048 .f32) (g : Vec Ideal S1x2048 .f32) (r : Fin 1024) (k : Fin 2048) :
    k0_pay3 x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay3, k0_pay2]

theorem acc_pay (xs : Vec Ideal S1024x2048 .bf16) (w : Vec Ideal S1x2048x512 .f32) (r : Fin 1024) (f : Fin 512) :
    k0_pay14 xs w (ix2 r f) = ∑ q, xs (ix2 r q) * w (ix3 0 q f) := by
  pointwise [k0_pay14]

theorem vb_pay (a : Vec Ideal S1024x512 .f32) (r : Fin 1024) (f : Fin 512) : k0_pay1 (F := Ideal) a (ix2 r f) = a (ix2 r f) := by
  pointwise [k0_pay1]

theorem lf_pay (x : Vec Ideal S1024x2048 .f32) (g : Vec Ideal S1x2048 .f32) (wt : Vec Ideal S2048x128 .f32) (bt : Vec Ideal S1x128 .f32) (r : Fin 1024) (d : Fin 128) :
    k0_pay4 x g wt bt (ix2 r d) = lsig ((∑ q, k0_pay2 x g (ix2 r q) * wt (ix2 q d)) + bt (ix2 0 d)) := by
  pointwise [k0_pay4, lsig, zero_sub]

theorem q0 (a : Vec Ideal S1024x512 .f32) (g : Vec Ideal S1x128 .f32) (r : Fin 1024) (d : Fin 128) :
    k0_pay5 a g (ix2 r d) = hnorm (fun e => a (ix2 r (col 0 (by decide) e))) g d := by
  pointwise [k0_pay5, hnorm, col, zero_add]

theorem q1 (a : Vec Ideal S1024x512 .f32) (g : Vec Ideal S1x128 .f32) (r : Fin 1024) (d : Fin 128) :
    k0_pay6 a g (ix2 r d) = hnorm (fun e => a (ix2 r (col 128 (by decide) e))) g d := by
  pointwise [k0_pay6, hnorm, col, zero_add]

theorem q2 (a : Vec Ideal S1024x512 .f32) (g : Vec Ideal S1x128 .f32) (r : Fin 1024) (d : Fin 128) :
    k0_pay15 (k0_pay7 a) g (k0_pay8 a) (Scalar.ofBits .f32 0x358637BD#32) (ix2 r d) = hnorm (fun e => a (ix2 r (col 256 (by decide) e))) g d := by
  pointwise [k0_pay15, k0_pay7, k0_pay8, hnorm, col, zero_add]

theorem q3 (xs : Vec Ideal S1024x2048 .bf16) (w : Vec Ideal S1x2048x512 .f32) (g : Vec Ideal S1x128 .f32) (r : Fin 1024) (d : Fin 128) :
    k0_pay16 xs w g (ix2 r d) = hnorm (fun e => (k0_pay14 xs w) (ix2 r (col 384 (by decide) e))) g d := by
  pointwise [k0_pay16, hnorm, col, zero_add]

theorem k0 (a : Vec Ideal S1024x512 .f32) (g : Vec Ideal S1x128 .f32) (r : Fin 1024) (d : Fin 128) :
    k0_pay9 a g (ix2 r d) = hnorm (fun e => a (ix2 r (col 0 (by decide) e))) g d := by
  pointwise [k0_pay9, hnorm, col, zero_add]

theorem k1 (a : Vec Ideal S1024x512 .f32) (g : Vec Ideal S1x128 .f32) (r : Fin 1024) (d : Fin 128) :
    k0_pay11 a g (ix2 r d) = hnorm (fun e => a (ix2 r (col 128 (by decide) e))) g d := by
  pointwise [k0_pay11, hnorm, col, zero_add]

theorem k2 (a : Vec Ideal S1024x512 .f32) (g : Vec Ideal S1x128 .f32) (r : Fin 1024) (d : Fin 128) :
    k0_pay17 (k0_pay13 a) g (ix2 r d) = hnorm (fun e => a (ix2 r (col 256 (by decide) e))) g d := by
  pointwise [k0_pay17, k0_pay13, hnorm, col, zero_add]

theorem k3 (xs : Vec Ideal S1024x2048 .bf16) (w : Vec Ideal S1x2048x512 .f32) (g : Vec Ideal S1x128 .f32) (r : Fin 1024) (d : Fin 128) :
    k0_pay19 xs w g (ix2 r d) = hnorm (fun e => (k0_pay14 xs w) (ix2 r (col 384 (by decide) e))) g d := by
  pointwise [k0_pay19, hnorm, col, zero_add]

theorem b0 (a : Vec Ideal S1024x512 .f32) (g : Vec Ideal S1x128 .f32) (r : Fin 1024) (d : Fin 128) :
    k0_pay10 a g (ix2 r d) = hnorm (fun e => a (ix2 r (col 0 (by decide) e))) g d := by
  pointwise [k0_pay10, k0_pay9, hnorm, col, zero_add]

theorem b1 (a : Vec Ideal S1024x512 .f32) (g : Vec Ideal S1x128 .f32) (r : Fin 1024) (d : Fin 128) :
    k0_pay12 a g (ix2 r d) = hnorm (fun e => a (ix2 r (col 128 (by decide) e))) g d := by
  pointwise [k0_pay12, k0_pay11, hnorm, col, zero_add]

theorem b2 (a : Vec Ideal S1024x512 .f32) (g : Vec Ideal S1x128 .f32) (r : Fin 1024) (d : Fin 128) :
    k0_pay18 (k0_pay13 a) g (ix2 r d) = hnorm (fun e => a (ix2 r (col 256 (by decide) e))) g d := by
  pointwise [k0_pay18, k0_pay17, k0_pay13, hnorm, col, zero_add]

theorem b3 (xs : Vec Ideal S1024x2048 .bf16) (w : Vec Ideal S1x2048x512 .f32) (g : Vec Ideal S1x128 .f32) (r : Fin 1024) (d : Fin 128) :
    k0_pay20 xs w g (ix2 r d) = hnorm (fun e => (k0_pay14 xs w) (ix2 r (col 384 (by decide) e))) g d := by
  pointwise [k0_pay20, k0_pay19, hnorm, col, zero_add]

/-! ## A whole block at an index -/

theorem at_head (acc : Vec Ideal S1024x512 .f32) (g : Vec Ideal S1x128 .f32) (r : Fin 1024) (f : Fin 512) (o : ℕ) (ho : o ≤ 384) (d : Fin 128)
    (h : f.val = o + d.val) (h' : o % 128 = 0) :
    hnorm (fun e => acc (ix2 r (col o ho e))) g d
      = hnorm (fun e => acc (ix2 r (col (128 * (f.val / 128)) (by have := f.isLt; omega) e))) g ⟨f.val % 128, by omega⟩ := by
  have := d.isLt
  obtain rfl : o = 128 * (f.val / 128) := by omega
  rw [show (⟨f.val % 128, by omega⟩ : Fin 128) = d from Fin.ext (by simp only; omega)]

theorem q_at (xs : Vec Ideal S1024x2048 .bf16) (w : Vec Ideal S1x2048x512 .f32) (g : Vec Ideal S1x128 .f32) (r : Fin 1024) (f : Fin 512) :
    qv xs w g (ix2 r f)
      = hnorm (fun e => k0_pay14 xs w (ix2 r (col (128 * (f.val / 128)) (by have := f.isLt; omega) e))) g ⟨f.val % 128, by omega⟩ := by
  unfold qv
  canon_tiles x h
  all_goals (idx_vars x; obtain rfl : r = x0 := Fin.ext h0)
  · exact (q3 xs w g r x1).trans (at_head _ g r f 384 (by decide) x1 h1 rfl)
  · exact (q2 _ g r x1).trans (at_head _ g r f 256 (by decide) x1 h1 rfl)
  · exact (q1 _ g r x1).trans (at_head _ g r f 128 (by decide) x1 h1 rfl)
  · exact (q0 _ g r x1).trans (at_head _ g r f 0 (by decide) x1 (by omega) rfl)

theorem k_at (xs : Vec Ideal S1024x2048 .bf16) (w : Vec Ideal S1x2048x512 .f32) (g : Vec Ideal S1x128 .f32) (r : Fin 1024) (f : Fin 512) :
    kv xs w g (ix2 r f)
      = hnorm (fun e => k0_pay14 xs w (ix2 r (col (128 * (f.val / 128)) (by have := f.isLt; omega) e))) g ⟨f.val % 128, by omega⟩ := by
  unfold kv
  canon_tiles x h
  all_goals (idx_vars x; obtain rfl : r = x0 := Fin.ext h0)
  · exact (k3 xs w g r x1).trans (at_head _ g r f 384 (by decide) x1 h1 rfl)
  · exact (k2 _ g r x1).trans (at_head _ g r f 256 (by decide) x1 h1 rfl)
  · exact (k1 _ g r x1).trans (at_head _ g r f 128 (by decide) x1 h1 rfl)
  · exact (k0 _ g r x1).trans (at_head _ g r f 0 (by decide) x1 (by omega) rfl)

theorem kb_at (xs : Vec Ideal S1024x2048 .bf16) (w : Vec Ideal S1x2048x512 .f32) (g : Vec Ideal S1x128 .f32) (r : Fin 1024) (f : Fin 512) :
    kbv xs w g (ix2 r f)
      = hnorm (fun e => k0_pay14 xs w (ix2 r (col (128 * (f.val / 128)) (by have := f.isLt; omega) e))) g ⟨f.val % 128, by omega⟩ := by
  unfold kbv
  canon_tiles x h
  all_goals (idx_vars x; obtain rfl : r = x0 := Fin.ext h0)
  · exact (b3 xs w g r x1).trans (at_head _ g r f 384 (by decide) x1 h1 rfl)
  · exact (b2 _ g r x1).trans (at_head _ g r f 256 (by decide) x1 h1 rfl)
  · exact (b1 _ g r x1).trans (at_head _ g r f 128 (by decide) x1 h1 rfl)
  · exact (b0 _ g r x1).trans (at_head _ g r f 0 (by decide) x1 (by omega) rfl)

/-! ## The blocks as parts of the arrays -/

theorem in_0 (t : Fin cfg0.N) : win0_0.index t = ![t.val / 16, 0] := by revert t; decide +kernel
theorem in_1 (t : Fin cfg0.N) : win0_1.index t = ![0, 0] := by revert t; decide +kernel
theorem in_2 (t : Fin cfg0.N) : win0_2.index t = ![0, 0, t.val % 16] := by revert t; decide +kernel
theorem in_3 (t : Fin cfg0.N) : win0_3.index t = ![0, 0] := by revert t; decide +kernel
theorem in_4 (t : Fin cfg0.N) : win0_4.index t = ![0, 0] := by revert t; decide +kernel
theorem in_5 (t : Fin cfg0.N) : win0_5.index t = ![0, 0] := by revert t; decide +kernel
theorem in_6 (t : Fin cfg0.N) : win0_6.index t = ![0, 0] := by revert t; decide +kernel

variable (m : (ℓ : Loc nD τ sig) → Buf (Elt Ideal) ℓ) (c : Dev nD)

abbrev Xa : Vec Ideal S8192x2048 .f32 := m ((c.tc : Thread nD τ).loc main_arg0)
abbrev Ga : Vec Ideal S1x2048 .f32 := m ((c.tc : Thread nD τ).loc main_arg1)
abbrev Wa : Vec Ideal S2x2048x8208 .f32 := m ((c.tc : Thread nD τ).loc main_arg2)
abbrev Ta : Vec Ideal S2048x128 .f32 := m ((c.tc : Thread nD τ).loc main_arg3)
abbrev Ba : Vec Ideal S1x128 .f32 := m ((c.tc : Thread nD τ).loc main_arg4)
abbrev Qa : Vec Ideal S1x128 .f32 := m ((c.tc : Thread nD τ).loc main_arg5)
abbrev Ka : Vec Ideal S1x128 .f32 := m ((c.tc : Thread nD τ).loc main_arg6)

theorem blk_0 (t : Fin cfg0.N) (r : Fin 1024) (k : Fin 2048) (R : Fin 8192) (hR : R.val = 1024 * (t.val / 16) + r.val) :
    iblk m c 0 t (ix2 r k) = Xa m c (ix2 R k) := by
  have e := in_0 t
  blk_ext [iblk, V, e]
theorem blk_2 (t : Fin cfg0.N) (q : Fin 2048) (f : Fin 512) (f' : Fin 8208) (hf : f'.val = 512 * (t.val % 16) + f.val) :
    X0_2 m c t (ix3 0 q f) = Wa m c (ix3 0 q f') := by
  have e := in_2 t
  unfold X0_2 Pipeline.Window.fill
  rw [dif_pos (moved0_2 t _)]
  blk_ext [iblk, V, e]
theorem blk_1 (t : Fin cfg0.N) (i : S1x2048.Idx) : iblk m c 1 t i = Ga m c i := by
  have e := in_1 t
  blk_ext [iblk, V, e]
theorem blk_3 (t : Fin cfg0.N) (i : S2048x128.Idx) : iblk m c 3 t i = Ta m c i := by
  have e := in_3 t
  blk_ext [iblk, V, e]
theorem blk_4 (t : Fin cfg0.N) (i : S1x128.Idx) : iblk m c 4 t i = Ba m c i := by
  have e := in_4 t
  blk_ext [iblk, V, e]
theorem blk_5 (t : Fin cfg0.N) (i : S1x128.Idx) : iblk m c 5 t i = Qa m c i := by
  have e := in_5 t
  blk_ext [iblk, V, e]
theorem blk_6 (t : Fin cfg0.N) (i : S1x128.Idx) : iblk m c 6 t i = Ka m c i := by
  have e := in_6 t
  blk_ext [iblk, V, e]

/-! ## What a point computes -/

theorem rows_at (t : Fin cfg0.N) (r : Fin 1024) (k : Fin 2048) (R : Fin 8192) (hR : R.val = 1024 * (t.val / 16) + r.val) :
    xnAt m c t (ix2 r k) = nrm (Xa m c) (Ga m c) R k := by
  have hp : R.val = 1024 * ((pt 0 0 t).val / 16) + r.val := by simp only [pt]; omega
  unfold xnAt nrm
  rw [rows_pay]
  simp only [blk_0 m c (pt 0 0 t) r _ R hp, blk_1 m c (pt 0 0 t)]

theorem acc_at (t : Fin cfg0.N) (r : Fin 1024) (f : Fin 512) (R : Fin 8192) (hR : R.val = 1024 * (t.val / 16) + r.val)
    (f' : Fin 8208) (hf : f'.val = 512 * (t.val % 16) + f.val) :
    k0_pay14 (xnAt m c t) (X0_2 m c t) (ix2 r f) = prj (Xa m c) (Ga m c) (Wa m c) R f' := by
  rw [acc_pay]
  refine Finset.sum_congr rfl fun q _ => ?_
  rw [rows_at m c t r q R hR, blk_2 m c t q f f' hf]

/-- Head-normalised projections: columns `b` to `b + 2047` of the weights, heads of 128. -/
def qk (b : ℕ) (hb : b ≤ 2048) (X : Vec Ideal S8192x2048 .f32) (G : Vec Ideal S1x2048 .f32) (W : Vec Ideal S2x2048x8208 .f32)
    (g : Vec Ideal S1x128 .f32) (R : Fin 8192) (n : Fin 2048) : EReal :=
  hnorm (fun e => prj X G W R ⟨b + (n.val / 128 * 128 + e.val), by have := e.isLt; have := n.isLt; omega⟩) g ⟨n.val % 128, by omega⟩

/-- Plain projections: columns `b` to `b + 2047`. -/
def vg (b : ℕ) (hb : b ≤ 6144) (X : Vec Ideal S8192x2048 .f32) (G : Vec Ideal S1x2048 .f32) (W : Vec Ideal S2x2048x8208 .f32)
    (R : Fin 8192) (n : Fin 2048) : EReal :=
  prj X G W R ⟨b + n.val, by have := n.isLt; omega⟩

/-- The forget gate's logarithm. -/
def lf (X : Vec Ideal S8192x2048 .f32) (G : Vec Ideal S1x2048 .f32) (T : Vec Ideal S2048x128 .f32) (B : Vec Ideal S1x128 .f32)
    (R : Fin 8192) (d : Fin 128) : EReal :=
  lsig ((∑ q, nrm X G R q * T (ix2 q d)) + B (ix2 0 d))

theorem oq_at (t : Fin cfg0.N) (r : Fin 1024) (f : Fin 512) (R : Fin 8192) (n : Fin 2048) (hR : R.val = 1024 * (t.val / 16) + r.val)
    (hn : 0 + n.val = 512 * (t.val % 16) + f.val) :
    oq m c t (ix2 r f) = qk 0 (by decide) (Xa m c) (Ga m c) (Wa m c) (Qa m c) R n := by
  unfold oq qk
  rw [q_at, show (iblk m c 5 t : Vec Ideal S1x128 .f32) = Qa m c from funext (blk_5 m c t)]
  have e1 : f.val % 128 = n.val % 128 := by omega
  simp only [e1]
  refine congrArg (fun z => hnorm z _ _) (funext fun e => ?_)
  exact acc_at m c t r _ R hR _ (by have := f.isLt; simp only [col]; omega)

theorem ok_at (t : Fin cfg0.N) (r : Fin 1024) (f : Fin 512) (R : Fin 8192) (n : Fin 2048) (hR : R.val = 1024 * (t.val / 16) + r.val)
    (hn : 2048 + n.val = 512 * (t.val % 16) + f.val) :
    ok m c t (ix2 r f) = qk 2048 (by decide) (Xa m c) (Ga m c) (Wa m c) (Ka m c) R n := by
  unfold ok qk
  rw [k_at, show (iblk m c 6 t : Vec Ideal S1x128 .f32) = Ka m c from funext (blk_6 m c t)]
  have e1 : f.val % 128 = n.val % 128 := by omega
  simp only [e1]
  refine congrArg (fun z => hnorm z _ _) (funext fun e => ?_)
  exact acc_at m c t r _ R hR _ (by have := f.isLt; simp only [col]; omega)

theorem okb_at (t : Fin cfg0.N) (r : Fin 1024) (f : Fin 512) (R : Fin 8192) (n : Fin 2048) (hR : R.val = 1024 * (t.val / 16) + r.val)
    (hn : 2048 + n.val = 512 * (t.val % 16) + f.val) :
    okb m c t (ix2 r f) = qk 2048 (by decide) (Xa m c) (Ga m c) (Wa m c) (Ka m c) R n := by
  unfold okb qk
  rw [kb_at, show (iblk m c 6 t : Vec Ideal S1x128 .f32) = Ka m c from funext (blk_6 m c t)]
  have e1 : f.val % 128 = n.val % 128 := by omega
  simp only [e1]
  refine congrArg (fun z => hnorm z _ _) (funext fun e => ?_)
  exact acc_at m c t r _ R hR _ (by have := f.isLt; simp only [col]; omega)

theorem ov_at (t : Fin cfg0.N) (r : Fin 1024) (f : Fin 512) (R : Fin 8192) (n : Fin 2048) (hR : R.val = 1024 * (t.val / 16) + r.val)
    (hn : 4096 + n.val = 512 * (t.val % 16) + f.val) :
    ov m c t (ix2 r f) = vg 4096 (by decide) (Xa m c) (Ga m c) (Wa m c) R n := by
  unfold ov vg
  exact acc_at m c t r f R hR _ hn

theorem ovb_at (t : Fin cfg0.N) (r : Fin 1024) (f : Fin 512) (R : Fin 8192) (n : Fin 2048) (hR : R.val = 1024 * (t.val / 16) + r.val)
    (hn : 4096 + n.val = 512 * (t.val % 16) + f.val) :
    ovb m c t (ix2 r f) = vg 4096 (by decide) (Xa m c) (Ga m c) (Wa m c) R n := by
  unfold ovb vg
  rw [vb_pay]
  exact acc_at m c t r f R hR _ hn

theorem og_at (t : Fin cfg0.N) (r : Fin 1024) (f : Fin 512) (R : Fin 8192) (n : Fin 2048) (hR : R.val = 1024 * (t.val / 16) + r.val)
    (hn : 6144 + n.val = 512 * (t.val % 16) + f.val) :
    og m c t (ix2 r f) = vg 6144 (by decide) (Xa m c) (Ga m c) (Wa m c) R n := by
  unfold og vg
  exact acc_at m c t r f R hR _ hn

theorem ol_at (t : Fin cfg0.N) (r : Fin 1024) (d : Fin 128) (R : Fin 8192) (hR : R.val = 1024 * (t.val / 16) + r.val) :
    ol m c t (ix2 r d) = lf (Xa m c) (Ga m c) (Ta m c) (Ba m c) R d := by
  unfold ol lf
  rw [lf_pay]
  refine congrArg lsig (congrArg₂ (· + ·) (Finset.sum_congr rfl fun q _ => ?_) (blk_4 m c t _))
  rw [blk_3 m c t]
  refine congrArg (· * _) ?_
  refine Eq.trans (b := k0_pay3 (iblk m c 0 t) (iblk m c 1 t) (ix2 r q)) (by pointwise [k0_pay3]) ?_
  unfold nrm
  rw [rows_pay]
  simp only [blk_0 m c t r _ R hR, blk_1 m c t]

/-! ## The outputs at the end -/

theorem at_7 (t : Fin cfg0.N) : win0_7.index t = ![t.val / 16, max 0 (min 3 (t.val % 16)) - 0] := by revert t; decide +kernel
theorem arr_7 : (dats m 0 c).arrAt 7 cfg0.N = (fun i => qk 0 (by decide) (Xa m c) (Ga m c) (Wa m c) (Qa m c) (i 0) (i 1) : Vec Ideal S8192x2048 .bf16) := by
  refine (dats m 0 c).arrAt_eq_of_covers 7 _ (by decide +kernel) fun t hf y => ?_
  have e := at_7 t
  rw [after_7]
  generalize hy : (cfg0.win 7).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 0 3 t).val = 16 * (t.val / 16) + max 0 (min 3 (t.val % 16)) := rfl
  blk_simp [e]
  refine oq_at m c (pt 0 3 t) r d _ _ ?_ ?_ <;> blk_simp [e] <;> omega

theorem at_8 (t : Fin cfg0.N) : win0_8.index t = ![t.val / 16, max 4 (min 7 (t.val % 16)) - 4] := by revert t; decide +kernel
theorem arr_8 : (dats m 0 c).arrAt 8 cfg0.N = (fun i => qk 2048 (by decide) (Xa m c) (Ga m c) (Wa m c) (Ka m c) (i 0) (i 1) : Vec Ideal S8192x2048 .f32) := by
  refine (dats m 0 c).arrAt_eq_of_covers 8 _ (by decide +kernel) fun t hf y => ?_
  have e := at_8 t
  rw [after_8]
  generalize hy : (cfg0.win 8).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 4 7 t).val = 16 * (t.val / 16) + max 4 (min 7 (t.val % 16)) := rfl
  blk_simp [e]
  refine ok_at m c (pt 4 7 t) r d _ _ ?_ ?_ <;> blk_simp [e] <;> omega

theorem at_9 (t : Fin cfg0.N) : win0_9.index t = ![t.val / 16, max 4 (min 7 (t.val % 16)) - 4] := by revert t; decide +kernel
theorem arr_9 : (dats m 0 c).arrAt 9 cfg0.N = (fun i => qk 2048 (by decide) (Xa m c) (Ga m c) (Wa m c) (Ka m c) (i 0) (i 1) : Vec Ideal S8192x2048 .bf16) := by
  refine (dats m 0 c).arrAt_eq_of_covers 9 _ (by decide +kernel) fun t hf y => ?_
  have e := at_9 t
  rw [after_9]
  generalize hy : (cfg0.win 9).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 4 7 t).val = 16 * (t.val / 16) + max 4 (min 7 (t.val % 16)) := rfl
  blk_simp [e]
  refine okb_at m c (pt 4 7 t) r d _ _ ?_ ?_ <;> blk_simp [e] <;> omega

theorem at_10 (t : Fin cfg0.N) : win0_10.index t = ![t.val / 16, max 8 (min 11 (t.val % 16)) - 8] := by revert t; decide +kernel
theorem arr_10 : (dats m 0 c).arrAt 10 cfg0.N = (fun i => vg 4096 (by decide) (Xa m c) (Ga m c) (Wa m c) (i 0) (i 1) : Vec Ideal S8192x2048 .f32) := by
  refine (dats m 0 c).arrAt_eq_of_covers 10 _ (by decide +kernel) fun t hf y => ?_
  have e := at_10 t
  rw [after_10]
  generalize hy : (cfg0.win 10).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 8 11 t).val = 16 * (t.val / 16) + max 8 (min 11 (t.val % 16)) := rfl
  blk_simp [e]
  refine ov_at m c (pt 8 11 t) r d _ _ ?_ ?_ <;> blk_simp [e] <;> omega

theorem at_11 (t : Fin cfg0.N) : win0_11.index t = ![t.val / 16, max 8 (min 11 (t.val % 16)) - 8] := by revert t; decide +kernel
theorem arr_11 : (dats m 0 c).arrAt 11 cfg0.N = (fun i => vg 4096 (by decide) (Xa m c) (Ga m c) (Wa m c) (i 0) (i 1) : Vec Ideal S8192x2048 .bf16) := by
  refine (dats m 0 c).arrAt_eq_of_covers 11 _ (by decide +kernel) fun t hf y => ?_
  have e := at_11 t
  rw [after_11]
  generalize hy : (cfg0.win 11).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 8 11 t).val = 16 * (t.val / 16) + max 8 (min 11 (t.val % 16)) := rfl
  blk_simp [e]
  refine ovb_at m c (pt 8 11 t) r d _ _ ?_ ?_ <;> blk_simp [e] <;> omega

theorem at_12 (t : Fin cfg0.N) : win0_12.index t = ![t.val / 16, max 12 (min 15 (t.val % 16)) - 12] := by revert t; decide +kernel
theorem arr_12 : (dats m 0 c).arrAt 12 cfg0.N = (fun i => vg 6144 (by decide) (Xa m c) (Ga m c) (Wa m c) (i 0) (i 1) : Vec Ideal S8192x2048 .f32) := by
  refine (dats m 0 c).arrAt_eq_of_covers 12 _ (by decide +kernel) fun t hf y => ?_
  have e := at_12 t
  rw [after_12]
  generalize hy : (cfg0.win 12).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  have hp : (pt 12 15 t).val = 16 * (t.val / 16) + max 12 (min 15 (t.val % 16)) := rfl
  blk_simp [e]
  refine og_at m c (pt 12 15 t) r d _ _ ?_ ?_ <;> blk_simp [e] <;> omega

theorem at_13 (t : Fin cfg0.N) : win0_13.index t = ![t.val / 16, 0] := by revert t; decide +kernel
theorem arr_13 : (dats m 0 c).arrAt 13 cfg0.N = (fun i => lf (Xa m c) (Ga m c) (Ta m c) (Ba m c) (i 0) (i 1) : Vec Ideal S8192x128 .f32) := by
  refine (dats m 0 c).arrAt_eq_of_covers 13 _ (by decide +kernel) fun t hf y => ?_
  have e := at_13 t
  rw [after_13]
  generalize hy : (cfg0.win 13).xinj (cfg0.grid.coords t) y = z
  obtain ⟨r, d, rfl⟩ : ∃ (r : Fin 1024) (d : Fin 128), z = ix2 r d := ⟨z 0, z 1, eq_ix2 z⟩
  have h0 : (y 0).val = r.val := congrArg (fun z : S1024x128.Idx => (z 0).val) hy
  have h1 : (y 1).val = d.val := congrArg (fun z : S1024x128.Idx => (z 1).val) hy
  have hp : (pt 0 0 t).val = 16 * (t.val / 16) + max 0 (min 0 (t.val % 16)) := rfl
  blk_simp [e]
  refine (ol_at m c (pt 0 0 t) r d _ ?_).trans (congrArg (lf _ _ _ _ _) (Fin.ext ?_)) <;> blk_simp [e] <;> omega

end Cert.FoxValue

end
-- ==== Proof.FoxClaim.lean ====
/-
  The fused attention input projection's claims: the three frames, and the equality of the two programs' seven results
  at the ideal values.
-/
module

public import proofs.«01_k».proof.Proof.FoxValue
public import Idealize.ShloMosaic.Adequacy

@[expose] public section

set_option maxRecDepth 16384

noncomputable section

namespace Cert.FoxClaim

open Cert.FoxValue
open Idealize.ShloMosaic Idealize.ShloMosaic.TcCoe Idealize.SL.Sem

/-- The seven outputs of the reference at an index. -/
theorem reference_at (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩
      fun r => ∀ c : Dev Cert.Reference3Ideal.nD,
        (∀ (R : Fin 8192) (n : Fin 2048), (r.2.mem ((c.tc : Thread Cert.Reference3Ideal.nD Cert.Reference3Ideal.τ).loc Cert.Reference3Ideal.main_v54) : Vec Ideal Cert.Kernel3Ideal.S8192x2048 .bf16) (ix2 R n)
            = qk 0 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg5)) R n)
        ∧ (∀ (R : Fin 8192) (n : Fin 2048), (r.2.mem ((c.tc : Thread Cert.Reference3Ideal.nD Cert.Reference3Ideal.τ).loc Cert.Reference3Ideal.main_v49) : Vec Ideal Cert.Kernel3Ideal.S8192x2048 .f32) (ix2 R n)
            = qk 2048 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg6)) R n)
        ∧ (∀ (R : Fin 8192) (n : Fin 2048), (r.2.mem ((c.tc : Thread Cert.Reference3Ideal.nD Cert.Reference3Ideal.τ).loc Cert.Reference3Ideal.main_v55) : Vec Ideal Cert.Kernel3Ideal.S8192x2048 .bf16) (ix2 R n)
            = qk 2048 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg6)) R n)
        ∧ (∀ (R : Fin 8192) (n : Fin 2048), (r.2.mem ((c.tc : Thread Cert.Reference3Ideal.nD Cert.Reference3Ideal.τ).loc Cert.Reference3Ideal.main_v18) : Vec Ideal Cert.Kernel3Ideal.S8192x2048 .f32) (ix2 R n)
            = vg 4096 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) R n)
        ∧ (∀ (R : Fin 8192) (n : Fin 2048), (r.2.mem ((c.tc : Thread Cert.Reference3Ideal.nD Cert.Reference3Ideal.τ).loc Cert.Reference3Ideal.main_v56) : Vec Ideal Cert.Kernel3Ideal.S8192x2048 .bf16) (ix2 R n)
            = vg 4096 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) R n)
        ∧ (∀ (R : Fin 8192) (n : Fin 2048), (r.2.mem ((c.tc : Thread Cert.Reference3Ideal.nD Cert.Reference3Ideal.τ).loc Cert.Reference3Ideal.main_v19) : Vec Ideal Cert.Kernel3Ideal.S8192x2048 .f32) (ix2 R n)
            = vg 6144 (by decide) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) R n)
        ∧ (∀ (R : Fin 8192) (n : Fin 128), (r.2.mem ((c.tc : Thread Cert.Reference3Ideal.nD Cert.Reference3Ideal.τ).loc Cert.Reference3Ideal.main_v53) : Vec Ideal Cert.Kernel3Ideal.S8192x128 .f32) (ix2 R n)
            = lf (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) R n)
        ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6) := by
  refine (θ_run Cert.Reference3Ideal.defs _ _).mono (fun r h c => ?_) (Cert.Reference3Ideal.Value.run (F := Ideal) m ρ)
  obtain ⟨h0, h1, h2, h3, h4, h5, h6, ha⟩ := h c
  refine ⟨fun R n => (congrFun h0 (ix2 R n)).trans ?_, fun R n => (congrFun h1 (ix2 R n)).trans ?_, fun R n => (congrFun h2 (ix2 R n)).trans ?_,
    fun R n => (congrFun h3 (ix2 R n)).trans ?_, fun R n => (congrFun h4 (ix2 R n)).trans ?_, fun R n => (congrFun h5 (ix2 R n)).trans ?_,
    fun R n => (congrFun h6 (ix2 R n)).trans ?_, ha⟩ <;> clear h0 h1 h2 h3 h4 h5 h6 ha
  · pointwise [qk, hnorm, prj, nrm]
    simp only [Nat.div_add_mod', zero_add]
  · pointwise [qk, hnorm, prj, nrm]
    simp only [Nat.div_add_mod', zero_add]
  · pointwise [qk, hnorm, prj, nrm]
    simp only [Nat.div_add_mod', zero_add]
  · pointwise [vg, prj, nrm]
  · pointwise [vg, prj, nrm]
  · pointwise [vg, prj, nrm]
  · pointwise [Cert.Reference3Ideal.Value.res_main_v53, lf, lsig, nrm]
    simp only [ne_eq, not_true_eq_false, if_false, Ideal.log1p]

/-- The seven outputs of the kernel. -/
theorem kernel_run (m : (ℓ : Loc Cert.Kernel3Ideal.nD Cert.Kernel3Ideal.τ Cert.Kernel3Ideal.sig) → Buf (Elt Ideal) ℓ) (ρ : Dev Cert.Kernel3Ideal.nD → PrngReg) :
    θ_run Cert.Kernel3Ideal.defs (onTc (τ := Cert.Kernel3Ideal.τ) (Cert.Kernel3Ideal.main (F := Ideal))) ⟨m, fun _ => 0, ρ⟩
      fun r => ∀ c : Dev Cert.Kernel3Ideal.nD,
        r.2.mem ((c.tc : Thread Cert.Kernel3Ideal.nD Cert.Kernel3Ideal.τ).loc Cert.Kernel3Ideal.main_v0_0) = (fun i => qk 0 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5)) (i 0) (i 1) : Vec Ideal Cert.Kernel3Ideal.S8192x2048 .bf16)
        ∧ r.2.mem ((c.tc : Thread Cert.Kernel3Ideal.nD Cert.Kernel3Ideal.τ).loc Cert.Kernel3Ideal.main_v0_1) = (fun i => qk 2048 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg6)) (i 0) (i 1) : Vec Ideal Cert.Kernel3Ideal.S8192x2048 .f32)
        ∧ r.2.mem ((c.tc : Thread Cert.Kernel3Ideal.nD Cert.Kernel3Ideal.τ).loc Cert.Kernel3Ideal.main_v0_2) = (fun i => qk 2048 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg6)) (i 0) (i 1) : Vec Ideal Cert.Kernel3Ideal.S8192x2048 .bf16)
        ∧ r.2.mem ((c.tc : Thread Cert.Kernel3Ideal.nD Cert.Kernel3Ideal.τ).loc Cert.Kernel3Ideal.main_v0_3) = (fun i => vg 4096 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1) : Vec Ideal Cert.Kernel3Ideal.S8192x2048 .f32)
        ∧ r.2.mem ((c.tc : Thread Cert.Kernel3Ideal.nD Cert.Kernel3Ideal.τ).loc Cert.Kernel3Ideal.main_v0_4) = (fun i => vg 4096 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1) : Vec Ideal Cert.Kernel3Ideal.S8192x2048 .bf16)
        ∧ r.2.mem ((c.tc : Thread Cert.Kernel3Ideal.nD Cert.Kernel3Ideal.τ).loc Cert.Kernel3Ideal.main_v0_5) = (fun i => vg 6144 (by decide) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (i 0) (i 1) : Vec Ideal Cert.Kernel3Ideal.S8192x2048 .f32)
        ∧ r.2.mem ((c.tc : Thread Cert.Kernel3Ideal.nD Cert.Kernel3Ideal.τ).loc Cert.Kernel3Ideal.main_v0_6) = (fun i => lf (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (i 0) (i 1) : Vec Ideal Cert.Kernel3Ideal.S8192x128 .f32)
        ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6) := by
  refine (θ_run Cert.Kernel3Ideal.defs _ _).mono (fun r h c => ?_) (θ_run_and (Cert.FoxData.run_main (F := Ideal) m ρ) (Cert.FoxData.frame (F := Ideal) m ρ))
  exact ⟨((h.1 c).1 7).trans (arr_7 m c), ((h.1 c).1 8).trans (arr_8 m c), ((h.1 c).1 9).trans (arr_9 m c), ((h.1 c).1 10).trans (arr_10 m c),
    ((h.1 c).1 11).trans (arr_11 m c), ((h.1 c).1 12).trans (arr_12 m c), ((h.1 c).1 13).trans (arr_13 m c), h.2.1 c⟩

theorem frame_p : Cert.quiescent_Kernel3 := fun m ρ _ => Cert.FoxDataBits.frame m ρ
theorem frame_pi : Cert.quiescent_Kernel3Ideal := fun m ρ _ => Cert.FoxData.frame m ρ

theorem frame_ri : Cert.quiescent_Reference3Ideal := fun m ρ _ =>
  (θ_run Cert.Reference3Ideal.defs _ _).mono
    (fun r h => ⟨fun c => (h c).2.2.2.2.2.2.2, sem_eq_zero_of_no_sems (by decide) r.2⟩)
    (Cert.Reference3Ideal.Value.run (F := Ideal) m ρ)

theorem algebraic : Cert.algebraic_Kernel3Ideal_Reference3Ideal := by
  intro m g m' g' _ hag
  refine ⟨fun c => _, fun c => _, fun c => _, fun c => _, fun c => _, fun c => _, fun c => _, kernel_run m g, ?_⟩
  refine (θ_run Cert.Reference3Ideal.defs _ _).mono (fun r h c => ?_) (reference_at m' g')
  obtain ⟨h0, h1, h2, h3, h4, h5, h6, ha⟩ := h c
  obtain ⟨e0, e1, e2, e3, e4, e5, e6⟩ := hag c
  rw [e0, e1, e2, e5] at h0
  rw [e0, e1, e2, e6] at h1 h2
  rw [e0, e1, e2] at h3 h4 h5
  rw [e0, e1, e3, e4] at h6
  refine ⟨funext fun i => ?_, funext fun i => ?_, funext fun i => ?_, funext fun i => ?_, funext fun i => ?_, funext fun i => ?_, funext fun i => ?_, ha⟩
  · exact (congrArg (r.2.mem ((c.tc : Thread Cert.Reference3Ideal.nD Cert.Reference3Ideal.τ).loc Cert.Reference3Ideal.main_v54)) (eq_ix2 (n0 := 8192) (n1 := 2048) i)).trans (h0 (i 0) (i 1))
  · exact (congrArg (r.2.mem ((c.tc : Thread Cert.Reference3Ideal.nD Cert.Reference3Ideal.τ).loc Cert.Reference3Ideal.main_v49)) (eq_ix2 (n0 := 8192) (n1 := 2048) i)).trans (h1 (i 0) (i 1))
  · exact (congrArg (r.2.mem ((c.tc : Thread Cert.Reference3Ideal.nD Cert.Reference3Ideal.τ).loc Cert.Reference3Ideal.main_v55)) (eq_ix2 (n0 := 8192) (n1 := 2048) i)).trans (h2 (i 0) (i 1))
  · exact (congrArg (r.2.mem ((c.tc : Thread Cert.Reference3Ideal.nD Cert.Reference3Ideal.τ).loc Cert.Reference3Ideal.main_v18)) (eq_ix2 (n0 := 8192) (n1 := 2048) i)).trans (h3 (i 0) (i 1))
  · exact (congrArg (r.2.mem ((c.tc : Thread Cert.Reference3Ideal.nD Cert.Reference3Ideal.τ).loc Cert.Reference3Ideal.main_v56)) (eq_ix2 (n0 := 8192) (n1 := 2048) i)).trans (h4 (i 0) (i 1))
  · exact (congrArg (r.2.mem ((c.tc : Thread Cert.Reference3Ideal.nD Cert.Reference3Ideal.τ).loc Cert.Reference3Ideal.main_v19)) (eq_ix2 (n0 := 8192) (n1 := 2048) i)).trans (h5 (i 0) (i 1))
  · exact (congrArg (r.2.mem ((c.tc : Thread Cert.Reference3Ideal.nD Cert.Reference3Ideal.τ).loc Cert.Reference3Ideal.main_v53)) (eq_ix2 (n0 := 8192) (n1 := 128) i)).trans (h6 (i 0) (i 1))

end Cert.FoxClaim

end
-- ==== Proof.Oproj6.lean ====
/-
  The output projection of an attention layer: each block of the output is the residual's block plus the product of the whole rows
  with the block's columns of the weights, so the output is the residual plus the product; and the call's claims.
-/
module

public import proofs.«01_k».proof.Proof.FoxClaim
public import proofs.«01_k».proof.Proof.Gen.Kernel6Ideal.Value
public import proofs.«01_k».proof.Proof.Gen.Kernel6.Frame
public import proofs.«01_k».proof.Proof.Gen.Reference6Ideal.Run
public import Idealize.ShloMosaic.Lib.Pointwise
public import Idealize.ShloMosaic.Lib.Pipeline.ValueKit
public import Idealize.ShloMosaic.Adequacy

@[expose] public section

set_option maxRecDepth 16384

noncomputable section

namespace Cert.Oproj6

open Cert.Kernel6Ideal Cert.Kernel6Ideal.Gen
open Idealize.ShloMosaic Idealize.ShloMosaic.TcCoe Idealize.SL.Sem
open Idealize.ShloMosaic.Pipeline (Dat)

/-- The result at row `R`, column `n`. -/
def res (A : Vec Ideal S8192x2048 .bf16) (W : Vec Ideal S2x2048x2048 .f32) (X : Vec Ideal S8192x2048 .f32) (R : Fin 8192) (n : Fin 2048) : EReal :=
  X (ix2 R n) + ∑ q, A (ix2 R q) * W (ix3 0 q n)

theorem pay_at (x : Vec Ideal S1024x512 .f32) (a : Vec Ideal S1024x2048 .bf16) (w : Vec Ideal S1x2048x512 .f32) (r : Fin 1024) (f : Fin 512) :
    k0_pay1 x a w (ix2 r f) = x (ix2 r f) + ∑ q, a (ix2 r q) * w (ix3 0 q f) := by
  pointwise [k0_pay1]

theorem in_0 (t : Fin cfg0.N) : win0_0.index t = ![t.val / 4, 0] := by revert t; decide +kernel
theorem in_1 (t : Fin cfg0.N) : win0_1.index t = ![0, 0, t.val % 4] := by revert t; decide +kernel
theorem in_2 (t : Fin cfg0.N) : win0_2.index t = ![t.val / 4, t.val % 4] := by revert t; decide +kernel
theorem in_3 (t : Fin cfg0.N) : win0_3.index t = ![t.val / 4, t.val % 4] := by revert t; decide +kernel

section
variable (m : (ℓ : Loc nD τ sig) → Buf (Elt Ideal) ℓ) (c : Dev nD)

abbrev aA : Vec Ideal S8192x2048 .bf16 := m ((c.tc : Thread nD τ).loc main_arg0)
abbrev aW : Vec Ideal S2x2048x2048 .f32 := m ((c.tc : Thread nD τ).loc main_arg1)
abbrev aX : Vec Ideal S8192x2048 .f32 := m ((c.tc : Thread nD τ).loc main_arg2)

theorem blk_0 (t : Fin cfg0.N) (r : Fin 1024) (k : Fin 2048) (R : Fin 8192) (hR : R.val = 1024 * (t.val / 4) + r.val) :
    iblk m c 0 t (ix2 r k) = aA m c (ix2 R k) := by
  have e := in_0 t
  blk_ext [iblk, V, e]
theorem blk_1 (t : Fin cfg0.N) (q : Fin 2048) (f : Fin 512) (n : Fin 2048) (hn : n.val = 512 * (t.val % 4) + f.val) :
    iblk m c 1 t (ix3 0 q f) = aW m c (ix3 0 q n) := by
  have e := in_1 t
  blk_ext [iblk, V, e]
theorem blk_2 (t : Fin cfg0.N) (r : Fin 1024) (f : Fin 512) (R : Fin 8192) (hR : R.val = 1024 * (t.val / 4) + r.val)
    (n : Fin 2048) (hn : n.val = 512 * (t.val % 4) + f.val) : iblk m c 2 t (ix2 r f) = aX m c (ix2 R n) := by
  have e := in_2 t
  blk_ext [iblk, V, e]

theorem z2 : (![0, 0] : Fin 2 → Nat) = fun _ => 0 := funext fun a => by fin_cases a <;> rfl
theorem z3 : (![0, 0, 0] : Fin 3 → Nat) = fun _ => 0 := funext fun a => by fin_cases a <;> rfl

theorem out_eq (a : Vec Ideal S1024x2048 .bf16) (w : Vec Ideal S1x2048x512 .f32) (x : Vec Ideal S1024x512 .f32) :
    out0_3 a w x = k0_pay1 x a w := by
  unfold out0_3
  rw [View.canon_unit_zero z2]
  simp only [View.ld_unit_zero (S := S1024x512) z2, View.ld_unit_zero (S := S1024x2048) z2, View.ld_unit_zero (S := S1x2048x512) z3]

theorem out_at (t : Fin cfg0.N) (r : Fin 1024) (f : Fin 512) (R : Fin 8192) (n : Fin 2048) (hR : R.val = 1024 * (t.val / 4) + r.val)
    (hn : n.val = 512 * (t.val % 4) + f.val) :
    out0_3 (iblk m c 0 t) (iblk m c 1 t) (iblk m c 2 t) (ix2 r f) = res (aA m c) (aW m c) (aX m c) R n := by
  rw [out_eq, pay_at]
  unfold res
  refine congrArg₂ (· + ·) (blk_2 m c t r f R hR n hn) (Finset.sum_congr rfl fun q _ => ?_)
  rw [blk_0 m c t r q R hR, blk_1 m c t q f n hn]

/-- The output array at the end. -/
theorem final : (dats m 0 c).arrAt 3 cfg0.N = (fun i => res (aA m c) (aW m c) (aX m c) (i 0) (i 1) : Vec Ideal S8192x2048 .f32) := by
  refine (dats m 0 c).arrAt_eq_of_covers 3 _ (by decide +kernel) fun t hf y => ?_
  have e := in_3 t
  rw [after0_3]
  generalize hy : (cfg0.win 3).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  blk_simp [e]
  refine out_at m c t r d _ _ ?_ ?_ <;> blk_simp [e] <;> omega

end

/-- The reference's expression at an index. -/
theorem expr_at (A : FVec Ideal Cert.Reference6Ideal.S8192x2048 .bf16) (W : FVec Ideal Cert.Reference6Ideal.S2x2048x2048 .f32) (X : FVec Ideal Cert.Reference6Ideal.S8192x2048 .f32) (R : Fin 8192) (n : Fin 2048) :
    addf X (Host.dotGeneral Cert.Reference6Ideal.dot_S8192x2048_S2048x2048_S8192x2048_1_0_0_1_n_n none (extf .f32 A Cert.Reference6Ideal.Gen.bitsLt_bf16_f32) (shapeCast Cert.Reference6Ideal.S2048x2048 (extractStridedSlice Cert.Reference6Ideal.S1x2048x2048 ![0, 0, 0] W Cert.Reference6Ideal.Gen.slices_S2x2048x2048_S1x2048x2048_0_0_0) Cert.Reference6Ideal.Gen.shapeCasts_S1x2048x2048_S2048x2048)) (ix2 R n)
      = res A W X R n := by
  pointwise [res]

/-- The reference's result at an index. -/
theorem reference_at (m : (ℓ : Loc Cert.Reference6Ideal.nD Cert.Reference6Ideal.τ Cert.Reference6Ideal.sig) → Buf (Elt Ideal) ℓ) (ρ : Dev Cert.Reference6Ideal.nD → PrngReg) :
    θ_run Cert.Reference6Ideal.defs (onTc (τ := Cert.Reference6Ideal.τ) (Cert.Reference6Ideal.main (F := Ideal))) ⟨m, fun _ => 0, ρ⟩
      fun r => ∀ c : Dev Cert.Reference6Ideal.nD,
        (∀ (R : Fin 8192) (n : Fin 2048), (r.2.mem ((c.tc : Thread Cert.Reference6Ideal.nD Cert.Reference6Ideal.τ).loc Cert.Reference6Ideal.main_v4) : Vec Ideal S8192x2048 .f32) (ix2 R n)
            = res (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) R n)
        ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2) := by
  refine (θ_run Cert.Reference6Ideal.defs _ _).mono (fun r h c => ⟨fun R n => ?_, (h c).2⟩) (Cert.Reference6Ideal.Value.run (F := Ideal) m ρ)
  refine (congrFun (h c).1 (ix2 R n)).trans ?_
  exact expr_at _ _ _ R n

theorem frame_p : Cert.quiescent_Kernel6 := fun m ρ _ => Cert.Kernel6.Gen.frame m ρ
theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hag
  refine ⟨fun c => _, (θ_run defs _ _).mono (fun r h c => ⟨(h c).1.trans (final m c), (h c).2⟩) (Cert.Kernel6Ideal.Value.run_blocks (F := Ideal) m g), ?_⟩
  refine (θ_run Cert.Reference6Ideal.defs _ _).mono (fun r h c => ⟨funext fun i => ?_, (h c).2⟩) (reference_at m' g')
  obtain ⟨e0, e1, e2⟩ := hag c
  have h1 := (h c).1
  rw [e0, e1, e2] at h1
  exact (congrArg (r.2.mem ((c.tc : Thread Cert.Reference6Ideal.nD Cert.Reference6Ideal.τ).loc Cert.Reference6Ideal.main_v4)) (eq_ix2 (n0 := 8192) (n1 := 2048) i)).trans (h1 (i 0) (i 1))

end Cert.Oproj6

end
-- ==== Proof.Oproj7.lean ====
/-
  The output projection of the gated delta layer: each block of the output is the residual's block plus the product of the whole rows
  with the block's columns of the weights, so the output is the residual plus the product; and the call's claims.
-/
module

public import proofs.«01_k».proof.Proof.Oproj6
public import proofs.«01_k».proof.Proof.Gen.Kernel7Ideal.Value
public import proofs.«01_k».proof.Proof.Gen.Kernel7.Frame
public import proofs.«01_k».proof.Proof.Gen.Reference7Ideal.Run
public import Idealize.ShloMosaic.Lib.Pointwise
public import Idealize.ShloMosaic.Lib.Pipeline.ValueKit
public import Idealize.ShloMosaic.Adequacy

@[expose] public section

set_option maxRecDepth 16384

noncomputable section

namespace Cert.Oproj7

open Cert.Kernel7Ideal Cert.Kernel7Ideal.Gen
open Idealize.ShloMosaic Idealize.ShloMosaic.TcCoe Idealize.SL.Sem
open Idealize.ShloMosaic.Pipeline (Dat)

/-- The result at row `R`, column `n`. -/
def res (A : Vec Ideal S8192x4096 .bf16) (W : Vec Ideal S1x4096x2048 .f32) (X : Vec Ideal S8192x2048 .f32) (R : Fin 8192) (n : Fin 2048) : EReal :=
  X (ix2 R n) + ∑ q, A (ix2 R q) * W (ix3 0 q n)

theorem pay_at (x : Vec Ideal S1024x512 .f32) (a : Vec Ideal S1024x4096 .bf16) (w : Vec Ideal S1x4096x512 .f32) (r : Fin 1024) (f : Fin 512) :
    k0_pay1 x a w (ix2 r f) = x (ix2 r f) + ∑ q, a (ix2 r q) * w (ix3 0 q f) := by
  pointwise [k0_pay1]

theorem in_0 (t : Fin cfg0.N) : win0_0.index t = ![t.val / 4, 0] := by revert t; decide +kernel
theorem in_1 (t : Fin cfg0.N) : win0_1.index t = ![0, 0, t.val % 4] := by revert t; decide +kernel
theorem in_2 (t : Fin cfg0.N) : win0_2.index t = ![t.val / 4, t.val % 4] := by revert t; decide +kernel
theorem in_3 (t : Fin cfg0.N) : win0_3.index t = ![t.val / 4, t.val % 4] := by revert t; decide +kernel

section
variable (m : (ℓ : Loc nD τ sig) → Buf (Elt Ideal) ℓ) (c : Dev nD)

abbrev aA : Vec Ideal S8192x4096 .bf16 := m ((c.tc : Thread nD τ).loc main_arg0)
abbrev aW : Vec Ideal S1x4096x2048 .f32 := m ((c.tc : Thread nD τ).loc main_arg1)
abbrev aX : Vec Ideal S8192x2048 .f32 := m ((c.tc : Thread nD τ).loc main_arg2)

theorem blk_0 (t : Fin cfg0.N) (r : Fin 1024) (k : Fin 4096) (R : Fin 8192) (hR : R.val = 1024 * (t.val / 4) + r.val) :
    iblk m c 0 t (ix2 r k) = aA m c (ix2 R k) := by
  have e := in_0 t
  blk_ext [iblk, V, e]
theorem blk_1 (t : Fin cfg0.N) (q : Fin 4096) (f : Fin 512) (n : Fin 2048) (hn : n.val = 512 * (t.val % 4) + f.val) :
    iblk m c 1 t (ix3 0 q f) = aW m c (ix3 0 q n) := by
  have e := in_1 t
  blk_ext [iblk, V, e]
theorem blk_2 (t : Fin cfg0.N) (r : Fin 1024) (f : Fin 512) (R : Fin 8192) (hR : R.val = 1024 * (t.val / 4) + r.val)
    (n : Fin 2048) (hn : n.val = 512 * (t.val % 4) + f.val) : iblk m c 2 t (ix2 r f) = aX m c (ix2 R n) := by
  have e := in_2 t
  blk_ext [iblk, V, e]

theorem z2 : (![0, 0] : Fin 2 → Nat) = fun _ => 0 := funext fun a => by fin_cases a <;> rfl
theorem z3 : (![0, 0, 0] : Fin 3 → Nat) = fun _ => 0 := funext fun a => by fin_cases a <;> rfl

theorem out_eq (a : Vec Ideal S1024x4096 .bf16) (w : Vec Ideal S1x4096x512 .f32) (x : Vec Ideal S1024x512 .f32) :
    out0_3 a w x = k0_pay1 x a w := by
  unfold out0_3
  rw [View.canon_unit_zero z2]
  simp only [View.ld_unit_zero (S := S1024x512) z2, View.ld_unit_zero (S := S1024x4096) z2, View.ld_unit_zero (S := S1x4096x512) z3]

theorem out_at (t : Fin cfg0.N) (r : Fin 1024) (f : Fin 512) (R : Fin 8192) (n : Fin 2048) (hR : R.val = 1024 * (t.val / 4) + r.val)
    (hn : n.val = 512 * (t.val % 4) + f.val) :
    out0_3 (iblk m c 0 t) (iblk m c 1 t) (iblk m c 2 t) (ix2 r f) = res (aA m c) (aW m c) (aX m c) R n := by
  rw [out_eq, pay_at]
  unfold res
  refine congrArg₂ (· + ·) (blk_2 m c t r f R hR n hn) (Finset.sum_congr rfl fun q _ => ?_)
  rw [blk_0 m c t r q R hR, blk_1 m c t q f n hn]

/-- The output array at the end. -/
theorem final : (dats m 0 c).arrAt 3 cfg0.N = (fun i => res (aA m c) (aW m c) (aX m c) (i 0) (i 1) : Vec Ideal S8192x2048 .f32) := by
  refine (dats m 0 c).arrAt_eq_of_covers 3 _ (by decide +kernel) fun t hf y => ?_
  have e := in_3 t
  rw [after0_3]
  generalize hy : (cfg0.win 3).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  blk_simp [e]
  refine out_at m c t r d _ _ ?_ ?_ <;> blk_simp [e] <;> omega

end

/-- The reference's expression at an index. -/
theorem expr_at (A : FVec Ideal Cert.Reference7Ideal.S8192x4096 .bf16) (W : FVec Ideal Cert.Reference7Ideal.S1x4096x2048 .f32) (X : FVec Ideal Cert.Reference7Ideal.S8192x2048 .f32) (R : Fin 8192) (n : Fin 2048) :
    addf X (Host.dotGeneral Cert.Reference7Ideal.dot_S8192x4096_S4096x2048_S8192x2048_1_0_0_1_n_n none (extf .f32 A Cert.Reference7Ideal.Gen.bitsLt_bf16_f32) (shapeCast Cert.Reference7Ideal.S4096x2048 W Cert.Reference7Ideal.Gen.shapeCasts_S1x4096x2048_S4096x2048)) (ix2 R n)
      = res A W X R n := by
  pointwise [res]

/-- The reference's result at an index. -/
theorem reference_at (m : (ℓ : Loc Cert.Reference7Ideal.nD Cert.Reference7Ideal.τ Cert.Reference7Ideal.sig) → Buf (Elt Ideal) ℓ) (ρ : Dev Cert.Reference7Ideal.nD → PrngReg) :
    θ_run Cert.Reference7Ideal.defs (onTc (τ := Cert.Reference7Ideal.τ) (Cert.Reference7Ideal.main (F := Ideal))) ⟨m, fun _ => 0, ρ⟩
      fun r => ∀ c : Dev Cert.Reference7Ideal.nD,
        (∀ (R : Fin 8192) (n : Fin 2048), (r.2.mem ((c.tc : Thread Cert.Reference7Ideal.nD Cert.Reference7Ideal.τ).loc Cert.Reference7Ideal.main_v3) : Vec Ideal S8192x2048 .f32) (ix2 R n)
            = res (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) R n)
        ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2) := by
  refine (θ_run Cert.Reference7Ideal.defs _ _).mono (fun r h c => ⟨fun R n => ?_, (h c).2⟩) (Cert.Reference7Ideal.Value.run (F := Ideal) m ρ)
  refine (congrFun (h c).1 (ix2 R n)).trans ?_
  exact expr_at _ _ _ R n

theorem frame_p : Cert.quiescent_Kernel7 := fun m ρ _ => Cert.Kernel7.Gen.frame m ρ
theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m g m' g' _ hag
  refine ⟨fun c => _, (θ_run defs _ _).mono (fun r h c => ⟨(h c).1.trans (final m c), (h c).2⟩) (Cert.Kernel7Ideal.Value.run_blocks (F := Ideal) m g), ?_⟩
  refine (θ_run Cert.Reference7Ideal.defs _ _).mono (fun r h c => ⟨funext fun i => ?_, (h c).2⟩) (reference_at m' g')
  obtain ⟨e0, e1, e2⟩ := hag c
  have h1 := (h c).1
  rw [e0, e1, e2] at h1
  exact (congrArg (r.2.mem ((c.tc : Thread Cert.Reference7Ideal.nD Cert.Reference7Ideal.τ).loc Cert.Reference7Ideal.main_v3)) (eq_ix2 (n0 := 8192) (n1 := 2048) i)).trans (h1 (i 0) (i 1))

end Cert.Oproj7

end
-- ==== Proof.Oproj8.lean ====
/-
  The output projection of the matrix memory layer: each block of the output is the residual's block plus the product of the whole rows
  with the block's columns of the weights, so the output is the residual plus the product; and the call's claims.
-/
module

public import proofs.«01_k».proof.Proof.Oproj7
public import proofs.«01_k».proof.Proof.Gen.Kernel8Ideal.Value
public import proofs.«01_k».proof.Proof.Gen.Kernel8.Frame
public import proofs.«01_k».proof.Proof.Gen.Reference8Ideal.Run
public import Idealize.ShloMosaic.Lib.Pointwise
public import Idealize.ShloMosaic.Lib.Pipeline.ValueKit
public import Idealize.ShloMosaic.Adequacy

@[expose] public section

set_option maxRecDepth 16384

noncomputable section

namespace Cert.Oproj8

open Cert.Kernel8Ideal Cert.Kernel8Ideal.Gen
open Idealize.ShloMosaic Idealize.ShloMosaic.TcCoe Idealize.SL.Sem
open Idealize.ShloMosaic.Pipeline (Dat)

/-- The result at row `R`, column `n`. -/
def res (A : Vec Ideal S8192x2048 .bf16) (W : Vec Ideal S1x2048x2048 .f32) (X : Vec Ideal S8192x2048 .f32) (R : Fin 8192) (n : Fin 2048) : EReal :=
  X (ix2 R n) + ∑ q, A (ix2 R q) * W (ix3 0 q n)

theorem pay_at (x : Vec Ideal S1024x512 .f32) (a : Vec Ideal S1024x2048 .bf16) (w : Vec Ideal S1x2048x512 .f32) (r : Fin 1024) (f : Fin 512) :
    k0_pay1 x a w (ix2 r f) = x (ix2 r f) + ∑ q, a (ix2 r q) * w (ix3 0 q f) := by
  pointwise [k0_pay1]

theorem in_0 (t : Fin cfg0.N) : win0_0.index t = ![t.val / 4, 0] := by revert t; decide +kernel
theorem in_1 (t : Fin cfg0.N) : win0_1.index t = ![0, 0, t.val % 4] := by revert t; decide +kernel
theorem in_2 (t : Fin cfg0.N) : win0_2.index t = ![t.val / 4, t.val % 4] := by revert t; decide +kernel
theorem in_3 (t : Fin cfg0.N) : win0_3.index t = ![t.val / 4, t.val % 4] := by revert t; decide +kernel

section
variable (m : (ℓ : Loc nD τ sig) → Buf (Elt Ideal) ℓ) (c : Dev nD)

abbrev aA : Vec Ideal S8192x2048 .bf16 := m ((c.tc : Thread nD τ).loc main_arg0)
abbrev aW : Vec Ideal S1x2048x2048 .f32 := m ((c.tc : Thread nD τ).loc main_arg1)
abbrev aX : Vec Ideal S8192x2048 .f32 := m ((c.tc : Thread nD τ).loc main_arg2)

theorem blk_0 (t : Fin cfg0.N) (r : Fin 1024) (k : Fin 2048) (R : Fin 8192) (hR : R.val = 1024 * (t.val / 4) + r.val) :
    iblk m c 0 t (ix2 r k) = aA m c (ix2 R k) := by
  have e := in_0 t
  blk_ext [iblk, V, e]
theorem blk_1 (t : Fin cfg0.N) (q : Fin 2048) (f : Fin 512) (n : Fin 2048) (hn : n.val = 512 * (t.val % 4) + f.val) :
    iblk m c 1 t (ix3 0 q f) = aW m c (ix3 0 q n) := by
  have e := in_1 t
  blk_ext [iblk, V, e]
theorem blk_2 (t : Fin cfg0.N) (r : Fin 1024) (f : Fin 512) (R : Fin 8192) (hR : R.val = 1024 * (t.val / 4) + r.val)
    (n : Fin 2048) (hn : n.val = 512 * (t.val % 4) + f.val) : iblk m c 2 t (ix2 r f) = aX m c (ix2 R n) := by
  have e := in_2 t
  blk_ext [iblk, V, e]

theorem z2 : (![0, 0] : Fin 2 → Nat) = fun _ => 0 := funext fun a => by fin_cases a <;> rfl
theorem z3 : (![0, 0, 0] : Fin 3 → Nat) = fun _ => 0 := funext fun a => by fin_cases a <;> rfl

theorem out_eq (a : Vec Ideal S1024x2048 .bf16) (w : Vec Ideal S1x2048x512 .f32) (x : Vec Ideal S1024x512 .f32) :
    out0_3 a w x = k0_pay1 x a w := by
  unfold out0_3
  rw [View.canon_unit_zero z2]
  simp only [View.ld_unit_zero (S := S1024x512) z2, View.ld_unit_zero (S := S1024x2048) z2, View.ld_unit_zero (S := S1x2048x512) z3]

theorem out_at (t : Fin cfg0.N) (r : Fin 1024) (f : Fin 512) (R : Fin 8192) (n : Fin 2048) (hR : R.val = 1024 * (t.val / 4) + r.val)
    (hn : n.val = 512 * (t.val % 4) + f.val) :
    out0_3 (iblk m c 0 t) (iblk m c 1 t) (iblk m c 2 t) (ix2 r f) = res (aA m c) (aW m c) (aX m c) R n := by
  rw [out_eq, pay_at]
  unfold res
  refine congrArg₂ (· + ·) (blk_2 m c t r f R hR n hn) (Finset.sum_congr rfl fun q _ => ?_)
  rw [blk_0 m c t r q R hR, blk_1 m c t q f n hn]

/-- The output array at the end. -/
theorem final : (dats m 0 c).arrAt 3 cfg0.N = (fun i => res (aA m c) (aW m c) (aX m c) (i 0) (i 1) : Vec Ideal S8192x2048 .f32) := by
  refine (dats m 0 c).arrAt_eq_of_covers 3 _ (by decide +kernel) fun t hf y => ?_
  have e := in_3 t
  rw [after0_3]
  generalize hy : (cfg0.win 3).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  blk_simp [e]
  refine out_at m c t r d _ _ ?_ ?_ <;> blk_simp [e] <;> omega

end

/-- The reference's expression at an index. -/
theorem expr_at (A : FVec Ideal Cert.Reference8Ideal.S8192x2048 .bf16) (W : FVec Ideal Cert.Reference8Ideal.S1x2048x2048 .f32) (X : FVec Ideal Cert.Reference8Ideal.S8192x2048 .f32) (R : Fin 8192) (n : Fin 2048) :
    addf X (Host.dotGeneral Cert.Reference8Ideal.dot_S8192x2048_S2048x2048_S8192x2048_1_0_0_1_n_n none (extf .f32 A Cert.Reference8Ideal.Gen.bitsLt_bf16_f32) (shapeCast Cert.Reference8Ideal.S2048x2048 W Cert.Reference8Ideal.Gen.shapeCasts_S1x2048x2048_S2048x2048)) (ix2 R n)
      = res A W X R n := by
  pointwise [res]

/-- The reference's result at an index. -/
theorem reference_at (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩
      fun r => ∀ c : Dev Cert.Reference8Ideal.nD,
        (∀ (R : Fin 8192) (n : Fin 2048), (r.2.mem ((c.tc : Thread Cert.Reference8Ideal.nD Cert.Reference8Ideal.τ).loc Cert.Reference8Ideal.main_v3) : Vec Ideal S8192x2048 .f32) (ix2 R n)
            = res (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) R n)
        ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2) := by
  refine (θ_run Cert.Reference8Ideal.defs _ _).mono (fun r h c => ⟨fun R n => ?_, (h c).2⟩) (Cert.Reference8Ideal.Value.run (F := Ideal) m ρ)
  refine (congrFun (h c).1 (ix2 R n)).trans ?_
  exact expr_at _ _ _ R n

theorem frame_p : Cert.quiescent_Kernel8 := fun m ρ _ => Cert.Kernel8.Gen.frame m ρ
theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m g m' g' _ hag
  refine ⟨fun c => _, (θ_run defs _ _).mono (fun r h c => ⟨(h c).1.trans (final m c), (h c).2⟩) (Cert.Kernel8Ideal.Value.run_blocks (F := Ideal) m g), ?_⟩
  refine (θ_run Cert.Reference8Ideal.defs _ _).mono (fun r h c => ⟨funext fun i => ?_, (h c).2⟩) (reference_at m' g')
  obtain ⟨e0, e1, e2⟩ := hag c
  have h1 := (h c).1
  rw [e0, e1, e2] at h1
  exact (congrArg (r.2.mem ((c.tc : Thread Cert.Reference8Ideal.nD Cert.Reference8Ideal.τ).loc Cert.Reference8Ideal.main_v3)) (eq_ix2 (n0 := 8192) (n1 := 2048) i)).trans (h1 (i 0) (i 1))

end Cert.Oproj8

end
-- ==== Proof.Proj4.lean ====
/-
  The gated delta layer's input projection, one grid point at a time and then over the grid: the first column step of a row block normalises the rows
  into the carried scratch and writes the tail's product, and every step writes one block of columns of the product of
  the normalised rows with the weights.
-/
module

public import proofs.«01_k».proof.Proof.Oproj8
public import proofs.«01_k».proof.Proof.Gen.Kernel4Ideal.Frame
public import proofs.«01_k».proof.Proof.Gen.Kernel4Ideal.Skeleton
public import Idealize.ShloMosaic.Lib.Pipeline.TableIdle
public import Idealize.ShloMosaic.Lib.Pipeline.Value
public import Idealize.ShloMosaic.Lib.Claim

@[expose] public section

set_option maxRecDepth 16384

noncomputable section

namespace Cert.Proj4

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- A buffer stored whole by one store holds what was stored. -/
theorem read_whole {S : Shape} {e : EltTy} {κ : Kind} {sp : Space} (v : View sig κ sp S e) (f : v.ty.Contents (Elt F)) {o : Fin S.rank → Nat} (ho : o = fun _ => 0)
    (inb : ∀ a, o a + S.size a ≤ S.size a) (p : S.Idx → Elt F e) :
    v.read (Elt F) (v.writes (Elt F) f [⟨Rect.unit (s := S) o S.size inb, p⟩]) = p := by
  rw [View.read_writes_eq_canon _ _ _ (fun y => ⟨_, List.mem_singleton.2 rfl, by rw [Rect.mem_set_unit]; subst ho; exact fun a => ⟨Nat.zero_le _, by simpa using (y a).isLt⟩⟩)]
  exact View.canon_unit_zero ho _ _

section Runs

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S2048x128 .f32) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x2048 .bf16) (harg8 : arg8.IsWhole)

set_option maxHeartbeats 2000000 in
/-- The first column step of a row block. -/
theorem run_A (h1 : k0_cond1 i = 1#1) (x : Vec F S1024x2048 .f32) (g : Vec F S1x2048 .f32) (w : Vec F S1x2048x512 .f32) (wt : Vec F S2048x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wt ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare (k0_pay4 (k0_pay2 x g) w) ∗ owns (c : Thread nD τ) arg7 fullShare (k0_pay3 x g wt) ∗ owns (c : Thread nD τ) arg8 fullShare (k0_pay2 x g)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x128) z2]
    exact read_whole _ _ z2 _ _
  isplitl [H7]
  · iexists _; isplitr; swap; · iexact H7
    ipureintro
    try sl_unfold_words
    simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x128) z2]
    exact read_whole _ _ z2 _ _
  iexists _; isplitr; swap; · iexact H8
  ipureintro
  try sl_unfold_words
  simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x128) z2]
  exact read_whole _ _ z2 _ _

set_option maxHeartbeats 2000000 in
/-- Any other column step. -/
theorem run_B (h1 : ¬k0_cond1 i = 1#1) (w : Vec F S1x2048x512 .f32) (xs : Vec F S1024x2048 .bf16) (E : Set ℕ) (K : PUnit → sProp 𝕄) :
    iprop(owns (c : Thread nD τ) arg4 fullShare w ∗ owns (c : Thread nD τ) arg8 fullShare xs ∗ (∃ d, owns (c : Thread nD τ) arg6 fullShare d)
        ∗ (iprop(owns (c : Thread nD τ) arg4 fullShare w ∗ owns (c : Thread nD τ) arg8 fullShare xs ∗ owns (c : Thread nD τ) arg6 fullShare (k0_pay4 xs w)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f4, %hf4, H4⟩, ⟨%f8, %hf8, H8⟩, ⟨%d6, %f6, -, H6⟩, Hk⟩
  obtain rfl := harg4.eq_unread hf4; obtain rfl := harg8.eq_unread hf8
  sl_exec (disch := first | sl_exact h1)
  sl_step
  iapply Hk
  isplitl [H4]
  · iexists _; isplitr; · ipureintro; exact harg4.read_unread _
    iexact H4
  isplitl [H8]
  · iexists _; isplitr; · ipureintro; exact harg8.read_unread _
    iexact H8
  iexists _; isplitr; swap; · iexact H6
  ipureintro
  try sl_unfold_words
  simp only [View.readCov_unit_zero (S := S1024x2048) _ z2, View.readAt_eq_ld, harg4.read_unread, harg8.read_unread, View.ld_unit_zero (S := S1024x2048) z2, View.ld_unit_zero (S := S1x2048x512) z3, View.ld_unit_zero (S := S1x2048) z2, View.ld_unit_zero (S := S2048x128) z2]
  exact read_whole _ _ z2 _ _

end Runs

variable (m : (ℓ : Loc nD τ sig) → Buf (Elt F) ℓ) (ρ : Dev nD → PrngReg)

/-! ## The points -/

/-- The first point of `t`'s row block. -/
def pt (t : Fin cfg0.N) : Fin cfg0.N :=
  ⟨24 * (t.val / 24), by
    have h : cfg0.N = 192 := N_0
    have := t.isLt; omega⟩

theorem pt_live (t : Fin cfg0.N) (h : t.val % 24 = 0) : pt t = t :=
  Fin.ext (by simp only [pt]; omega)

theorem pt_pred (t : Fin cfg0.N) (h : t.val % 24 ≠ 0) (hp : t.val - 1 < cfg0.N) :
    pt t = pt ⟨t.val - 1, hp⟩ := Fin.ext (by simp only [pt]; omega)

theorem cond_1 : ∀ t : Fin grid0.N, k0_cond1 (grid0.coords t) = 1#1 ↔ t.val % 24 = 0 := by decide +kernel

/-- The column block is stored at every point. -/
theorem idle_4 : ∀ t : Fin cfg0.N, cfg0.idle 4 (cfg0.grid.coords t) = false :=
  (by decide +kernel : ∀ t : Fin grid0.N, idle0 4 (grid0.coords t) = false)
/-- The tail's block at a row block's first point only, and written back at its last. -/
theorem idle_5 : ∀ t : Fin cfg0.N, cfg0.idle 5 (cfg0.grid.coords t) = !decide (t.val % 24 = 0) :=
  (by decide +kernel : ∀ t : Fin grid0.N, idle0 5 (grid0.coords t) = !decide (t.val % 24 = 0))
theorem fstep_5 : ∀ t : Fin cfg0.N, decide ((t.val + 1) % 24 ≤ 0) = ((cfg0.win 5).flush t || (cfg0.idle 5 (cfg0.grid.coords t) && decide (t.val % 24 ≤ 0))) := by decide +kernel
theorem fresh_5 (n : ℕ) (h : n ≤ cfg0.N) : cfg0.fresh 5 n = decide (n % 24 ≤ 0) :=
  cfg0.fresh_tab 5 (fun n => decide (n % 24 ≤ 0)) (by decide) fstep_5 n h

/-! ## What the buffers hold -/

/-- The normalised rows in the scratch, from a row block's first point on. -/
def xnAt (c : Dev nD) (t : Fin cfg0.N) : Vec F S1024x2048 .bf16 := k0_pay2 (iblk m c 0 (pt t)) (iblk m c 1 (pt t))
/-- The column block. -/
def oz (c : Dev nD) (t : Fin cfg0.N) : Vec F S1024x512 .f32 := k0_pay4 (xnAt m c t) (X0_2 m c t)
/-- The tail's block. -/
def ot (c : Dev nD) (t : Fin cfg0.N) : Vec F S1024x128 .f32 := k0_pay3 (iblk m c 0 t) (iblk m c 1 t) (iblk m c 3 t)

theorem xnAt_start (c : Dev nD) (t : Fin cfg0.N) (h : t.val % 24 = 0) : xnAt m c t = k0_pay2 (iblk m c 0 t) (iblk m c 1 t) := by
  unfold xnAt; rw [pt_live t h]

theorem xnAt_pred (c : Dev nD) (t : Fin cfg0.N) (h : t.val % 24 ≠ 0) (hp : t.val - 1 < cfg0.N) : xnAt m c ⟨t.val - 1, hp⟩ = xnAt m c t := by
  unfold xnAt; rw [pt_pred t h hp]

/-! ## The invariant -/

/-- The scratch, whole. -/
abbrev scr : Memref sig .tc .vmem S1024x2048 .bf16 := Memref.whole cc0_scratch0

theorem PhiA_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before the first point the scratch holds anything; afterwards the normalised rows of the point before. -/
def Inv (c : Dev nD) : (n : ℕ) → n ≤ cfg0.N → sProp 𝕄
  | 0, _ => Pipeline.ΦA spec0 c
  | n + 1, hn => iprop(iprop(owns (c : Thread nD τ) scr fullShare (xnAt m c ⟨n, hn⟩)) ∗ (∃ r, prngReg c r))

theorem Inv_succ (c : Dev nD) (n : ℕ) (hn : n < cfg0.N) :
    Inv m c (n + 1) hn = iprop(iprop(owns (c : Thread nD τ) scr fullShare (xnAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scr fullShare (xnAt m c ⟨n - 1, by omega⟩)) ∗ (∃ r, prngReg c r)) := by
  cases n with
  | zero => exact absurd rfl hz
  | succ n => rfl

theorem Inv_any (c : Dev nD) (n : ℕ) (h : n ≤ cfg0.N) : Inv m c n h ⊢ (iprop(iprop((∃ d, owns (c : Thread nD τ) scr fullShare d)) ∗ (∃ r, prngReg c r)) : sProp 𝕄) := by
  cases n with
  | zero => rw [← PhiA_eq]; exact Idealize.SL.BI.Entails.refl _
  | succ n =>
    rw [Inv_succ]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => oz m c t
    | ⟨5, _⟩ => ot m c (pt t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = oz m c t := by dsimp only [dats]
theorem after_5 (c : Dev nD) (t : Fin cfg0.N) : (dats m 0 c).after 5 t = ot m c (pt t) := by dsimp only [dats]

theorem before_5 (c : Dev nD) (t : Fin cfg0.N) (d) (h : 0 < t.val % 24) : (dats m 0 c).before 5 t d = (dats m 0 c).after 5 t := by
  have hc : ∀ (t : Fin cfg0.N), 0 < t.val % 24 → ∀ hp : t.val - 1 < cfg0.N, (dats m 0 c).after 5 t = (dats m 0 c).after 5 ⟨t.val - 1, hp⟩ := fun t h hp => by
    rw [after_5, after_5]; exact congrArg (ot m c) (pt_pred t (by omega) hp)
  rw [Dat.before_out_traj (dats m 0 c) 5 rfl (fun _ _ => rfl)
    (fun t ht hi hf => hc t (by rw [fresh_5 _ (le_of_lt t.isLt)] at hf; have := of_decide_eq_false hf; omega) _) t.val t rfl d,
    fresh_5 _ (le_of_lt t.isLt), if_neg (by rw [decide_eq_true_iff]; omega)]
  exact (hc t h _).symm

theorem leave_4 (c : Dev nD) (t : Fin cfg0.N) : owns (c : Thread nD τ) (st0_4 t) fullShare (oz m c t) ⊢ (dats m 0 c).leavesExact 4 t := by
  unfold Dat.leavesExact; rw [idle_4, after_4]

theorem leave_5 (c : Dev nD) (t : Fin cfg0.N) (h : t.val % 24 = 0) :
    owns (c : Thread nD τ) (st0_5 t) fullShare (ot m c t) ⊢ (dats m 0 c).leavesExact 5 t := by
  unfold Dat.leavesExact; rw [idle_5, decide_eq_true h, after_5, pt_live t h]; exact Idealize.SL.BI.Entails.refl _

theorem pass_5 (c : Dev nD) (t : Fin cfg0.N) (d) (h : t.val % 24 ≠ 0) :
    owns (c : Thread nD τ) (st0_5 t) fullShare ((dats m 0 c).before 5 t d) ⊢ (dats m 0 c).leavesExact 5 t := by
  have hi : cfg0.idle 5 (cfg0.grid.coords t) = true := by rw [idle_5, decide_eq_false h]; rfl
  unfold Dat.leavesExact; rw [hi]
  cases hf : (cfg0.win 5).flush t
  · iintro H; iexists d; iexact H
  · rw [before_5 m c t d (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 3200000 in
/-- The body at the first column step. -/
theorem body_A (c : Dev nD) (t : Fin cfg0.N) (h : t.val % 24 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  iintro ⟨HP, Ho, ⟨%d0, H0⟩, ⟨%d1, H1⟩, ⟨%d2, H2⟩, ⟨%d3, H3⟩, ⟨%d4, H4⟩, ⟨%d5, H5⟩⟩
  ihave HP' := (Inv_any m c _ _) $$ HP
  icases HP' with ⟨HS, Hg⟩
  iapply (run_A c (grid0.coords t) _ _ _ _ _ _ _ _ _ _ _ _ _ _ ((cond_1 t).mpr (by omega)) (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · rw [xnAt_start m c t h]; iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; rw [xnAt_start m c t h]; iexact H4
  iapply (leave_5 m c t h); unfold ot; iexact H5

set_option maxHeartbeats 3200000 in
/-- The body at another column step. -/
theorem body_B (c : Dev nD) (t : Fin cfg0.N) (h : t.val % 24 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ _ _ _ _ _ _ (fun e => absurd ((cond_1 t).mp e) (by omega)) (X0_2 m c t) (xnAt m c t) Set.univ _)
  isplitl [H2]; · iexact H2
  isplitl [HS]; · iexact HS
  isplitl [H4]; · iexists _; iexact H4
  iintro ⟨H2, HS, H4⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; iexact H4
  iapply (pass_5 m c t d5 h); iexact H5

theorem sound_body (c : Dev nD) (t : Fin cfg0.N) :
    bodyPre m c t ⊢ wp frame (wpE (defs₀ (F := F)) Variants.none c none) Set.univ (bodyAt0 t) (fun _ => bodyPost m c t) := by
  by_cases h : t.val % 24 = 0
  · exact body_A m c t h
  · exact body_B m c t h

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

/-! ## The run -/

set_option backward.isDefEq.respectTransparency.types false in
/-- Every run ends, with the arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proj4

end
-- ==== Proof.Proj4Claim.lean ====
/-
  The gated delta layer's input projection: each output at an index, as the normalised row times one column of the weights; and the call's claims.
-/
module

public import proofs.«01_k».proof.Proof.Proj4Bits
public import proofs.«01_k».proof.Proof.Gen.Reference4Ideal.Run
public import Idealize.ShloMosaic.Lib.Pointwise
public import Idealize.ShloMosaic.Lib.Pipeline.ValueKit
public import Idealize.ShloMosaic.Adequacy

@[expose] public section

set_option maxRecDepth 16384

noncomputable section

namespace Cert.Proj4Claim

open Cert.Kernel4Ideal Cert.Kernel4Ideal.Gen Cert.Proj4
open Idealize.ShloMosaic Idealize.ShloMosaic.TcCoe Idealize.SL.Sem
open Idealize.ShloMosaic.Pipeline (Dat)

/-! ## The layer's mathematics -/

/-- The normalised row `R` at feature `k`. -/
def nrm (X : Vec Ideal S8192x2048 .f32) (G : Vec Ideal S1x2048 .f32) (R : Fin 8192) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- Row `R` projected on column `n` of the weights. -/
def pz (X : Vec Ideal S8192x2048 .f32) (G : Vec Ideal S1x2048 .f32) (W : Vec Ideal S1x2048x12352 .f32) (R : Fin 8192) (n : Fin 12288) : EReal :=
  ∑ q, nrm X G R q * W (ix3 0 q ⟨n.val, by have := n.isLt; omega⟩)

/-- Row `R` projected on column `d` of the tail's weights. -/
def tl (X : Vec Ideal S8192x2048 .f32) (G : Vec Ideal S1x2048 .f32) (T : Vec Ideal S2048x128 .f32) (R : Fin 8192) (d : Fin 128) : EReal :=
  ∑ q, nrm X G R q * T (ix2 q d)

/-! ## The payloads at an index -/

theorem rows_pay (x : Vec Ideal S1024x2048 .f32) (g : Vec Ideal S1x2048 .f32) (r : Fin 1024) (k : Fin 2048) :
    k0_pay1 (F := Ideal) x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay1]

theorem scr_pay (x : Vec Ideal S1024x2048 .f32) (g : Vec Ideal S1x2048 .f32) (r : Fin 1024) (k : Fin 2048) :
    k0_pay2 (F := Ideal) x g (ix2 r k) = k0_pay1 (F := Ideal) x g (ix2 r k) := by
  pointwise [k0_pay2]

theorem acc_pay (xs : Vec Ideal S1024x2048 .bf16) (w : Vec Ideal S1x2048x512 .f32) (r : Fin 1024) (f : Fin 512) :
    k0_pay4 xs w (ix2 r f) = ∑ q, xs (ix2 r q) * w (ix3 0 q f) := by
  pointwise [k0_pay4]

theorem tail_pay (x : Vec Ideal S1024x2048 .f32) (g : Vec Ideal S1x2048 .f32) (wt : Vec Ideal S2048x128 .f32) (r : Fin 1024) (d : Fin 128) :
    k0_pay3 x g wt (ix2 r d) = ∑ q, k0_pay1 (F := Ideal) x g (ix2 r q) * wt (ix2 q d) := by
  pointwise [k0_pay3]

/-! ## The blocks as parts of the arrays -/

theorem in_0 (t : Fin cfg0.N) : win0_0.index t = ![t.val / 24, 0] := by revert t; decide +kernel
theorem in_1 (t : Fin cfg0.N) : win0_1.index t = ![0, 0] := by revert t; decide +kernel
theorem in_2 (t : Fin cfg0.N) : win0_2.index t = ![0, 0, t.val % 24] := by revert t; decide +kernel
theorem in_3 (t : Fin cfg0.N) : win0_3.index t = ![0, 0] := by revert t; decide +kernel
theorem at_4 (t : Fin cfg0.N) : win0_4.index t = ![t.val / 24, t.val % 24] := by revert t; decide +kernel
theorem at_5 (t : Fin cfg0.N) : win0_5.index t = ![t.val / 24, 0] := by revert t; decide +kernel

section
variable (m : (ℓ : Loc nD τ sig) → Buf (Elt Ideal) ℓ) (c : Dev nD)

abbrev Xa : Vec Ideal S8192x2048 .f32 := m ((c.tc : Thread nD τ).loc main_arg0)
abbrev Ga : Vec Ideal S1x2048 .f32 := m ((c.tc : Thread nD τ).loc main_arg1)
abbrev Wa : Vec Ideal S1x2048x12352 .f32 := m ((c.tc : Thread nD τ).loc main_arg2)
abbrev Ta : Vec Ideal S2048x128 .f32 := m ((c.tc : Thread nD τ).loc main_arg3)

theorem blk_0 (t : Fin cfg0.N) (r : Fin 1024) (k : Fin 2048) (R : Fin 8192) (hR : R.val = 1024 * (t.val / 24) + r.val) :
    iblk m c 0 t (ix2 r k) = Xa m c (ix2 R k) := by
  have e := in_0 t
  blk_ext [iblk, V, e]
theorem blk_2 (t : Fin cfg0.N) (q : Fin 2048) (f : Fin 512) (f' : Fin 12352) (hf : f'.val = 512 * (t.val % 24) + f.val) :
    X0_2 m c t (ix3 0 q f) = Wa m c (ix3 0 q f') := by
  have e := in_2 t
  unfold X0_2 Pipeline.Window.fill
  rw [dif_pos (moved0_2 t _)]
  blk_ext [iblk, V, e]
theorem blk_1 (t : Fin cfg0.N) (i : S1x2048.Idx) : iblk m c 1 t i = Ga m c i := by
  have e := in_1 t
  blk_ext [iblk, V, e]
theorem blk_3 (t : Fin cfg0.N) (i : S2048x128.Idx) : iblk m c 3 t i = Ta m c i := by
  have e := in_3 t
  blk_ext [iblk, V, e]

/-! ## What a point computes -/

theorem rows_at (t : Fin cfg0.N) (r : Fin 1024) (k : Fin 2048) (R : Fin 8192) (hR : R.val = 1024 * (t.val / 24) + r.val) :
    k0_pay1 (F := Ideal) (iblk m c 0 t) (iblk m c 1 t) (ix2 r k) = nrm (Xa m c) (Ga m c) R k := by
  unfold nrm
  rw [rows_pay]
  simp only [blk_0 m c t r _ R hR, blk_1 m c t]

theorem xn_at (t : Fin cfg0.N) (r : Fin 1024) (k : Fin 2048) (R : Fin 8192) (hR : R.val = 1024 * (t.val / 24) + r.val) :
    xnAt m c t (ix2 r k) = nrm (Xa m c) (Ga m c) R k := by
  unfold xnAt
  rw [scr_pay]
  exact rows_at m c (pt t) r k R (by simp only [pt]; omega)

theorem oz_at (t : Fin cfg0.N) (r : Fin 1024) (f : Fin 512) (R : Fin 8192) (n : Fin 12288) (hR : R.val = 1024 * (t.val / 24) + r.val)
    (hn : n.val = 512 * (t.val % 24) + f.val) :
    oz m c t (ix2 r f) = pz (Xa m c) (Ga m c) (Wa m c) R n := by
  unfold oz pz
  rw [acc_pay]
  refine Finset.sum_congr rfl fun q _ => ?_
  rw [xn_at m c t r q R hR, blk_2 m c t q f ⟨n.val, by have := n.isLt; omega⟩ hn]

theorem ot_at (t : Fin cfg0.N) (r : Fin 1024) (d : Fin 128) (R : Fin 8192) (hR : R.val = 1024 * (t.val / 24) + r.val) :
    ot m c t (ix2 r d) = tl (Xa m c) (Ga m c) (Ta m c) R d := by
  unfold ot tl
  rw [tail_pay]
  refine Finset.sum_congr rfl fun q _ => ?_
  rw [rows_at m c t r q R hR, blk_3 m c t]

/-! ## The outputs at the end -/

theorem arr_4 : (dats m 0 c).arrAt 4 cfg0.N = (fun i => pz (Xa m c) (Ga m c) (Wa m c) (i 0) (i 1) : Vec Ideal S8192x12288 .f32) := by
  refine (dats m 0 c).arrAt_eq_of_covers 4 _ (by decide +kernel) fun t hf y => ?_
  have e := at_4 t
  rw [after_4]
  generalize hy : (cfg0.win 4).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  blk_simp [e]
  refine oz_at m c t r d _ _ ?_ ?_ <;> blk_simp [e] <;> omega

theorem arr_5 : (dats m 0 c).arrAt 5 cfg0.N = (fun i => tl (Xa m c) (Ga m c) (Ta m c) (i 0) (i 1) : Vec Ideal S8192x128 .f32) := by
  refine (dats m 0 c).arrAt_eq_of_covers 5 _ (by decide +kernel) fun t hf y => ?_
  have e := at_5 t
  rw [after_5]
  generalize hy : (cfg0.win 5).xinj (cfg0.grid.coords t) y = z
  obtain ⟨r, d, rfl⟩ : ∃ (r : Fin 1024) (d : Fin 128), z = ix2 r d := ⟨z 0, z 1, eq_ix2 z⟩
  have h0 : (y 0).val = r.val := congrArg (fun z : S1024x128.Idx => (z 0).val) hy
  have h1 : (y 1).val = d.val := congrArg (fun z : S1024x128.Idx => (z 1).val) hy
  have hp : (pt t).val = 24 * (t.val / 24) := rfl
  blk_simp [e]
  refine (ot_at m c (pt t) r d _ ?_).trans (congrArg (tl _ _ _ _) (Fin.ext ?_)) <;> blk_simp [e] <;> omega

end

/-! ## The reference -/

/-- The reference's projection at an index. -/
theorem ref_0 (X : FVec Ideal Cert.Reference4Ideal.S8192x2048 .f32) (G : FVec Ideal Cert.Reference4Ideal.S1x2048 .f32) (W : FVec Ideal Cert.Reference4Ideal.S1x2048x12352 .f32) (R : Fin 8192) (n : Fin 12288) :
    Host.dotGeneral Cert.Reference4Ideal.dot_S8192x2048_S2048x12288_S8192x12288_1_0_0_1_n_n none (mulf (mulf X (broadcastInDim Cert.Reference4Ideal.S8192x2048 ![0, 1] Cert.Reference4Ideal.Gen.bcast_S8192x1_S8192x2048_0_1 (Host.rsqrt (addf (Host.divf (broadcastInDim Cert.Reference4Ideal.S8192x1 ![0] Cert.Reference4Ideal.Gen.bcast_S8192_S8192x1_0 (Host.reduceAdd (mulf X X) (constant Cert.Reference4Ideal.S_ .f32 0x00000000#32) Cert.Reference4Ideal.Gen.reducesTo_S8192x2048_S8192_d1 Cert.Reference4Ideal.Gen.h_S_)) (broadcastInDim Cert.Reference4Ideal.S8192x1 ![] Cert.Reference4Ideal.Gen.bcast_S_S8192x1 (constant Cert.Reference4Ideal.S_ .f32 0x45000000#32))) (broadcastInDim Cert.Reference4Ideal.S8192x1 ![] Cert.Reference4Ideal.Gen.bcast_S_S8192x1 (constant Cert.Reference4Ideal.S_ .f32 0x358637BD#32)))))) (broadcastInDim Cert.Reference4Ideal.S8192x2048 ![0, 1] Cert.Reference4Ideal.Gen.bcast_S1x2048_S8192x2048_0_1 G)) (extractStridedSlice Cert.Reference4Ideal.S2048x12288 ![0, 0] (shapeCast Cert.Reference4Ideal.S2048x12352 W Cert.Reference4Ideal.Gen.shapeCasts_S1x2048x12352_S2048x12352) Cert.Reference4Ideal.Gen.slices_S2048x12352_S2048x12288_0_0) (ix2 R n) = pz X G W R n := by
  pointwise [pz, nrm]

/-- The reference's tail at an index. -/
theorem ref_1 (X : FVec Ideal Cert.Reference4Ideal.S8192x2048 .f32) (G : FVec Ideal Cert.Reference4Ideal.S1x2048 .f32) (T : FVec Ideal Cert.Reference4Ideal.S2048x128 .f32) (R : Fin 8192) (n : Fin 128) :
    Host.dotGeneral Cert.Reference4Ideal.dot_S8192x2048_S2048x128_S8192x128_1_0_0_1_n_n none (mulf (mulf X (broadcastInDim Cert.Reference4Ideal.S8192x2048 ![0, 1] Cert.Reference4Ideal.Gen.bcast_S8192x1_S8192x2048_0_1 (Host.rsqrt (addf (Host.divf (broadcastInDim Cert.Reference4Ideal.S8192x1 ![0] Cert.Reference4Ideal.Gen.bcast_S8192_S8192x1_0 (Host.reduceAdd (mulf X X) (constant Cert.Reference4Ideal.S_ .f32 0x00000000#32) Cert.Reference4Ideal.Gen.reducesTo_S8192x2048_S8192_d1 Cert.Reference4Ideal.Gen.h_S_)) (broadcastInDim Cert.Reference4Ideal.S8192x1 ![] Cert.Reference4Ideal.Gen.bcast_S_S8192x1 (constant Cert.Reference4Ideal.S_ .f32 0x45000000#32))) (broadcastInDim Cert.Reference4Ideal.S8192x1 ![] Cert.Reference4Ideal.Gen.bcast_S_S8192x1 (constant Cert.Reference4Ideal.S_ .f32 0x358637BD#32)))))) (broadcastInDim Cert.Reference4Ideal.S8192x2048 ![0, 1] Cert.Reference4Ideal.Gen.bcast_S1x2048_S8192x2048_0_1 G)) T (ix2 R n) = tl X G T R n := by
  pointwise [tl, nrm]

/-- The reference's two outputs at an index. -/
theorem reference_at (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩
      fun r => ∀ c : Dev Cert.Reference4Ideal.nD,
        (∀ (R : Fin 8192) (n : Fin 12288), (r.2.mem ((c.tc : Thread Cert.Reference4Ideal.nD Cert.Reference4Ideal.τ).loc Cert.Reference4Ideal.main_v14) : Vec Ideal Cert.Kernel4Ideal.S8192x12288 .f32) (ix2 R n)
            = pz (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) R n)
        ∧ (∀ (R : Fin 8192) (n : Fin 128), (r.2.mem ((c.tc : Thread Cert.Reference4Ideal.nD Cert.Reference4Ideal.τ).loc Cert.Reference4Ideal.main_v15) : Vec Ideal Cert.Kernel4Ideal.S8192x128 .f32) (ix2 R n)
            = tl (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg3)) R n)
        ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) := by
  refine (θ_run Cert.Reference4Ideal.defs _ _).mono (fun r h c => ?_) (Cert.Reference4Ideal.Value.run (F := Ideal) m ρ)
  obtain ⟨h0, h1, ha⟩ := h c
  exact ⟨fun R n => (congrFun h0 (ix2 R n)).trans (ref_0 _ _ _ R n), fun R n => (congrFun h1 (ix2 R n)).trans (ref_1 _ _ _ R n), ha⟩

/-- The kernel's two outputs. -/
theorem kernel_run (m : (ℓ : Loc Cert.Kernel4Ideal.nD Cert.Kernel4Ideal.τ Cert.Kernel4Ideal.sig) → Buf (Elt Ideal) ℓ) (ρ : Dev Cert.Kernel4Ideal.nD → PrngReg) :
    θ_run Cert.Kernel4Ideal.defs (onTc (τ := Cert.Kernel4Ideal.τ) (Cert.Kernel4Ideal.main (F := Ideal))) ⟨m, fun _ => 0, ρ⟩
      fun r => ∀ c : Dev Cert.Kernel4Ideal.nD,
        r.2.mem ((c.tc : Thread Cert.Kernel4Ideal.nD Cert.Kernel4Ideal.τ).loc Cert.Kernel4Ideal.main_v0_0) = (fun i => pz (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1) : Vec Ideal Cert.Kernel4Ideal.S8192x12288 .f32)
        ∧ r.2.mem ((c.tc : Thread Cert.Kernel4Ideal.nD Cert.Kernel4Ideal.τ).loc Cert.Kernel4Ideal.main_v0_1) = (fun i => tl (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (i 0) (i 1) : Vec Ideal Cert.Kernel4Ideal.S8192x128 .f32)
        ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3) := by
  refine (θ_run Cert.Kernel4Ideal.defs _ _).mono (fun r h c => ?_) (θ_run_and (Cert.Proj4.run_main (F := Ideal) m ρ) (Cert.Proj4.frame (F := Ideal) m ρ))
  exact ⟨((h.1 c).1 4).trans (arr_4 m c), ((h.1 c).1 5).trans (arr_5 m c), h.2.1 c⟩

theorem frame_p : Cert.quiescent_Kernel4 := fun m ρ _ => Cert.Proj4Bits.frame m ρ
theorem frame_pi : Cert.quiescent_Kernel4Ideal := fun m ρ _ => Cert.Proj4.frame m ρ

theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m g m' g' _ hag
  refine ⟨fun c => _, fun c => _, kernel_run m g, ?_⟩
  refine (θ_run Cert.Reference4Ideal.defs _ _).mono (fun r h c => ?_) (reference_at m' g')
  obtain ⟨h0, h1, ha⟩ := h c
  obtain ⟨e0, e1, e2, e3⟩ := hag c
  rw [e0, e1, e2] at h0
  rw [e0, e1, e3] at h1
  refine ⟨funext fun i => ?_, funext fun i => ?_, ha⟩
  · exact (congrArg (r.2.mem ((c.tc : Thread Cert.Reference4Ideal.nD Cert.Reference4Ideal.τ).loc Cert.Reference4Ideal.main_v14)) (eq_ix2 (n0 := 8192) (n1 := 12288) i)).trans (h0 (i 0) (i 1))
  · exact (congrArg (r.2.mem ((c.tc : Thread Cert.Reference4Ideal.nD Cert.Reference4Ideal.τ).loc Cert.Reference4Ideal.main_v15)) (eq_ix2 (n0 := 8192) (n1 := 128) i)).trans (h1 (i 0) (i 1))

end Cert.Proj4Claim

end
-- ==== Proof.Proj5.lean ====
/-
  The matrix memory layer's input projection, one grid point at a time and then over the grid: the first column step of a row block normalises the rows
  into the carried scratch and writes the tail's product, and every step writes one block of columns of the product of
  the normalised rows with the weights.
-/
module

public import proofs.«01_k».proof.Proof.Proj4Claim
public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Pipeline.Value
public import Idealize.ShloMosaic.Lib.Claim

@[expose] public section

set_option maxRecDepth 16384

noncomputable section

namespace Cert.Proj5

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- A buffer stored whole by one store holds what was stored. -/
theorem read_whole {S : Shape} {e : EltTy} {κ : Kind} {sp : Space} (v : View sig κ sp S e) (f : v.ty.Contents (Elt F)) {o : Fin S.rank → Nat} (ho : o = fun _ => 0)
    (inb : ∀ a, o a + S.size a ≤ S.size a) (p : S.Idx → Elt F e) :
    v.read (Elt F) (v.writes (Elt F) f [⟨Rect.unit (s := S) o S.size inb, p⟩]) = p := by
  rw [View.read_writes_eq_canon _ _ _ (fun y => ⟨_, List.mem_singleton.2 rfl, by rw [Rect.mem_set_unit]; subst ho; exact fun a => ⟨Nat.zero_le _, by simpa using (y a).isLt⟩⟩)]
  exact View.canon_unit_zero ho _ _

section Runs

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S2048x256 .f32) (harg5 : arg5.IsWhole) (arg6 : Memref sig .tc .vmem S1024x512 .f32) (harg6 : arg6.IsWhole) (arg7 : Memref sig .tc .vmem S1024x256 .f32) (harg7 : arg7.IsWhole) (arg8 : Memref sig .tc .vmem S1024x2048 .bf16) (harg8 : arg8.IsWhole)

set_option maxHeartbeats 2000000 in
/-- The first column step of a row block. -/
theorem run_A (h1 : k0_cond1 i = 1#1) (x : Vec F S1024x2048 .f32) (g : Vec F S1x2048 .f32) (w : Vec F S1x2048x512 .f32) (wt : Vec F S2048x256 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wt ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare (k0_pay4 (k0_pay2 x g) w) ∗ owns (c : Thread nD τ) arg7 fullShare (k0_pay3 x g wt) ∗ owns (c : Thread nD τ) arg8 fullShare (k0_pay2 x g)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x256) z2]
    exact read_whole _ _ z2 _ _
  isplitl [H7]
  · iexists _; isplitr; swap; · iexact H7
    ipureintro
    try sl_unfold_words
    simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x256) z2]
    exact read_whole _ _ z2 _ _
  iexists _; isplitr; swap; · iexact H8
  ipureintro
  try sl_unfold_words
  simp only [View.readCov_unit_zero (S := S1024x2048) _ z2, View.readAt_eq_ld, harg2.read_unread, harg3.read_unread, harg4.read_unread, harg5.read_unread, View.ld_unit_zero (S := S1024x2048) z2, View.ld_unit_zero (S := S1x2048x512) z3, View.ld_unit_zero (S := S1x2048) z2, View.ld_unit_zero (S := S2048x256) z2]
  exact read_whole _ _ z2 _ _

set_option maxHeartbeats 2000000 in
/-- Any other column step. -/
theorem run_B (h1 : ¬k0_cond1 i = 1#1) (w : Vec F S1x2048x512 .f32) (xs : Vec F S1024x2048 .bf16) (E : Set ℕ) (K : PUnit → sProp 𝕄) :
    iprop(owns (c : Thread nD τ) arg4 fullShare w ∗ owns (c : Thread nD τ) arg8 fullShare xs ∗ (∃ d, owns (c : Thread nD τ) arg6 fullShare d)
        ∗ (iprop(owns (c : Thread nD τ) arg4 fullShare w ∗ owns (c : Thread nD τ) arg8 fullShare xs ∗ owns (c : Thread nD τ) arg6 fullShare (k0_pay4 xs w)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f4, %hf4, H4⟩, ⟨%f8, %hf8, H8⟩, ⟨%d6, %f6, -, H6⟩, Hk⟩
  obtain rfl := harg4.eq_unread hf4; obtain rfl := harg8.eq_unread hf8
  sl_exec (disch := first | sl_exact h1)
  sl_step
  iapply Hk
  isplitl [H4]
  · iexists _; isplitr; · ipureintro; exact harg4.read_unread _
    iexact H4
  isplitl [H8]
  · iexists _; isplitr; · ipureintro; exact harg8.read_unread _
    iexact H8
  iexists _; isplitr; swap; · iexact H6
  ipureintro
  try sl_unfold_words
  simp only [View.readCov_unit_zero (S := S1024x2048) _ z2, View.readAt_eq_ld, harg4.read_unread, harg8.read_unread, View.ld_unit_zero (S := S1024x2048) z2, View.ld_unit_zero (S := S1x2048x512) z3, View.ld_unit_zero (S := S1x2048) z2, View.ld_unit_zero (S := S2048x256) z2]
  exact read_whole _ _ z2 _ _

end Runs

variable (m : (ℓ : Loc nD τ sig) → Buf (Elt F) ℓ) (ρ : Dev nD → PrngReg)

/-! ## The points -/

/-- The first point of `t`'s row block. -/
def pt (t : Fin cfg0.N) : Fin cfg0.N :=
  ⟨12 * (t.val / 12), by
    have h : cfg0.N = 96 := N_0
    have := t.isLt; omega⟩

theorem pt_live (t : Fin cfg0.N) (h : t.val % 12 = 0) : pt t = t :=
  Fin.ext (by simp only [pt]; omega)

theorem pt_pred (t : Fin cfg0.N) (h : t.val % 12 ≠ 0) (hp : t.val - 1 < cfg0.N) :
    pt t = pt ⟨t.val - 1, hp⟩ := Fin.ext (by simp only [pt]; omega)

theorem cond_1 : ∀ t : Fin grid0.N, k0_cond1 (grid0.coords t) = 1#1 ↔ t.val % 12 = 0 := by decide +kernel

/-- The column block is stored at every point. -/
theorem idle_4 : ∀ t : Fin cfg0.N, cfg0.idle 4 (cfg0.grid.coords t) = false :=
  (by decide +kernel : ∀ t : Fin grid0.N, idle0 4 (grid0.coords t) = false)
/-- The tail's block at a row block's first point only, and written back at its last. -/
theorem idle_5 : ∀ t : Fin cfg0.N, cfg0.idle 5 (cfg0.grid.coords t) = !decide (t.val % 12 = 0) :=
  (by decide +kernel : ∀ t : Fin grid0.N, idle0 5 (grid0.coords t) = !decide (t.val % 12 = 0))
theorem fstep_5 : ∀ t : Fin cfg0.N, decide ((t.val + 1) % 12 ≤ 0) = ((cfg0.win 5).flush t || (cfg0.idle 5 (cfg0.grid.coords t) && decide (t.val % 12 ≤ 0))) := by decide +kernel
theorem fresh_5 (n : ℕ) (h : n ≤ cfg0.N) : cfg0.fresh 5 n = decide (n % 12 ≤ 0) :=
  cfg0.fresh_tab 5 (fun n => decide (n % 12 ≤ 0)) (by decide) fstep_5 n h

/-! ## What the buffers hold -/

/-- The normalised rows in the scratch, from a row block's first point on. -/
def xnAt (c : Dev nD) (t : Fin cfg0.N) : Vec F S1024x2048 .bf16 := k0_pay2 (iblk m c 0 (pt t)) (iblk m c 1 (pt t))
/-- The column block. -/
def oz (c : Dev nD) (t : Fin cfg0.N) : Vec F S1024x512 .f32 := k0_pay4 (xnAt m c t) (X0_2 m c t)
/-- The tail's block. -/
def ot (c : Dev nD) (t : Fin cfg0.N) : Vec F S1024x256 .f32 := k0_pay3 (iblk m c 0 t) (iblk m c 1 t) (iblk m c 3 t)

theorem xnAt_start (c : Dev nD) (t : Fin cfg0.N) (h : t.val % 12 = 0) : xnAt m c t = k0_pay2 (iblk m c 0 t) (iblk m c 1 t) := by
  unfold xnAt; rw [pt_live t h]

theorem xnAt_pred (c : Dev nD) (t : Fin cfg0.N) (h : t.val % 12 ≠ 0) (hp : t.val - 1 < cfg0.N) : xnAt m c ⟨t.val - 1, hp⟩ = xnAt m c t := by
  unfold xnAt; rw [pt_pred t h hp]

/-! ## The invariant -/

/-- The scratch, whole. -/
abbrev scr : Memref sig .tc .vmem S1024x2048 .bf16 := Memref.whole cc0_scratch0

theorem PhiA_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before the first point the scratch holds anything; afterwards the normalised rows of the point before. -/
def Inv (c : Dev nD) : (n : ℕ) → n ≤ cfg0.N → sProp 𝕄
  | 0, _ => Pipeline.ΦA spec0 c
  | n + 1, hn => iprop(iprop(owns (c : Thread nD τ) scr fullShare (xnAt m c ⟨n, hn⟩)) ∗ (∃ r, prngReg c r))

theorem Inv_succ (c : Dev nD) (n : ℕ) (hn : n < cfg0.N) :
    Inv m c (n + 1) hn = iprop(iprop(owns (c : Thread nD τ) scr fullShare (xnAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scr fullShare (xnAt m c ⟨n - 1, by omega⟩)) ∗ (∃ r, prngReg c r)) := by
  cases n with
  | zero => exact absurd rfl hz
  | succ n => rfl

theorem Inv_any (c : Dev nD) (n : ℕ) (h : n ≤ cfg0.N) : Inv m c n h ⊢ (iprop(iprop((∃ d, owns (c : Thread nD τ) scr fullShare d)) ∗ (∃ r, prngReg c r)) : sProp 𝕄) := by
  cases n with
  | zero => rw [← PhiA_eq]; exact Idealize.SL.BI.Entails.refl _
  | succ n =>
    rw [Inv_succ]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => oz m c t
    | ⟨5, _⟩ => ot m c (pt t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = oz m c t := by dsimp only [dats]
theorem after_5 (c : Dev nD) (t : Fin cfg0.N) : (dats m 0 c).after 5 t = ot m c (pt t) := by dsimp only [dats]

theorem before_5 (c : Dev nD) (t : Fin cfg0.N) (d) (h : 0 < t.val % 12) : (dats m 0 c).before 5 t d = (dats m 0 c).after 5 t := by
  have hc : ∀ (t : Fin cfg0.N), 0 < t.val % 12 → ∀ hp : t.val - 1 < cfg0.N, (dats m 0 c).after 5 t = (dats m 0 c).after 5 ⟨t.val - 1, hp⟩ := fun t h hp => by
    rw [after_5, after_5]; exact congrArg (ot m c) (pt_pred t (by omega) hp)
  rw [Dat.before_out_traj (dats m 0 c) 5 rfl (fun _ _ => rfl)
    (fun t ht hi hf => hc t (by rw [fresh_5 _ (le_of_lt t.isLt)] at hf; have := of_decide_eq_false hf; omega) _) t.val t rfl d,
    fresh_5 _ (le_of_lt t.isLt), if_neg (by rw [decide_eq_true_iff]; omega)]
  exact (hc t h _).symm

theorem leave_4 (c : Dev nD) (t : Fin cfg0.N) : owns (c : Thread nD τ) (st0_4 t) fullShare (oz m c t) ⊢ (dats m 0 c).leavesExact 4 t := by
  unfold Dat.leavesExact; rw [idle_4, after_4]

theorem leave_5 (c : Dev nD) (t : Fin cfg0.N) (h : t.val % 12 = 0) :
    owns (c : Thread nD τ) (st0_5 t) fullShare (ot m c t) ⊢ (dats m 0 c).leavesExact 5 t := by
  unfold Dat.leavesExact; rw [idle_5, decide_eq_true h, after_5, pt_live t h]; exact Idealize.SL.BI.Entails.refl _

theorem pass_5 (c : Dev nD) (t : Fin cfg0.N) (d) (h : t.val % 12 ≠ 0) :
    owns (c : Thread nD τ) (st0_5 t) fullShare ((dats m 0 c).before 5 t d) ⊢ (dats m 0 c).leavesExact 5 t := by
  have hi : cfg0.idle 5 (cfg0.grid.coords t) = true := by rw [idle_5, decide_eq_false h]; rfl
  unfold Dat.leavesExact; rw [hi]
  cases hf : (cfg0.win 5).flush t
  · iintro H; iexists d; iexact H
  · rw [before_5 m c t d (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 3200000 in
/-- The body at the first column step. -/
theorem body_A (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  iintro ⟨HP, Ho, ⟨%d0, H0⟩, ⟨%d1, H1⟩, ⟨%d2, H2⟩, ⟨%d3, H3⟩, ⟨%d4, H4⟩, ⟨%d5, H5⟩⟩
  ihave HP' := (Inv_any m c _ _) $$ HP
  icases HP' with ⟨HS, Hg⟩
  iapply (run_A c (grid0.coords t) _ _ _ _ _ _ _ _ _ _ _ _ _ _ ((cond_1 t).mpr (by omega)) (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · rw [xnAt_start m c t h]; iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; rw [xnAt_start m c t h]; iexact H4
  iapply (leave_5 m c t h); unfold ot; iexact H5

set_option maxHeartbeats 3200000 in
/-- The body at another column step. -/
theorem body_B (c : Dev nD) (t : Fin cfg0.N) (h : t.val % 12 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ _ _ _ _ _ _ (fun e => absurd ((cond_1 t).mp e) (by omega)) (X0_2 m c t) (xnAt m c t) Set.univ _)
  isplitl [H2]; · iexact H2
  isplitl [HS]; · iexact HS
  isplitl [H4]; · iexists _; iexact H4
  iintro ⟨H2, HS, H4⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; iexact H4
  iapply (pass_5 m c t d5 h); iexact H5

theorem sound_body (c : Dev nD) (t : Fin cfg0.N) :
    bodyPre m c t ⊢ wp frame (wpE (defs₀ (F := F)) Variants.none c none) Set.univ (bodyAt0 t) (fun _ => bodyPost m c t) := by
  by_cases h : t.val % 12 = 0
  · exact body_A m c t h
  · exact body_B m c t h

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

/-! ## The run -/

set_option backward.isDefEq.respectTransparency.types false in
/-- Every run ends, with the arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proj5

end
-- ==== Proof.Proj5Claim.lean ====
/-
  The matrix memory layer's input projection: each output at an index, as the normalised row times one column of the weights; and the call's claims.
-/
module

public import proofs.«01_k».proof.Proof.Proj5Bits
public import proofs.«01_k».proof.Proof.Gen.Reference5Ideal.Run
public import Idealize.ShloMosaic.Lib.Pointwise
public import Idealize.ShloMosaic.Lib.Pipeline.ValueKit
public import Idealize.ShloMosaic.Adequacy

@[expose] public section

set_option maxRecDepth 16384

noncomputable section

namespace Cert.Proj5Claim

open Cert.Kernel5Ideal Cert.Kernel5Ideal.Gen Cert.Proj5
open Idealize.ShloMosaic Idealize.ShloMosaic.TcCoe Idealize.SL.Sem
open Idealize.ShloMosaic.Pipeline (Dat)

/-! ## The layer's mathematics -/

/-- The normalised row `R` at feature `k`. -/
def nrm (X : Vec Ideal S8192x2048 .f32) (G : Vec Ideal S1x2048 .f32) (R : Fin 8192) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- Row `R` projected on column `n` of the weights. -/
def pz (X : Vec Ideal S8192x2048 .f32) (G : Vec Ideal S1x2048 .f32) (W : Vec Ideal S1x2048x6160 .f32) (R : Fin 8192) (n : Fin 6144) : EReal :=
  ∑ q, nrm X G R q * W (ix3 0 q ⟨n.val, by have := n.isLt; omega⟩)

/-- Row `R` projected on column `d` of the tail's weights. -/
def tl (X : Vec Ideal S8192x2048 .f32) (G : Vec Ideal S1x2048 .f32) (T : Vec Ideal S2048x256 .f32) (R : Fin 8192) (d : Fin 256) : EReal :=
  ∑ q, nrm X G R q * T (ix2 q d)

/-! ## The payloads at an index -/

theorem rows_pay (x : Vec Ideal S1024x2048 .f32) (g : Vec Ideal S1x2048 .f32) (r : Fin 1024) (k : Fin 2048) :
    k0_pay1 (F := Ideal) x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay1]

theorem scr_pay (x : Vec Ideal S1024x2048 .f32) (g : Vec Ideal S1x2048 .f32) (r : Fin 1024) (k : Fin 2048) :
    k0_pay2 (F := Ideal) x g (ix2 r k) = k0_pay1 (F := Ideal) x g (ix2 r k) := by
  pointwise [k0_pay2]

theorem acc_pay (xs : Vec Ideal S1024x2048 .bf16) (w : Vec Ideal S1x2048x512 .f32) (r : Fin 1024) (f : Fin 512) :
    k0_pay4 xs w (ix2 r f) = ∑ q, xs (ix2 r q) * w (ix3 0 q f) := by
  pointwise [k0_pay4]

theorem tail_pay (x : Vec Ideal S1024x2048 .f32) (g : Vec Ideal S1x2048 .f32) (wt : Vec Ideal S2048x256 .f32) (r : Fin 1024) (d : Fin 256) :
    k0_pay3 x g wt (ix2 r d) = ∑ q, k0_pay1 (F := Ideal) x g (ix2 r q) * wt (ix2 q d) := by
  pointwise [k0_pay3]

/-! ## The blocks as parts of the arrays -/

theorem in_0 (t : Fin cfg0.N) : win0_0.index t = ![t.val / 12, 0] := by revert t; decide +kernel
theorem in_1 (t : Fin cfg0.N) : win0_1.index t = ![0, 0] := by revert t; decide +kernel
theorem in_2 (t : Fin cfg0.N) : win0_2.index t = ![0, 0, t.val % 12] := by revert t; decide +kernel
theorem in_3 (t : Fin cfg0.N) : win0_3.index t = ![0, 0] := by revert t; decide +kernel
theorem at_4 (t : Fin cfg0.N) : win0_4.index t = ![t.val / 12, t.val % 12] := by revert t; decide +kernel
theorem at_5 (t : Fin cfg0.N) : win0_5.index t = ![t.val / 12, 0] := by revert t; decide +kernel

section
variable (m : (ℓ : Loc nD τ sig) → Buf (Elt Ideal) ℓ) (c : Dev nD)

abbrev Xa : Vec Ideal S8192x2048 .f32 := m ((c.tc : Thread nD τ).loc main_arg0)
abbrev Ga : Vec Ideal S1x2048 .f32 := m ((c.tc : Thread nD τ).loc main_arg1)
abbrev Wa : Vec Ideal S1x2048x6160 .f32 := m ((c.tc : Thread nD τ).loc main_arg2)
abbrev Ta : Vec Ideal S2048x256 .f32 := m ((c.tc : Thread nD τ).loc main_arg3)

theorem blk_0 (t : Fin cfg0.N) (r : Fin 1024) (k : Fin 2048) (R : Fin 8192) (hR : R.val = 1024 * (t.val / 12) + r.val) :
    iblk m c 0 t (ix2 r k) = Xa m c (ix2 R k) := by
  have e := in_0 t
  blk_ext [iblk, V, e]
theorem blk_2 (t : Fin cfg0.N) (q : Fin 2048) (f : Fin 512) (f' : Fin 6160) (hf : f'.val = 512 * (t.val % 12) + f.val) :
    X0_2 m c t (ix3 0 q f) = Wa m c (ix3 0 q f') := by
  have e := in_2 t
  unfold X0_2 Pipeline.Window.fill
  rw [dif_pos (moved0_2 t _)]
  blk_ext [iblk, V, e]
theorem blk_1 (t : Fin cfg0.N) (i : S1x2048.Idx) : iblk m c 1 t i = Ga m c i := by
  have e := in_1 t
  blk_ext [iblk, V, e]
theorem blk_3 (t : Fin cfg0.N) (i : S2048x256.Idx) : iblk m c 3 t i = Ta m c i := by
  have e := in_3 t
  blk_ext [iblk, V, e]

/-! ## What a point computes -/

theorem rows_at (t : Fin cfg0.N) (r : Fin 1024) (k : Fin 2048) (R : Fin 8192) (hR : R.val = 1024 * (t.val / 12) + r.val) :
    k0_pay1 (F := Ideal) (iblk m c 0 t) (iblk m c 1 t) (ix2 r k) = nrm (Xa m c) (Ga m c) R k := by
  unfold nrm
  rw [rows_pay]
  simp only [blk_0 m c t r _ R hR, blk_1 m c t]

theorem xn_at (t : Fin cfg0.N) (r : Fin 1024) (k : Fin 2048) (R : Fin 8192) (hR : R.val = 1024 * (t.val / 12) + r.val) :
    xnAt m c t (ix2 r k) = nrm (Xa m c) (Ga m c) R k := by
  unfold xnAt
  rw [scr_pay]
  exact rows_at m c (pt t) r k R (by simp only [pt]; omega)

theorem oz_at (t : Fin cfg0.N) (r : Fin 1024) (f : Fin 512) (R : Fin 8192) (n : Fin 6144) (hR : R.val = 1024 * (t.val / 12) + r.val)
    (hn : n.val = 512 * (t.val % 12) + f.val) :
    oz m c t (ix2 r f) = pz (Xa m c) (Ga m c) (Wa m c) R n := by
  unfold oz pz
  rw [acc_pay]
  refine Finset.sum_congr rfl fun q _ => ?_
  rw [xn_at m c t r q R hR, blk_2 m c t q f ⟨n.val, by have := n.isLt; omega⟩ hn]

theorem ot_at (t : Fin cfg0.N) (r : Fin 1024) (d : Fin 256) (R : Fin 8192) (hR : R.val = 1024 * (t.val / 12) + r.val) :
    ot m c t (ix2 r d) = tl (Xa m c) (Ga m c) (Ta m c) R d := by
  unfold ot tl
  rw [tail_pay]
  refine Finset.sum_congr rfl fun q _ => ?_
  rw [rows_at m c t r q R hR, blk_3 m c t]

/-! ## The outputs at the end -/

theorem arr_4 : (dats m 0 c).arrAt 4 cfg0.N = (fun i => pz (Xa m c) (Ga m c) (Wa m c) (i 0) (i 1) : Vec Ideal S8192x6144 .f32) := by
  refine (dats m 0 c).arrAt_eq_of_covers 4 _ (by decide +kernel) fun t hf y => ?_
  have e := at_4 t
  rw [after_4]
  generalize hy : (cfg0.win 4).xinj (cfg0.grid.coords t) y = z
  obtain ⟨r, d, rfl⟩ : ∃ (r : Fin 1024) (d : Fin 512), z = ix2 r d := ⟨z 0, z 1, eq_ix2 z⟩
  have h0 : (y 0).val = r.val := congrArg (fun z : S1024x512.Idx => (z 0).val) hy
  have h1 : (y 1).val = d.val := congrArg (fun z : S1024x512.Idx => (z 1).val) hy
  blk_simp [e]
  refine oz_at m c t r d _ _ ?_ ?_ <;> blk_simp [e] <;> omega

theorem arr_5 : (dats m 0 c).arrAt 5 cfg0.N = (fun i => tl (Xa m c) (Ga m c) (Ta m c) (i 0) (i 1) : Vec Ideal S8192x256 .f32) := by
  refine (dats m 0 c).arrAt_eq_of_covers 5 _ (by decide +kernel) fun t hf y => ?_
  have e := at_5 t
  rw [after_5]
  generalize hy : (cfg0.win 5).xinj (cfg0.grid.coords t) y = z
  obtain ⟨r, d, rfl⟩ : ∃ (r : Fin 1024) (d : Fin 256), z = ix2 r d := ⟨z 0, z 1, eq_ix2 z⟩
  have h0 : (y 0).val = r.val := congrArg (fun z : S1024x256.Idx => (z 0).val) hy
  have h1 : (y 1).val = d.val := congrArg (fun z : S1024x256.Idx => (z 1).val) hy
  have hp : (pt t).val = 12 * (t.val / 12) := rfl
  blk_simp [e]
  refine (ot_at m c (pt t) r d _ ?_).trans (congrArg (tl _ _ _ _) (Fin.ext ?_)) <;> blk_simp [e] <;> omega

end

/-! ## The reference -/

/-- The reference's projection at an index. -/
theorem ref_0 (X : FVec Ideal Cert.Reference5Ideal.S8192x2048 .f32) (G : FVec Ideal Cert.Reference5Ideal.S1x2048 .f32) (W : FVec Ideal Cert.Reference5Ideal.S1x2048x6160 .f32) (R : Fin 8192) (n : Fin 6144) :
    Host.dotGeneral Cert.Reference5Ideal.dot_S8192x2048_S2048x6144_S8192x6144_1_0_0_1_n_n none (mulf (mulf X (broadcastInDim Cert.Reference5Ideal.S8192x2048 ![0, 1] Cert.Reference5Ideal.Gen.bcast_S8192x1_S8192x2048_0_1 (Host.rsqrt (addf (Host.divf (broadcastInDim Cert.Reference5Ideal.S8192x1 ![0] Cert.Reference5Ideal.Gen.bcast_S8192_S8192x1_0 (Host.reduceAdd (mulf X X) (constant Cert.Reference5Ideal.S_ .f32 0x00000000#32) Cert.Reference5Ideal.Gen.reducesTo_S8192x2048_S8192_d1 Cert.Reference5Ideal.Gen.h_S_)) (broadcastInDim Cert.Reference5Ideal.S8192x1 ![] Cert.Reference5Ideal.Gen.bcast_S_S8192x1 (constant Cert.Reference5Ideal.S_ .f32 0x45000000#32))) (broadcastInDim Cert.Reference5Ideal.S8192x1 ![] Cert.Reference5Ideal.Gen.bcast_S_S8192x1 (constant Cert.Reference5Ideal.S_ .f32 0x358637BD#32)))))) (broadcastInDim Cert.Reference5Ideal.S8192x2048 ![0, 1] Cert.Reference5Ideal.Gen.bcast_S1x2048_S8192x2048_0_1 G)) (extractStridedSlice Cert.Reference5Ideal.S2048x6144 ![0, 0] (shapeCast Cert.Reference5Ideal.S2048x6160 W Cert.Reference5Ideal.Gen.shapeCasts_S1x2048x6160_S2048x6160) Cert.Reference5Ideal.Gen.slices_S2048x6160_S2048x6144_0_0) (ix2 R n) = pz X G W R n := by
  pointwise [pz, nrm]

/-- The reference's tail at an index. -/
theorem ref_1 (X : FVec Ideal Cert.Reference5Ideal.S8192x2048 .f32) (G : FVec Ideal Cert.Reference5Ideal.S1x2048 .f32) (T : FVec Ideal Cert.Reference5Ideal.S2048x256 .f32) (R : Fin 8192) (n : Fin 256) :
    Host.dotGeneral Cert.Reference5Ideal.dot_S8192x2048_S2048x256_S8192x256_1_0_0_1_n_n none (mulf (mulf X (broadcastInDim Cert.Reference5Ideal.S8192x2048 ![0, 1] Cert.Reference5Ideal.Gen.bcast_S8192x1_S8192x2048_0_1 (Host.rsqrt (addf (Host.divf (broadcastInDim Cert.Reference5Ideal.S8192x1 ![0] Cert.Reference5Ideal.Gen.bcast_S8192_S8192x1_0 (Host.reduceAdd (mulf X X) (constant Cert.Reference5Ideal.S_ .f32 0x00000000#32) Cert.Reference5Ideal.Gen.reducesTo_S8192x2048_S8192_d1 Cert.Reference5Ideal.Gen.h_S_)) (broadcastInDim Cert.Reference5Ideal.S8192x1 ![] Cert.Reference5Ideal.Gen.bcast_S_S8192x1 (constant Cert.Reference5Ideal.S_ .f32 0x45000000#32))) (broadcastInDim Cert.Reference5Ideal.S8192x1 ![] Cert.Reference5Ideal.Gen.bcast_S_S8192x1 (constant Cert.Reference5Ideal.S_ .f32 0x358637BD#32)))))) (broadcastInDim Cert.Reference5Ideal.S8192x2048 ![0, 1] Cert.Reference5Ideal.Gen.bcast_S1x2048_S8192x2048_0_1 G)) T (ix2 R n) = tl X G T R n := by
  pointwise [tl, nrm]

/-- The reference's two outputs at an index. -/
theorem reference_at (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩
      fun r => ∀ c : Dev Cert.Reference5Ideal.nD,
        (∀ (R : Fin 8192) (n : Fin 6144), (r.2.mem ((c.tc : Thread Cert.Reference5Ideal.nD Cert.Reference5Ideal.τ).loc Cert.Reference5Ideal.main_v14) : Vec Ideal Cert.Kernel5Ideal.S8192x6144 .f32) (ix2 R n)
            = pz (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) R n)
        ∧ (∀ (R : Fin 8192) (n : Fin 256), (r.2.mem ((c.tc : Thread Cert.Reference5Ideal.nD Cert.Reference5Ideal.τ).loc Cert.Reference5Ideal.main_v15) : Vec Ideal Cert.Kernel5Ideal.S8192x256 .f32) (ix2 R n)
            = tl (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg3)) R n)
        ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3) := by
  refine (θ_run Cert.Reference5Ideal.defs _ _).mono (fun r h c => ?_) (Cert.Reference5Ideal.Value.run (F := Ideal) m ρ)
  obtain ⟨h0, h1, ha⟩ := h c
  exact ⟨fun R n => (congrFun h0 (ix2 R n)).trans (ref_0 _ _ _ R n), fun R n => (congrFun h1 (ix2 R n)).trans (ref_1 _ _ _ R n), ha⟩

/-- The kernel's two outputs. -/
theorem kernel_run (m : (ℓ : Loc Cert.Kernel5Ideal.nD Cert.Kernel5Ideal.τ Cert.Kernel5Ideal.sig) → Buf (Elt Ideal) ℓ) (ρ : Dev Cert.Kernel5Ideal.nD → PrngReg) :
    θ_run Cert.Kernel5Ideal.defs (onTc (τ := Cert.Kernel5Ideal.τ) (Cert.Kernel5Ideal.main (F := Ideal))) ⟨m, fun _ => 0, ρ⟩
      fun r => ∀ c : Dev Cert.Kernel5Ideal.nD,
        r.2.mem ((c.tc : Thread Cert.Kernel5Ideal.nD Cert.Kernel5Ideal.τ).loc Cert.Kernel5Ideal.main_v0_0) = (fun i => pz (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (i 0) (i 1) : Vec Ideal Cert.Kernel5Ideal.S8192x6144 .f32)
        ∧ r.2.mem ((c.tc : Thread Cert.Kernel5Ideal.nD Cert.Kernel5Ideal.τ).loc Cert.Kernel5Ideal.main_v0_1) = (fun i => tl (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (i 0) (i 1) : Vec Ideal Cert.Kernel5Ideal.S8192x256 .f32)
        ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
        ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
        ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3) := by
  refine (θ_run Cert.Kernel5Ideal.defs _ _).mono (fun r h c => ?_) (θ_run_and (Cert.Proj5.run_main (F := Ideal) m ρ) (Cert.Proj5.frame (F := Ideal) m ρ))
  exact ⟨((h.1 c).1 4).trans (arr_4 m c), ((h.1 c).1 5).trans (arr_5 m c), h.2.1 c⟩

theorem frame_p : Cert.quiescent_Kernel5 := fun m ρ _ => Cert.Proj5Bits.frame m ρ
theorem frame_pi : Cert.quiescent_Kernel5Ideal := fun m ρ _ => Cert.Proj5.frame m ρ

theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal := by
  intro m g m' g' _ hag
  refine ⟨fun c => _, fun c => _, kernel_run m g, ?_⟩
  refine (θ_run Cert.Reference5Ideal.defs _ _).mono (fun r h c => ?_) (reference_at m' g')
  obtain ⟨h0, h1, ha⟩ := h c
  obtain ⟨e0, e1, e2, e3⟩ := hag c
  rw [e0, e1, e2] at h0
  rw [e0, e1, e3] at h1
  refine ⟨funext fun i => ?_, funext fun i => ?_, ha⟩
  · exact (congrArg (r.2.mem ((c.tc : Thread Cert.Reference5Ideal.nD Cert.Reference5Ideal.τ).loc Cert.Reference5Ideal.main_v14)) (eq_ix2 (n0 := 8192) (n1 := 6144) i)).trans (h0 (i 0) (i 1))
  · exact (congrArg (r.2.mem ((c.tc : Thread Cert.Reference5Ideal.nD Cert.Reference5Ideal.τ).loc Cert.Reference5Ideal.main_v15)) (eq_ix2 (n0 := 8192) (n1 := 256) i)).trans (h1 (i 0) (i 1))

end Cert.Proj5Claim

end
-- ==== Proof.Proj9.lean ====
/-
  The gated delta layer's input projection of the sample, one grid point at a time and then over the grid: the first column step of a row block normalises the rows
  into the carried scratch and writes the tail's product, and every step writes one block of columns of the product of
  the normalised rows with the weights.
-/
module

public import proofs.«01_k».proof.Proof.Proj5Claim
public import proofs.«01_k».proof.Proof.Gen.Kernel9Ideal.Frame
public import proofs.«01_k».proof.Proof.Gen.Kernel9Ideal.Skeleton
public import Idealize.ShloMosaic.Lib.Pipeline.TableIdle
public import Idealize.ShloMosaic.Lib.Pipeline.Value
public import Idealize.ShloMosaic.Lib.Claim

@[expose] public section

set_option maxRecDepth 16384

noncomputable section

namespace Cert.Proj9

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- A buffer stored whole by one store holds what was stored. -/
theorem read_whole {S : Shape} {e : EltTy} {κ : Kind} {sp : Space} (v : View sig κ sp S e) (f : v.ty.Contents (Elt F)) {o : Fin S.rank → Nat} (ho : o = fun _ => 0)
    (inb : ∀ a, o a + S.size a ≤ S.size a) (p : S.Idx → Elt F e) :
    v.read (Elt F) (v.writes (Elt F) f [⟨Rect.unit (s := S) o S.size inb, p⟩]) = p := by
  rw [View.read_writes_eq_canon _ _ _ (fun y => ⟨_, List.mem_singleton.2 rfl, by rw [Rect.mem_set_unit]; subst ho; exact fun a => ⟨Nat.zero_le _, by simpa using (y a).isLt⟩⟩)]
  exact View.canon_unit_zero ho _ _

section Runs

variable (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S2048x128 .f32) (harg5 : arg5.IsWhole) (arg6 : Memref sig .tc .vmem S32x512 .f32) (harg6 : arg6.IsWhole) (arg7 : Memref sig .tc .vmem S32x128 .f32) (harg7 : arg7.IsWhole) (arg8 : Memref sig .tc .vmem S32x2048 .bf16) (harg8 : arg8.IsWhole)

set_option maxHeartbeats 2000000 in
/-- The first column step of a row block. -/
theorem run_A (h1 : k0_cond1 i = 1#1) (x : Vec F S32x2048 .f32) (g : Vec F S1x2048 .f32) (w : Vec F S1x2048x512 .f32) (wt : Vec F S2048x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wt ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare (k0_pay4 (k0_pay2 x g) w) ∗ owns (c : Thread nD τ) arg7 fullShare (k0_pay3 x g wt) ∗ owns (c : Thread nD τ) arg8 fullShare (k0_pay2 x g)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    try sl_unfold_words
    simp only [View.readCov_unit_zero (S := S32x2048) _ z2, View.readAt_eq_ld, harg2.read_unread, harg3.read_unread, harg4.read_unread, harg5.read_unread, View.ld_unit_zero (S := S32x2048) z2, View.ld_unit_zero (S := S1x2048x512) z3, View.ld_unit_zero (S := S1x2048) z2, View.ld_unit_zero (S := S2048x128) z2]
    exact read_whole _ _ z2 _ _
  isplitl [H7]
  · iexists _; isplitr; swap; · iexact H7
    ipureintro
    try sl_unfold_words
    simp only [View.readCov_unit_zero (S := S32x2048) _ z2, View.readAt_eq_ld, harg2.read_unread, harg3.read_unread, harg4.read_unread, harg5.read_unread, View.ld_unit_zero (S := S32x2048) z2, View.ld_unit_zero (S := S1x2048x512) z3, View.ld_unit_zero (S := S1x2048) z2, View.ld_unit_zero (S := S2048x128) z2]
    exact read_whole _ _ z2 _ _
  iexists _; isplitr; swap; · iexact H8
  ipureintro
  try sl_unfold_words
  simp only [View.readCov_unit_zero (S := S32x2048) _ z2, View.readAt_eq_ld, harg2.read_unread, harg3.read_unread, harg4.read_unread, harg5.read_unread, View.ld_unit_zero (S := S32x2048) z2, View.ld_unit_zero (S := S1x2048x512) z3, View.ld_unit_zero (S := S1x2048) z2, View.ld_unit_zero (S := S2048x128) z2]
  exact read_whole _ _ z2 _ _

set_option maxHeartbeats 2000000 in
/-- Any other column step. -/
theorem run_B (h1 : ¬k0_cond1 i = 1#1) (w : Vec F S1x2048x512 .f32) (xs : Vec F S32x2048 .bf16) (E : Set ℕ) (K : PUnit → sProp 𝕄) :
    iprop(owns (c : Thread nD τ) arg4 fullShare w ∗ owns (c : Thread nD τ) arg8 fullShare xs ∗ (∃ d, owns (c : Thread nD τ) arg6 fullShare d)
        ∗ (iprop(owns (c : Thread nD τ) arg4 fullShare w ∗ owns (c : Thread nD τ) arg8 fullShare xs ∗ owns (c : Thread nD τ) arg6 fullShare (k0_pay4 xs w)) -∗ K ⟨⟩))
      ⊢ wp frame (wpE (defs₀ (F := F)) Variants.none c none) E (cc0_proj i arg2 harg2 arg3 harg3 arg4 harg4 arg5 harg5 arg6 harg6 arg7 harg7 arg8 harg8) K := by
  simp only [cc0_proj_eq_skeleton]
  unfold cc0_proj_skel
  unfold owns
  iintro ⟨⟨%f4, %hf4, H4⟩, ⟨%f8, %hf8, H8⟩, ⟨%d6, %f6, -, H6⟩, Hk⟩
  obtain rfl := harg4.eq_unread hf4; obtain rfl := harg8.eq_unread hf8
  sl_exec (disch := first | sl_exact h1)
  sl_step
  iapply Hk
  isplitl [H4]
  · iexists _; isplitr; · ipureintro; exact harg4.read_unread _
    iexact H4
  isplitl [H8]
  · iexists _; isplitr; · ipureintro; exact harg8.read_unread _
    iexact H8
  iexists _; isplitr; swap; · iexact H6
  ipureintro
  try sl_unfold_words
  simp only [View.readCov_unit_zero (S := S32x2048) _ z2, View.readAt_eq_ld, harg4.read_unread, harg8.read_unread, View.ld_unit_zero (S := S32x2048) z2, View.ld_unit_zero (S := S1x2048x512) z3, View.ld_unit_zero (S := S1x2048) z2, View.ld_unit_zero (S := S2048x128) z2]
  exact read_whole _ _ z2 _ _

end Runs

variable (m : (ℓ : Loc nD τ sig) → Buf (Elt F) ℓ) (ρ : Dev nD → PrngReg)

/-! ## The points -/

/-- The first point of `t`'s row block. -/
def pt (t : Fin cfg0.N) : Fin cfg0.N :=
  ⟨24 * (t.val / 24), by
    have h : cfg0.N = 24 := N_0
    have := t.isLt; omega⟩

theorem pt_live (t : Fin cfg0.N) (h : t.val % 24 = 0) : pt t = t :=
  Fin.ext (by simp only [pt]; omega)

theorem pt_pred (t : Fin cfg0.N) (h : t.val % 24 ≠ 0) (hp : t.val - 1 < cfg0.N) :
    pt t = pt ⟨t.val - 1, hp⟩ := Fin.ext (by simp only [pt]; omega)

theorem cond_1 : ∀ t : Fin grid0.N, k0_cond1 (grid0.coords t) = 1#1 ↔ t.val % 24 = 0 := by decide +kernel

/-- The column block is stored at every point. -/
theorem idle_4 : ∀ t : Fin cfg0.N, cfg0.idle 4 (cfg0.grid.coords t) = false :=
  (by decide +kernel : ∀ t : Fin grid0.N, idle0 4 (grid0.coords t) = false)
/-- The tail's block at a row block's first point only, and written back at its last. -/
theorem idle_5 : ∀ t : Fin cfg0.N, cfg0.idle 5 (cfg0.grid.coords t) = !decide (t.val % 24 = 0) :=
  (by decide +kernel : ∀ t : Fin grid0.N, idle0 5 (grid0.coords t) = !decide (t.val % 24 = 0))
theorem fstep_5 : ∀ t : Fin cfg0.N, decide ((t.val + 1) % 24 ≤ 0) = ((cfg0.win 5).flush t || (cfg0.idle 5 (cfg0.grid.coords t) && decide (t.val % 24 ≤ 0))) := by decide +kernel
theorem fresh_5 (n : ℕ) (h : n ≤ cfg0.N) : cfg0.fresh 5 n = decide (n % 24 ≤ 0) :=
  cfg0.fresh_tab 5 (fun n => decide (n % 24 ≤ 0)) (by decide) fstep_5 n h

/-! ## What the buffers hold -/

/-- The normalised rows in the scratch, from a row block's first point on. -/
def xnAt (c : Dev nD) (t : Fin cfg0.N) : Vec F S32x2048 .bf16 := k0_pay2 (iblk m c 0 (pt t)) (iblk m c 1 (pt t))
/-- The column block. -/
def oz (c : Dev nD) (t : Fin cfg0.N) : Vec F S32x512 .f32 := k0_pay4 (xnAt m c t) (X0_2 m c t)
/-- The tail's block. -/
def ot (c : Dev nD) (t : Fin cfg0.N) : Vec F S32x128 .f32 := k0_pay3 (iblk m c 0 t) (iblk m c 1 t) (iblk m c 3 t)

theorem xnAt_start (c : Dev nD) (t : Fin cfg0.N) (h : t.val % 24 = 0) : xnAt m c t = k0_pay2 (iblk m c 0 t) (iblk m c 1 t) := by
  unfold xnAt; rw [pt_live t h]

theorem xnAt_pred (c : Dev nD) (t : Fin cfg0.N) (h : t.val % 24 ≠ 0) (hp : t.val - 1 < cfg0.N) : xnAt m c ⟨t.val - 1, hp⟩ = xnAt m c t := by
  unfold xnAt; rw [pt_pred t h hp]

/-! ## The invariant -/

/-- The scratch, whole. -/
abbrev scr : Memref sig .tc .vmem S32x2048 .bf16 := Memref.whole cc0_scratch0

theorem PhiA_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before the first point the scratch holds anything; afterwards the normalised rows of the point before. -/
def Inv (c : Dev nD) : (n : ℕ) → n ≤ cfg0.N → sProp 𝕄
  | 0, _ => Pipeline.ΦA spec0 c
  | n + 1, hn => iprop(iprop(owns (c : Thread nD τ) scr fullShare (xnAt m c ⟨n, hn⟩)) ∗ (∃ r, prngReg c r))

theorem Inv_succ (c : Dev nD) (n : ℕ) (hn : n < cfg0.N) :
    Inv m c (n + 1) hn = iprop(iprop(owns (c : Thread nD τ) scr fullShare (xnAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scr fullShare (xnAt m c ⟨n - 1, by omega⟩)) ∗ (∃ r, prngReg c r)) := by
  cases n with
  | zero => exact absurd rfl hz
  | succ n => rfl

theorem Inv_any (c : Dev nD) (n : ℕ) (h : n ≤ cfg0.N) : Inv m c n h ⊢ (iprop(iprop((∃ d, owns (c : Thread nD τ) scr fullShare d)) ∗ (∃ r, prngReg c r)) : sProp 𝕄) := by
  cases n with
  | zero => rw [← PhiA_eq]; exact Idealize.SL.BI.Entails.refl _
  | succ n =>
    rw [Inv_succ]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => oz m c t
    | ⟨5, _⟩ => ot m c (pt t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = oz m c t := by dsimp only [dats]
theorem after_5 (c : Dev nD) (t : Fin cfg0.N) : (dats m 0 c).after 5 t = ot m c (pt t) := by dsimp only [dats]

theorem before_5 (c : Dev nD) (t : Fin cfg0.N) (d) (h : 0 < t.val % 24) : (dats m 0 c).before 5 t d = (dats m 0 c).after 5 t := by
  have hc : ∀ (t : Fin cfg0.N), 0 < t.val % 24 → ∀ hp : t.val - 1 < cfg0.N, (dats m 0 c).after 5 t = (dats m 0 c).after 5 ⟨t.val - 1, hp⟩ := fun t h hp => by
    rw [after_5, after_5]; exact congrArg (ot m c) (pt_pred t (by omega) hp)
  rw [Dat.before_out_traj (dats m 0 c) 5 rfl (fun _ _ => rfl)
    (fun t ht hi hf => hc t (by rw [fresh_5 _ (le_of_lt t.isLt)] at hf; have := of_decide_eq_false hf; omega) _) t.val t rfl d,
    fresh_5 _ (le_of_lt t.isLt), if_neg (by rw [decide_eq_true_iff]; omega)]
  exact (hc t h _).symm

theorem leave_4 (c : Dev nD) (t : Fin cfg0.N) : owns (c : Thread nD τ) (st0_4 t) fullShare (oz m c t) ⊢ (dats m 0 c).leavesExact 4 t := by
  unfold Dat.leavesExact; rw [idle_4, after_4]

theorem leave_5 (c : Dev nD) (t : Fin cfg0.N) (h : t.val % 24 = 0) :
    owns (c : Thread nD τ) (st0_5 t) fullShare (ot m c t) ⊢ (dats m 0 c).leavesExact 5 t := by
  unfold Dat.leavesExact; rw [idle_5, decide_eq_true h, after_5, pt_live t h]; exact Idealize.SL.BI.Entails.refl _

theorem pass_5 (c : Dev nD) (t : Fin cfg0.N) (d) (h : t.val % 24 ≠ 0) :
    owns (c : Thread nD τ) (st0_5 t) fullShare ((dats m 0 c).before 5 t d) ⊢ (dats m 0 c).leavesExact 5 t := by
  have hi : cfg0.idle 5 (cfg0.grid.coords t) = true := by rw [idle_5, decide_eq_false h]; rfl
  unfold Dat.leavesExact; rw [hi]
  cases hf : (cfg0.win 5).flush t
  · iintro H; iexists d; iexact H
  · rw [before_5 m c t d (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 3200000 in
/-- The body at the first column step. -/
theorem body_A (c : Dev nD) (t : Fin cfg0.N) (h : t.val % 24 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  iintro ⟨HP, Ho, ⟨%d0, H0⟩, ⟨%d1, H1⟩, ⟨%d2, H2⟩, ⟨%d3, H3⟩, ⟨%d4, H4⟩, ⟨%d5, H5⟩⟩
  ihave HP' := (Inv_any m c _ _) $$ HP
  icases HP' with ⟨HS, Hg⟩
  iapply (run_A c (grid0.coords t) _ _ _ _ _ _ _ _ _ _ _ _ _ _ ((cond_1 t).mpr (by omega)) (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · rw [xnAt_start m c t h]; iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; rw [xnAt_start m c t h]; iexact H4
  iapply (leave_5 m c t h); unfold ot; iexact H5

set_option maxHeartbeats 3200000 in
/-- The body at another column step. -/
theorem body_B (c : Dev nD) (t : Fin cfg0.N) (h : t.val % 24 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ _ _ _ _ _ _ (fun e => absurd ((cond_1 t).mp e) (by omega)) (X0_2 m c t) (xnAt m c t) Set.univ _)
  isplitl [H2]; · iexact H2
  isplitl [HS]; · iexact HS
  isplitl [H4]; · iexists _; iexact H4
  iintro ⟨H2, HS, H4⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iapply (leave_4 m c t); unfold oz; iexact H4
  iapply (pass_5 m c t d5 h); iexact H5

theorem sound_body (c : Dev nD) (t : Fin cfg0.N) :
    bodyPre m c t ⊢ wp frame (wpE (defs₀ (F := F)) Variants.none c none) Set.univ (bodyAt0 t) (fun _ => bodyPost m c t) := by
  by_cases h : t.val % 24 = 0
  · exact body_A m c t h
  · exact body_B m c t h

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

/-! ## The run -/

set_option backward.isDefEq.respectTransparency.types false in
/-- Every run ends, with the arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proj9

end
-- ==== Proof.Proj9Claim.lean ====
/-
  The gated delta layer's input projection of the sample: each output at an index, as the normalised row times one column of the weights; and the call's claims.
-/
module

public import proofs.«01_k».proof.Proof.Proj9
public import proofs.«01_k».proof.Proof.Gen.Kernel9
public import proofs.«01_k».proof.Proof.Gen.Reference9Ideal.Run
public import Idealize.ShloMosaic.Lib.Pointwise
public import Idealize.ShloMosaic.Lib.Pipeline.ValueKit
public import Idealize.ShloMosaic.Adequacy

@[expose] public section

set_option maxRecDepth 16384

noncomputable section

namespace Cert.Proj9Claim

open Cert.Kernel9Ideal Cert.Kernel9Ideal.Gen Cert.Proj9
open Idealize.ShloMosaic Idealize.ShloMosaic.TcCoe Idealize.SL.Sem
open Idealize.ShloMosaic.Pipeline (Dat)

/-! ## The layer's mathematics -/

/-- The normalised row `R` at feature `k`. -/
def nrm (X : Vec Ideal S32x2048 .f32) (G : Vec Ideal S1x2048 .f32) (R : Fin 32) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- Row `R` projected on column `n` of the weights. -/
def pz (X : Vec Ideal S32x2048 .f32) (G : Vec Ideal S1x2048 .f32) (W : Vec Ideal S1x2048x12352 .f32) (R : Fin 32) (n : Fin 12288) : EReal :=
  ∑ q, nrm X G R q * W (ix3 0 q ⟨n.val, by have := n.isLt; omega⟩)

/-- Row `R` projected on column `d` of the tail's weights. -/
def tl (X : Vec Ideal S32x2048 .f32) (G : Vec Ideal S1x2048 .f32) (T : Vec Ideal S2048x128 .f32) (R : Fin 32) (d : Fin 128) : EReal :=
  ∑ q, nrm X G R q * T (ix2 q d)

/-! ## The payloads at an index -/

theorem rows_pay (x : Vec Ideal S32x2048 .f32) (g : Vec Ideal S1x2048 .f32) (r : Fin 32) (k : Fin 2048) :
    k0_pay1 (F := Ideal) x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay1]

theorem scr_pay (x : Vec Ideal S32x2048 .f32) (g : Vec Ideal S1x2048 .f32) (r : Fin 32) (k : Fin 2048) :
    k0_pay2 (F := Ideal) x g (ix2 r k) = k0_pay1 (F := Ideal) x g (ix2 r k) := by
  pointwise [k0_pay2]

theorem acc_pay (xs : Vec Ideal S32x2048 .bf16) (w : Vec Ideal S1x2048x512 .f32) (r : Fin 32) (f : Fin 512) :
    k0_pay4 xs w (ix2 r f) = ∑ q, xs (ix2 r q) * w (ix3 0 q f) := by
  pointwise [k0_pay4]

theorem tail_pay (x : Vec Ideal S32x2048 .f32) (g : Vec Ideal S1x2048 .f32) (wt : Vec Ideal S2048x128 .f32) (r : Fin 32) (d : Fin 128) :
    k0_pay3 x g wt (ix2 r d) = ∑ q, k0_pay1 (F := Ideal) x g (ix2 r q) * wt (ix2 q d) := by
  pointwise [k0_pay3]

/-! ## The blocks as parts of the arrays -/

theorem in_0 (t : Fin cfg0.N) : win0_0.index t = ![t.val / 24, 0] := by revert t; decide +kernel
theorem in_1 (t : Fin cfg0.N) : win0_1.index t = ![0, 0] := by revert t; decide +kernel
theorem in_2 (t : Fin cfg0.N) : win0_2.index t = ![0, 0, t.val % 24] := by revert t; decide +kernel
theorem in_3 (t : Fin cfg0.N) : win0_3.index t = ![0, 0] := by revert t; decide +kernel
theorem at_4 (t : Fin cfg0.N) : win0_4.index t = ![t.val / 24, t.val % 24] := by revert t; decide +kernel
theorem at_5 (t : Fin cfg0.N) : win0_5.index t = ![t.val / 24, 0] := by revert t; decide +kernel

section
variable (m : (ℓ : Loc nD τ sig) → Buf (Elt Ideal) ℓ) (c : Dev nD)

abbrev Xa : Vec Ideal S32x2048 .f32 := m ((c.tc : Thread nD τ).loc main_arg0)
abbrev Ga : Vec Ideal S1x2048 .f32 := m ((c.tc : Thread nD τ).loc main_arg1)
abbrev Wa : Vec Ideal S1x2048x12352 .f32 := m ((c.tc : Thread nD τ).loc main_arg2)
abbrev Ta : Vec Ideal S2048x128 .f32 := m ((c.tc : Thread nD τ).loc main_arg3)

theorem blk_0 (t : Fin cfg0.N) (r : Fin 32) (k : Fin 2048) (R : Fin 32) (hR : R.val = 32 * (t.val / 24) + r.val) :
    iblk m c 0 t (ix2 r k) = Xa m c (ix2 R k) := by
  have e := in_0 t
  blk_ext [iblk, V, e]
theorem blk_2 (t : Fin cfg0.N) (q : Fin 2048) (f : Fin 512) (f' : Fin 12352) (hf : f'.val = 512 * (t.val % 24) + f.val) :
    X0_2 m c t (ix3 0 q f) = Wa m c (ix3 0 q f') := by
  have e := in_2 t
  unfold X0_2 Pipeline.Window.fill
  rw [dif_pos (moved0_2 t _)]
  blk_ext [iblk, V, e]
theorem blk_1 (t : Fin cfg0.N) (i : S1x2048.Idx) : iblk m c 1 t i = Ga m c i := by
  have e := in_1 t
  blk_ext [iblk, V, e]
theorem blk_3 (t : Fin cfg0.N) (i : S2048x128.Idx) : iblk m c 3 t i = Ta m c i := by
  have e := in_3 t
  blk_ext [iblk, V, e]

/-! ## What a point computes -/

theorem rows_at (t : Fin cfg0.N) (r : Fin 32) (k : Fin 2048) (R : Fin 32) (hR : R.val = 32 * (t.val / 24) + r.val) :
    k0_pay1 (F := Ideal) (iblk m c 0 t) (iblk m c 1 t) (ix2 r k) = nrm (Xa m c) (Ga m c) R k := by
  unfold nrm
  rw [rows_pay]
  simp only [blk_0 m c t r _ R hR, blk_1 m c t]

theorem xn_at (t : Fin cfg0.N) (r : Fin 32) (k : Fin 2048) (R : Fin 32) (hR : R.val = 32 * (t.val / 24) + r.val) :
    xnAt m c t (ix2 r k) = nrm (Xa m c) (Ga m c) R k := by
  unfold xnAt
  rw [scr_pay]
  exact rows_at m c (pt t) r k R (by simp only [pt]; omega)

theorem oz_at (t : Fin cfg0.N) (r : Fin 32) (f : Fin 512) (R : Fin 32) (n : Fin 12288) (hR : R.val = 32 * (t.val / 24) + r.val)
    (hn : n.val = 512 * (t.val % 24) + f.val) :
    oz m c t (ix2 r f) = pz (Xa m c) (Ga m c) (Wa m c) R n := by
  unfold oz pz
  rw [acc_pay]
  refine Finset.sum_congr rfl fun q _ => ?_
  rw [xn_at m c t r q R hR, blk_2 m c t q f ⟨n.val, by have := n.isLt; omega⟩ hn]

theorem ot_at (t : Fin cfg0.N) (r : Fin 32) (d : Fin 128) (R : Fin 32) (hR : R.val = 32 * (t.val / 24) + r.val) :
    ot m c t (ix2 r d) = tl (Xa m c) (Ga m c) (Ta m c) R d := by
  unfold ot tl
  rw [tail_pay]
  refine Finset.sum_congr rfl fun q _ => ?_
  rw [rows_at m c t r q R hR, blk_3 m c t]

/-! ## The outputs at the end -/

theorem arr_4 : (dats m 0 c).arrAt 4 cfg0.N = (fun i => pz (Xa m c) (Ga m c) (Wa m c) (i 0) (i 1) : Vec Ideal S32x12288 .f32) := by
  refine (dats m 0 c).arrAt_eq_of_covers 4 _ (by decide +kernel) fun t hf y => ?_
  have e := at_4 t
  rw [after_4]
  generalize hy : (cfg0.win 4).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  blk_simp [e]
  refine oz_at m c t r d _ _ ?_ ?_ <;> blk_simp [e] <;> omega

theorem arr_5 : (dats m 0 c).arrAt 5 cfg0.N = (fun i => tl (Xa m c) (Ga m c) (Ta m c) (i 0) (i 1) : Vec Ideal S32x128 .f32) := by
  refine (dats m 0 c).arrAt_eq_of_covers 5 _ (by decide +kernel) fun t hf y => ?_
  have e := at_5 t
  rw [after_5]
  generalize hy : (cfg0.win 5).xinj (cfg0.grid.coords t) y = z
  obtain ⟨r, d, rfl⟩ : ∃ (r : Fin 32) (d : Fin 128), z = ix2 r d := ⟨z 0, z 1, eq_ix2 z⟩
  have h0 : (y 0).val = r.val := congrArg (fun z : S32x128.Idx => (z 0).val) hy
  have h1 : (y 1).val = d.val := congrArg (fun z : S32x128.Idx => (z 1).val) hy
  have hp : (pt t).val = 24 * (t.val / 24) := rfl
  blk_simp [e]
  refine (ot_at m c (pt t) r d _ ?_).trans (congrArg (tl _ _ _ _) (Fin.ext ?_)) <;> blk_simp [e] <;> omega

end

/-! ## The reference -/

/-- The reference's projection at an index. -/
theorem ref_0 (X : FVec Ideal Cert.Reference9Ideal.S32x2048 .f32) (G : FVec Ideal Cert.Reference9Ideal.S1x2048 .f32) (W : FVec Ideal Cert.Reference9Ideal.S1x2048x12352 .f32) (R : Fin 32) (n : Fin 12288) :
    Host.dotGeneral Cert.Reference9Ideal.dot_S32x2048_S2048x12288_S32x12288_1_0_0_1_n_n none (mulf (mulf X (broadcastInDim Cert.Reference9Ideal.S32x2048 ![0, 1] Cert.Reference9Ideal.Gen.bcast_S32x1_S32x2048_0_1 (Host.rsqrt (addf (Host.divf (broadcastInDim Cert.Reference9Ideal.S32x1 ![0] Cert.Reference9Ideal.Gen.bcast_S32_S32x1_0 (Host.reduceAdd (mulf X X) (constant Cert.Reference9Ideal.S_ .f32 0x00000000#32) Cert.Reference9Ideal.Gen.reducesTo_S32x2048_S32_d1 Cert.Reference9Ideal.Gen.h_S_)) (broadcastInDim Cert.Reference9Ideal.S32x1 ![] Cert.Reference9Ideal.Gen.bcast_S_S32x1 (constant Cert.Reference9Ideal.S_ .f32 0x45000000#32))) (broadcastInDim Cert.Reference9Ideal.S32x1 ![] Cert.Reference9Ideal.Gen.bcast_S_S32x1 (constant Cert.Reference9Ideal.S_ .f32 0x358637BD#32)))))) (broadcastInDim Cert.Reference9Ideal.S32x2048 ![0, 1] Cert.Reference9Ideal.Gen.bcast_S1x2048_S32x2048_0_1 G)) (extractStridedSlice Cert.Reference9Ideal.S2048x12288 ![0, 0] (shapeCast Cert.Reference9Ideal.S2048x12352 W Cert.Reference9Ideal.Gen.shapeCasts_S1x2048x12352_S2048x12352) Cert.Reference9Ideal.Gen.slices_S2048x12352_S2048x12288_0_0) (ix2 R n) = pz X G W R n := by
  pointwise [pz, nrm]

/-- The reference's tail at an index. -/
theorem ref_1 (X : FVec Ideal Cert.Reference9Ideal.S32x2048 .f32) (G : FVec Ideal Cert.Reference9Ideal.S1x2048 .f32) (T : FVec Ideal Cert.Reference9Ideal.S2048x128 .f32) (R : Fin 32) (n : Fin 128) :
    Host.dotGeneral Cert.Reference9Ideal.dot_S32x2048_S2048x128_S32x128_1_0_0_1_n_n none (mulf (mulf X (broadcastInDim Cert.Reference9Ideal.S32x2048 ![0, 1] Cert.Reference9Ideal.Gen.bcast_S32x1_S32x2048_0_1 (Host.rsqrt (addf (Host.divf (broadcastInDim Cert.Reference9Ideal.S32x1 ![0] Cert.Reference9Ideal.Gen.bcast_S32_S32x1_0 (Host.reduceAdd (mulf X X) (constant Cert.Reference9Ideal.S_ .f32 0x00000000#32) Cert.Reference9Ideal.Gen.reducesTo_S32x2048_S32_d1 Cert.Reference9Ideal.Gen.h_S_)) (broadcastInDim Cert.Reference9Ideal.S32x1 ![] Cert.Reference9Ideal.Gen.bcast_S_S32x1 (constant Cert.Reference9Ideal.S_ .f32 0x45000000#32))) (broadcastInDim Cert.Reference9Ideal.S32x1 ![] Cert.Reference9Ideal.Gen.bcast_S_S32x1 (constant Cert.Reference9Ideal.S_ .f32 0x358637BD#32)))))) (broadcastInDim Cert.Reference9Ideal.S32x2048 ![0, 1] Cert.Reference9Ideal.Gen.bcast_S1x2048_S32x2048_0_1 G)) T (ix2 R n) = tl X G T R n := by
  pointwise [tl, nrm]

/-- The reference's two outputs at an index. -/
theorem reference_at (m : (ℓ : Loc Cert.Reference9Ideal.nD Cert.Reference9Ideal.τ Cert.Reference9Ideal.sig) → Buf (Elt Ideal) ℓ) (ρ : Dev Cert.Reference9Ideal.nD → PrngReg) :
    θ_run Cert.Reference9Ideal.defs (onTc (τ := Cert.Reference9Ideal.τ) (Cert.Reference9Ideal.main (F := Ideal))) ⟨m, fun _ => 0, ρ⟩
      fun r => ∀ c : Dev Cert.Reference9Ideal.nD,
        (∀ (R : Fin 32) (n : Fin 12288), (r.2.mem ((c.tc : Thread Cert.Reference9Ideal.nD Cert.Reference9Ideal.τ).loc Cert.Reference9Ideal.main_v14) : Vec Ideal Cert.Kernel9Ideal.S32x12288 .f32) (ix2 R n)
            = pz (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) R n)
        ∧ (∀ (R : Fin 32) (n : Fin 128), (r.2.mem ((c.tc : Thread Cert.Reference9Ideal.nD Cert.Reference9Ideal.τ).loc Cert.Reference9Ideal.main_v15) : Vec Ideal Cert.Kernel9Ideal.S32x128 .f32) (ix2 R n)
            = tl (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg3)) R n)
        ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3) := by
  refine (θ_run Cert.Reference9Ideal.defs _ _).mono (fun r h c => ?_) (Cert.Reference9Ideal.Value.run (F := Ideal) m ρ)
  obtain ⟨h0, h1, ha⟩ := h c
  exact ⟨fun R n => (congrFun h0 (ix2 R n)).trans (ref_0 _ _ _ R n), fun R n => (congrFun h1 (ix2 R n)).trans (ref_1 _ _ _ R n), ha⟩

/-- The kernel's two outputs. -/
theorem kernel_run (m : (ℓ : Loc Cert.Kernel9Ideal.nD Cert.Kernel9Ideal.τ Cert.Kernel9Ideal.sig) → Buf (Elt Ideal) ℓ) (ρ : Dev Cert.Kernel9Ideal.nD → PrngReg) :
    θ_run Cert.Kernel9Ideal.defs (onTc (τ := Cert.Kernel9Ideal.τ) (Cert.Kernel9Ideal.main (F := Ideal))) ⟨m, fun _ => 0, ρ⟩
      fun r => ∀ c : Dev Cert.Kernel9Ideal.nD,
        r.2.mem ((c.tc : Thread Cert.Kernel9Ideal.nD Cert.Kernel9Ideal.τ).loc Cert.Kernel9Ideal.main_v0_0) = (fun i => pz (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (i 0) (i 1) : Vec Ideal Cert.Kernel9Ideal.S32x12288 .f32)
        ∧ r.2.mem ((c.tc : Thread Cert.Kernel9Ideal.nD Cert.Kernel9Ideal.τ).loc Cert.Kernel9Ideal.main_v0_1) = (fun i => tl (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)) (i 0) (i 1) : Vec Ideal Cert.Kernel9Ideal.S32x128 .f32)
        ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
        ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
        ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
        ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3) := by
  refine (θ_run Cert.Kernel9Ideal.defs _ _).mono (fun r h c => ?_) (θ_run_and (Cert.Proj9.run_main (F := Ideal) m ρ) (Cert.Proj9.frame (F := Ideal) m ρ))
  exact ⟨((h.1 c).1 4).trans (arr_4 m c), ((h.1 c).1 5).trans (arr_5 m c), h.2.1 c⟩

/-- The printed kernel and its ideal form have the same bodies, -/
theorem bodies_eq : Cert.Kernel9.defs₀ (F := Bits) = Cert.Kernel9Ideal.defs₀ (F := Bits) := by
  refine congrArg Defs.onTc (funext fun l => ?_)
  obtain ⟨n, h⟩ := l
  cases n with
  | zero => funext x; rfl
  | succ n => exact absurd h (Nat.not_lt.2 (Nat.le_add_left _ _))

/-- so the run of the one is the run of the other. -/
theorem defs_eq : Cert.Kernel9.defs (F := Bits) = Cert.Kernel9Ideal.defs (F := Bits) :=
  congrArg (Pipeline.defs Cert.Kernel9Ideal.pcfgs) bodies_eq

theorem frame_p : Cert.quiescent_Kernel9 := fun m ρ _ => by
  rw [defs_eq]
  exact Cert.Proj9.frame m ρ
theorem frame_pi : Cert.quiescent_Kernel9Ideal := fun m ρ _ => Cert.Proj9.frame m ρ

theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic : Cert.algebraic_Kernel9Ideal_Reference9Ideal := by
  intro m g m' g' _ hag
  refine ⟨fun c => _, fun c => _, kernel_run m g, ?_⟩
  refine (θ_run Cert.Reference9Ideal.defs _ _).mono (fun r h c => ?_) (reference_at m' g')
  obtain ⟨h0, h1, ha⟩ := h c
  obtain ⟨e0, e1, e2, e3⟩ := hag c
  rw [e0, e1, e2] at h0
  rw [e0, e1, e3] at h1
  refine ⟨funext fun i => ?_, funext fun i => ?_, ha⟩
  · exact (congrArg (r.2.mem ((c.tc : Thread Cert.Reference9Ideal.nD Cert.Reference9Ideal.τ).loc Cert.Reference9Ideal.main_v14)) (eq_ix2 (n0 := 32) (n1 := 12288) i)).trans (h0 (i 0) (i 1))
  · exact (congrArg (r.2.mem ((c.tc : Thread Cert.Reference9Ideal.nD Cert.Reference9Ideal.τ).loc Cert.Reference9Ideal.main_v15)) (eq_ix2 (n0 := 32) (n1 := 128) i)).trans (h1 (i 0) (i 1))

end Cert.Proj9Claim

end
-- ==== Proof.SampMlpStep.lean ====
/-
  The squared-ReLU MLP kernel over the sample, one grid point at a time: what the body leaves in the output's staging block and in
  the carried scratch, as the printed payloads of the blocks it reads. At the first of the sixteen column steps the
  scratch takes the normalised rows and the output takes the residual before the first product is added; at the
  other steps the scratch stays and the product is added to what the step before left.
-/
module

public import proofs.«01_k».proof.Proof.Proj9Claim
public import proofs.«01_k».proof.Proof.Gen.Kernel10Ideal.Value

@[expose] public section

set_option maxRecDepth 16384

noncomputable section

namespace Cert.SampMlpStep

open Cert.Kernel10Ideal Cert.Kernel10Ideal.Gen
open Idealize.ShloMosaic Idealize.ShloMosaic.TcCoe Idealize.SL.Sem
open Idealize.ShloMosaic.Pipeline (Dat)

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- A later column step: the output block `xo` plus the step's product, from the scratch rows `xs`. -/
theorem out_later (c : Dev nD) (i : grid0.Coords) (arg2 : Memref sig .tc .vmem S1x2048 .f32) (harg2 : arg2.IsWhole) (arg3 : Memref sig .tc .vmem S32x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S32x2048 .f32) (harg6 : arg6.IsWhole) (arg7 : Memref sig .tc .vmem S32x2048 .bf16) (harg7 : arg7.IsWhole) (hc0 : ¬cond0_0 i)
    (x0 : Vec F S1x2048 .f32) (x1 : Vec F S32x2048 .f32) (x2 : Vec F S1x2048x512 .f32) (x3 : Vec F S1x512x2048 .f32) (xo : Vec F S32x2048 .f32) (xs : Vec F S32x2048 .bf16) :
    out0_B_4 c i arg2 harg2 arg3 harg3 arg4 harg4 arg5 harg5 arg6 harg6 arg7 harg7 hc0 x0 x1 x2 x3 xo xs = k0_pay2 xs x2 xo x3 := by
  unfold out0_B_4
  rw [View.read_writes_eq_canon _ _ _ (cover0_B_4 c i arg2 harg2 arg3 harg3 arg4 harg4 arg5 harg5 arg6 harg6 arg7 harg7 hc0 x0 x1 x2 x3 xo xs)]
  unfold kernelRun0_B
  dsimp only
  rw [View.canon_unit_zero z2]
  simp only [View.readAt_eq_ld, harg4.read_unread, harg5.read_unread, harg6.read_unread, harg7.read_unread,
    View.ld_unit_zero (S := S32x2048) z2, View.ld_unit_zero (S := S1x2048x512) z3, View.ld_unit_zero (S := S1x512x2048) z3]

/-- The first column step: the scratch takes the normalised rows of the block `x1` under the gains `x0`. -/
theorem scratch_first (c : Dev nD) (i : grid0.Coords) (arg2 : Memref sig .tc .vmem S1x2048 .f32) (harg2 : arg2.IsWhole) (arg3 : Memref sig .tc .vmem S32x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S32x2048 .f32) (harg6 : arg6.IsWhole) (arg7 : Memref sig .tc .vmem S32x2048 .bf16) (harg7 : arg7.IsWhole) (hc0 : cond0_0 i)
    (x0 : Vec F S1x2048 .f32) (x1 : Vec F S32x2048 .f32) (x2 : Vec F S1x2048x512 .f32) (x3 : Vec F S1x512x2048 .f32) :
    sout0_A_0 c i arg2 harg2 arg3 harg3 arg4 harg4 arg5 harg5 arg6 harg6 arg7 harg7 hc0 x0 x1 x2 x3 = k0_pay1 x1 x0 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero z2]
  simp only [View.readAt_eq_ld, harg2.read_unread, harg3.read_unread,
    View.ld_unit_zero (S := S32x2048) z2, View.ld_unit_zero (S := S1x2048) z2]

/-- The first column step: the output takes the residual block plus the step's product. -/
theorem out_first (c : Dev nD) (i : grid0.Coords) (arg2 : Memref sig .tc .vmem S1x2048 .f32) (harg2 : arg2.IsWhole) (arg3 : Memref sig .tc .vmem S32x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S32x2048 .f32) (harg6 : arg6.IsWhole) (arg7 : Memref sig .tc .vmem S32x2048 .bf16) (harg7 : arg7.IsWhole) (hc0 : cond0_0 i)
    (x0 : Vec F S1x2048 .f32) (x1 : Vec F S32x2048 .f32) (x2 : Vec F S1x2048x512 .f32) (x3 : Vec F S1x512x2048 .f32) :
    out0_A_4 c i arg2 harg2 arg3 harg3 arg4 harg4 arg5 harg5 arg6 harg6 arg7 harg7 hc0 x0 x1 x2 x3 = k0_pay2 (k0_pay1 x1 x0) x2 x1 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S32x2048) z2]
  simp only [View.readCov_unit_zero (S := S32x2048) _ z2, View.readAt_eq_ld, harg2.read_unread, harg3.read_unread, harg4.read_unread, harg5.read_unread,
    View.ld_unit_zero (S := S32x2048) z2, View.ld_unit_zero (S := S1x2048) z2, View.ld_unit_zero (S := S1x2048x512) z3, View.ld_unit_zero (S := S1x512x2048) z3]

end Cert.SampMlpStep

end
-- ==== Proof.SampMlpValue.lean ====
/-
  The squared-ReLU MLP kernel's values: after the column step `j` of a row block the output holds the residual plus
  the contributions of the first `512 · (j + 1)` hidden features, so after the sixteenth step it holds the layer's
  result; the reference sums the same features at once.
-/
module

public import proofs.«01_k».proof.Proof.SampMlpStep
public import proofs.«01_k».proof.Proof.Gen.Reference10Ideal.Run
public import Idealize.ShloMosaic.Lib.Pointwise
public import Idealize.ShloMosaic.Lib.Pipeline.ValueKit

@[expose] public section

set_option maxRecDepth 16384

noncomputable section

namespace Cert.SampMlpValue

open Cert.Kernel10Ideal Cert.Kernel10Ideal.Gen Cert.Kernel10Ideal.Value Cert.SampMlpStep
open Idealize.ShloMosaic Idealize.ShloMosaic.TcCoe Idealize.SL.Sem
open Idealize.ShloMosaic.Pipeline (Dat)

/-- The block indices of the four input windows at point `t`: the gains whole, the row block `t / 16`, and the
    column block `t % 16` of the layer's two weight matrices. -/
theorem idx (t : Fin cfg0.N) : win0_0.index t = ![0, 0] ∧ win0_1.index t = ![t.val / 16, 0] ∧
    win0_2.index t = ![3, 0, t.val % 16] ∧ win0_3.index t = ![3, t.val % 16, 0] := by
  revert t; decide +kernel

/-! ## The layer's mathematics -/

/-- The normalised row `R` at feature `k`. -/
def nrm (X : Vec Ideal S32x2048 .f32) (G : Vec Ideal S1x2048 .f32) (R : Fin 32) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- What hidden feature `f` adds to the result at row `R`, column `k`. -/
def feat (X : Vec Ideal S32x2048 .f32) (G : Vec Ideal S1x2048 .f32) (U : Vec Ideal S4x2048x8192 .f32)
    (W : Vec Ideal S4x8192x2048 .f32) (R : Fin 32) (k : Fin 2048) (f : Fin 8192) : EReal :=
  max (∑ q, nrm X G R q * U (ix3 3 q f)) 0 * max (∑ q, nrm X G R q * U (ix3 3 q f)) 0 * W (ix3 3 f k)

/-- The same over all naturals, zero past the last feature. -/
def featN (X : Vec Ideal S32x2048 .f32) (G : Vec Ideal S1x2048 .f32) (U : Vec Ideal S4x2048x8192 .f32)
    (W : Vec Ideal S4x8192x2048 .f32) (R : Fin 32) (k : Fin 2048) (f : ℕ) : EReal :=
  if h : f < 8192 then feat X G U W R k ⟨f, h⟩ else 0

/-! ## The payloads at an index -/

theorem pay1_at (x : Vec Ideal S32x2048 .f32) (g : Vec Ideal S1x2048 .f32) (r : Fin 32) (k : Fin 2048) :
    k0_pay1 x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay1]

theorem pay2_at (xs : Vec Ideal S32x2048 .bf16) (wu : Vec Ideal S1x2048x512 .f32) (o : Vec Ideal S32x2048 .f32)
    (wd : Vec Ideal S1x512x2048 .f32) (r : Fin 32) (k : Fin 2048) :
    k0_pay2 xs wu o wd (ix2 r k) = o (ix2 r k) + ∑ f : Fin 512, max (∑ q, xs (ix2 r q) * wu (ix3 0 q f)) 0
      * max (∑ q, xs (ix2 r q) * wu (ix3 0 q f)) 0 * wd (ix3 0 f k) := by
  pointwise [k0_pay2]

section
variable (m : (ℓ : Loc nD τ sig) → Buf (Elt Ideal) ℓ) (c : Dev nD)

/-! ## The blocks at an index -/

theorem blk0 (t : Fin cfg0.N) (k : Fin 2048) :
    iblk m c 0 t (ix2 0 k) = m ((c : Thread nD τ).loc main_arg1) (ix2 0 k) := by
  have e := (idx t).1
  blk_ext [iblk, V, e]

theorem blk1 (t : Fin cfg0.N) (r : Fin 32) (k : Fin 2048) (hR : 32 * (t.val / 16) + r.val < 32) :
    iblk m c 1 t (ix2 r k) = m ((c : Thread nD τ).loc main_arg0) (ix2 ⟨32 * (t.val / 16) + r.val, hR⟩ k) := by
  have e := (idx t).2.1
  blk_ext [iblk, V, e]

theorem blk2 (t : Fin cfg0.N) (q : Fin 2048) (f : Fin 512) (hf : 512 * (t.val % 16) + f.val < 8192) :
    iblk m c 2 t (ix3 0 q f) = m ((c : Thread nD τ).loc main_arg2) (ix3 3 q ⟨512 * (t.val % 16) + f.val, hf⟩) := by
  have e := (idx t).2.2.1
  blk_ext [iblk, V, e]

theorem blk3 (t : Fin cfg0.N) (f : Fin 512) (k : Fin 2048) (hf : 512 * (t.val % 16) + f.val < 8192) :
    iblk m c 3 t (ix3 0 f k) = m ((c : Thread nD τ).loc main_arg3) (ix3 3 ⟨512 * (t.val % 16) + f.val, hf⟩ k) := by
  have e := (idx t).2.2.2
  blk_ext [iblk, V, e]

/-! ## The four arguments -/

abbrev aX : Vec Ideal S32x2048 .f32 := m ((c : Thread nD τ).loc main_arg0)
abbrev aG : Vec Ideal S1x2048 .f32 := m ((c : Thread nD τ).loc main_arg1)
abbrev aU : Vec Ideal S4x2048x8192 .f32 := m ((c : Thread nD τ).loc main_arg2)
abbrev aW : Vec Ideal S4x8192x2048 .f32 := m ((c : Thread nD τ).loc main_arg3)

theorem rows_at (t : Fin cfg0.N) (r : Fin 32) (k : Fin 2048) (hR : 32 * (t.val / 16) + r.val < 32) :
    k0_pay1 (iblk m c 1 t) (iblk m c 0 t) (ix2 r k) = nrm (aX m c) (aG m c) ⟨32 * (t.val / 16) + r.val, hR⟩ k := by
  refine (pay1_at (iblk m c 1 t) (iblk m c 0 t) r k).trans ?_
  unfold nrm
  have h1 : ∀ q, iblk m c 1 t (ix2 r q) = aX m c (ix2 ⟨32 * (t.val / 16) + r.val, hR⟩ q) := fun q => blk1 m c t r q hR
  have h0 : iblk m c 0 t (ix2 0 k) = aG m c (ix2 0 k) := blk0 m c t k
  rw [h0, h1 k]
  simp only [h1]

/-- One column step over the scratch's normalised rows adds its 512 features. -/
theorem step_at (t : Fin cfg0.N) (r : Fin 32) (k : Fin 2048) (hR : 32 * (t.val / 16) + r.val < 32)
    (xs : Vec Ideal S32x2048 .bf16) (o : Vec Ideal S32x2048 .f32)
    (hxs : ∀ q, xs (ix2 r q) = nrm (aX m c) (aG m c) ⟨32 * (t.val / 16) + r.val, hR⟩ q) :
    k0_pay2 xs (iblk m c 2 t) o (iblk m c 3 t) (ix2 r k) = o (ix2 r k)
      + ∑ s ∈ Finset.range 512, featN (aX m c) (aG m c) (aU m c) (aW m c) ⟨32 * (t.val / 16) + r.val, hR⟩ k (512 * (t.val % 16) + s) := by
  refine (pay2_at xs (iblk m c 2 t) o (iblk m c 3 t) r k).trans ?_
  rw [Finset.sum_range]
  refine congrArg _ (Finset.sum_congr rfl fun f _ => ?_)
  have hf : 512 * (t.val % 16) + f.val < 8192 := by have := f.isLt; omega
  have h2 : ∀ q, iblk m c 2 t (ix3 0 q f) = aU m c (ix3 3 q ⟨512 * (t.val % 16) + f.val, hf⟩) := fun q => blk2 m c t q f hf
  have h3 : iblk m c 3 t (ix3 0 f k) = aW m c (ix3 3 ⟨512 * (t.val % 16) + f.val, hf⟩ k) := blk3 m c t f k hf
  unfold featN feat
  rw [dif_pos hf, h3]
  simp only [hxs, h2]

/-- What point `n` leaves: in the scratch the normalised rows of its row block, in the output the residual plus the
    features so far. -/
theorem state (n : ℕ) (hn : n < cfg0.N) (r : Fin 32) (hR : 32 * (n / 16) + r.val < 32) :
    (∀ k, (outsAt0 m c n hn).2 (ix2 r k) = nrm (aX m c) (aG m c) ⟨32 * (n / 16) + r.val, hR⟩ k)
    ∧ ∀ k, (outsAt0 m c n hn).1 (ix2 r k) = aX m c (ix2 ⟨32 * (n / 16) + r.val, hR⟩ k)
      + ∑ f ∈ Finset.range (512 * (n % 16 + 1)), featN (aX m c) (aG m c) (aU m c) (aW m c) ⟨32 * (n / 16) + r.val, hR⟩ k f := by
  induction n with
  | zero =>
    have e := outsAt0_A m c ⟨0, hn⟩ rfl
    rw [out_first, scratch_first] at e
    have hs := fun k => rows_at m c ⟨0, hn⟩ r k hR
    constructor
    · intro k
      rw [show outsAt0 m c 0 hn = _ from e]
      exact hs k
    · intro k
      rw [show outsAt0 m c 0 hn = _ from e]
      refine (step_at m c ⟨0, hn⟩ r k hR _ _ hs).trans ?_
      rw [blk1 m c ⟨0, hn⟩ r k hR]
      simp
  | succ n ih =>
    by_cases h0 : (n + 1) % 16 = 0
    · have e := outsAt0_A m c ⟨n + 1, hn⟩ h0
      rw [out_first, scratch_first] at e
      have hs := fun k => rows_at m c ⟨n + 1, hn⟩ r k hR
      constructor
      · intro k
        rw [show outsAt0 m c (n + 1) hn = _ from e]
        exact hs k
      · intro k
        rw [show outsAt0 m c (n + 1) hn = _ from e]
        refine (step_at m c ⟨n + 1, hn⟩ r k hR _ _ hs).trans ?_
        rw [blk1 m c ⟨n + 1, hn⟩ r k hR]
        simp [h0]
    · have hq : n / 16 = (n + 1) / 16 := by omega
      have hm : (n + 1) % 16 = n % 16 + 1 := by omega
      obtain ⟨i2, i1⟩ := ih (by omega) (by omega)
      have e := outsAt0_B m c ⟨n + 1, hn⟩ h0
      rw [out_later] at e
      have hRR : (⟨32 * (n / 16) + r.val, by omega⟩ : Fin 32) = ⟨32 * ((n + 1) / 16) + r.val, hR⟩ := Fin.ext (by simp only [hq])
      have hs : ∀ k, (outsAt0 m c n (by omega)).2 (ix2 r k) = nrm (aX m c) (aG m c) ⟨32 * ((n + 1) / 16) + r.val, hR⟩ k := fun k => by
        rw [← hRR]; exact i2 k
      constructor
      · intro k
        rw [show outsAt0 m c (n + 1) hn = _ from e]
        exact hs k
      · intro k
        rw [show outsAt0 m c (n + 1) hn = _ from e]
        refine (step_at m c ⟨n + 1, hn⟩ r k hR _ _ hs).trans ?_
        have i1k := i1 k
        rw [hRR] at i1k
        refine (congrArg (· + _) i1k).trans ?_
        rw [add_assoc, show 512 * ((n + 1) % 16 + 1) = 512 * (n % 16 + 1) + 512 by omega, Finset.sum_range_add]
        simp only [hm]

/-- The kernel's result at an index. -/
theorem kernel_at (R : Fin 32) (k : Fin 2048) :
    G4 m c (ix2 R k) = aX m c (ix2 R k) + ∑ f, feat (aX m c) (aG m c) (aU m c) (aW m c) R k f := by
  have hN : cfg0.N = 16 := N_0
  have hp : pt4Of (ix2 R k) = 16 * (R.val / 32) + 15 := by
    have := k.isLt
    show 16 * (1 * (R.val / 32 - 0) + 1 * (k.val / 2048 - 0)) + 15 = _
    omega
  have hl : loc4Of (ix2 R k) = ix2 ⟨R.val % 32, by omega⟩ k := by
    have := k.isLt
    funext a
    match a with
    | ⟨0, _⟩ => rfl
    | ⟨1, _⟩ => exact Fin.ext (Nat.mod_eq_of_lt k.isLt)
  have hlt : 16 * (R.val / 32) + 15 < cfg0.N := by have := R.isLt; omega
  unfold G4
  rw [dif_pos (hp.trans_lt hlt), ← outsAt0_sweep m c _ (hp.trans_lt hlt), hl]
  rw [show ∀ h, outsAt0 m c (pt4Of (ix2 R k)) h = outsAt0 m c (16 * (R.val / 32) + 15) hlt from fun h => by simp only [hp]]
  have hd : (16 * (R.val / 32) + 15) / 16 = R.val / 32 := by omega
  have hmo : (16 * (R.val / 32) + 15) % 16 = 15 := by omega
  have hR : 32 * ((16 * (R.val / 32) + 15) / 16) + R.val % 32 < 32 := by have := R.isLt; omega
  have hRR : (⟨32 * ((16 * (R.val / 32) + 15) / 16) + R.val % 32, hR⟩ : Fin 32) = R := Fin.ext (by simp only [hd]; omega)
  have h := (state m c (16 * (R.val / 32) + 15) hlt ⟨R.val % 32, by omega⟩ hR).2 k
  rw [hRR, hmo] at h
  refine h.trans (congrArg _ ?_)
  rw [Finset.sum_range]
  exact Finset.sum_congr rfl fun f _ => dif_pos f.isLt

end

end Cert.SampMlpValue

end
-- ==== Proof.SampMlpClaim.lean ====
/-
  The MLP call's claims: both frames, the reference's frame, and the equality of the two programs' results at the
  ideal values.
-/
module

public import proofs.«01_k».proof.Proof.SampMlpValue
public import proofs.«01_k».proof.Proof.Gen.Kernel10.Frame
public import Idealize.ShloMosaic.Adequacy

@[expose] public section

set_option maxRecDepth 16384

noncomputable section

namespace Cert.SampMlpClaim

open Cert.SampMlpValue
open Idealize.ShloMosaic Idealize.ShloMosaic.TcCoe Idealize.SL.Sem

/-- The layer's result at row `R`, column `k`. -/
def res (X : Vec Ideal Cert.Kernel10Ideal.S32x2048 .f32) (G : Vec Ideal Cert.Kernel10Ideal.S1x2048 .f32)
    (U : Vec Ideal Cert.Kernel10Ideal.S4x2048x8192 .f32) (W : Vec Ideal Cert.Kernel10Ideal.S4x8192x2048 .f32)
    (R : Fin 32) (k : Fin 2048) : EReal :=
  X (ix2 R k) + ∑ f, feat X G U W R k f

/-- The reference's composed term at an index: the residual plus the sum over all hidden features. -/
theorem reference_at (m : (ℓ : Loc Cert.Reference10Ideal.nD Cert.Reference10Ideal.τ Cert.Reference10Ideal.sig) → Buf (Elt Ideal) ℓ)
    (ρ : Dev Cert.Reference10Ideal.nD → PrngReg) :
    θ_run Cert.Reference10Ideal.defs (onTc (τ := Cert.Reference10Ideal.τ) (Cert.Reference10Ideal.main (F := Ideal))) ⟨m, fun _ => 0, ρ⟩
      fun r => ∀ c : Dev Cert.Reference10Ideal.nD,
        (∀ (R : Fin 32) (k : Fin 2048), (r.2.mem ((c.tc : Thread Cert.Reference10Ideal.nD Cert.Reference10Ideal.τ).loc Cert.Reference10Ideal.main_v21) : Vec Ideal Cert.Kernel10Ideal.S32x2048 .f32) (ix2 R k)
          = res (m ((c.tc : Thread Cert.Reference10Ideal.nD Cert.Reference10Ideal.τ).loc Cert.Reference10Ideal.main_arg0))
                (m ((c.tc : Thread Cert.Reference10Ideal.nD Cert.Reference10Ideal.τ).loc Cert.Reference10Ideal.main_arg1))
                (m ((c.tc : Thread Cert.Reference10Ideal.nD Cert.Reference10Ideal.τ).loc Cert.Reference10Ideal.main_arg2))
                (m ((c.tc : Thread Cert.Reference10Ideal.nD Cert.Reference10Ideal.τ).loc Cert.Reference10Ideal.main_arg3)) R k)
        ∧ r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3) := by
  refine (θ_run Cert.Reference10Ideal.defs _ _).mono (fun r h c => ⟨fun R k => ?_, (h c).2⟩) (Cert.Reference10Ideal.Value.run (F := Ideal) m ρ)
  refine (congrFun (h c).1 (ix2 R k)).trans ?_
  pointwise [res, feat, nrm]

theorem frame_p : Cert.quiescent_Kernel10 := fun m ρ _ => Cert.Kernel10.Gen.frame m ρ
theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' _ hag
  refine ⟨fun c => Cert.Kernel10Ideal.Value.G4 m c, Cert.Kernel10Ideal.Value.run (F := Ideal) m g, ?_⟩
  refine (θ_run Cert.Reference10Ideal.defs _ _).mono (fun r h c => ⟨?_, (h c).2⟩) (reference_at m' g')
  obtain ⟨e0, e1, e2, e3⟩ := hag c
  funext i
  obtain ⟨R, k, rfl⟩ : ∃ (R : Fin 32) (k : Fin 2048), i = ix2 R k := ⟨i 0, i 1, eq_ix2 i⟩
  refine ((h c).1 R k).trans (Eq.trans ?_ (kernel_at m c R k).symm)
  rw [e0, e1, e2, e3]
  rfl

end Cert.SampMlpClaim

end
-- ==== Proof.SampFoxStep.lean ====
/-
  The fused attention input projection of the sample, one grid point at a time: what the body leaves in each staging block it
  stores into, from the blocks it reads. Column steps 0–3 of a row block give queries, 4–7 keys, 8–11 values and
  12–15 the gate; the first step also normalises the rows into the carried scratch and writes the forget gate.
-/
module

public import proofs.«01_k».proof.Proof.SampMlpClaim
public import proofs.«01_k».proof.Proof.Gen.Kernel11Ideal.Frame
public import proofs.«01_k».proof.Proof.Gen.Kernel11Ideal.Skeleton
public import proofs.«01_k».proof.Proof.Gen.Kernel11.Frame
public import proofs.«01_k».proof.Proof.Gen.Kernel11.Skeleton
public import proofs.«01_k».proof.Proof.Gen.Reference11Ideal.Run
public import Idealize.ShloMosaic.Lib.Pipeline.TableIdle
public import Idealize.ShloMosaic.Lib.Pipeline.Value

@[expose] public section

set_option maxRecDepth 16384

noncomputable section

namespace Cert.SampFoxStep

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-! ## What the body stores -/

/-- The stored query block: per head of the four the normalised columns under the query gains. -/
abbrev qL (xs : Vec F S32x2048 .bf16) (w : Vec F S1x2048x512 .f32) (qg : Vec F S1x128 .f32) : List (View.Piece (Elt F) S32x512 .bf16) :=
    [⟨Rect.unit (s := S32x512) ![0, 384] S32x128.size inb_S32x512_S32x128_0_384, k0_pay16 xs w qg⟩,
     ⟨Rect.unit (s := S32x512) ![0, 256] S32x128.size inb_S32x512_S32x128_0_256, k0_pay15 (k0_pay7 (k0_pay14 xs w)) qg (k0_pay8 (k0_pay14 xs w)) (Scalar.ofBits .f32 0x358637BD#32)⟩,
     ⟨Rect.unit (s := S32x512) ![0, 128] S32x128.size inb_S32x512_S32x128_0_128, k0_pay6 (k0_pay14 xs w) qg⟩,
     ⟨Rect.unit (s := S32x512) ![0, 0] S32x128.size inb_S32x512_S32x128_0_0, k0_pay5 (k0_pay14 xs w) qg⟩]
/-- The stored key block, -/
abbrev kL (xs : Vec F S32x2048 .bf16) (w : Vec F S1x2048x512 .f32) (kg : Vec F S1x128 .f32) : List (View.Piece (Elt F) S32x512 .f32) :=
    [⟨Rect.unit (s := S32x512) ![0, 384] S32x128.size inb_S32x512_S32x128_0_384, k0_pay19 xs w kg⟩,
     ⟨Rect.unit (s := S32x512) ![0, 256] S32x128.size inb_S32x512_S32x128_0_256, k0_pay17 (k0_pay13 (k0_pay14 xs w)) kg⟩,
     ⟨Rect.unit (s := S32x512) ![0, 128] S32x128.size inb_S32x512_S32x128_0_128, k0_pay11 (k0_pay14 xs w) kg⟩,
     ⟨Rect.unit (s := S32x512) ![0, 0] S32x128.size inb_S32x512_S32x128_0_0, k0_pay9 (k0_pay14 xs w) kg⟩]
/-- and its rounding. -/
abbrev kbL (xs : Vec F S32x2048 .bf16) (w : Vec F S1x2048x512 .f32) (kg : Vec F S1x128 .f32) : List (View.Piece (Elt F) S32x512 .bf16) :=
    [⟨Rect.unit (s := S32x512) ![0, 384] S32x128.size inb_S32x512_S32x128_0_384, k0_pay20 xs w kg⟩,
     ⟨Rect.unit (s := S32x512) ![0, 256] S32x128.size inb_S32x512_S32x128_0_256, k0_pay18 (k0_pay13 (k0_pay14 xs w)) kg⟩,
     ⟨Rect.unit (s := S32x512) ![0, 128] S32x128.size inb_S32x512_S32x128_0_128, k0_pay12 (k0_pay14 xs w) kg⟩,
     ⟨Rect.unit (s := S32x512) ![0, 0] S32x128.size inb_S32x512_S32x128_0_0, k0_pay10 (k0_pay14 xs w) kg⟩]
def qv (xs : Vec F S32x2048 .bf16) (w : Vec F S1x2048x512 .f32) (qg : Vec F S1x128 .f32) : Vec F S32x512 .bf16 := View.canon (qL xs w qg)
def kv (xs : Vec F S32x2048 .bf16) (w : Vec F S1x2048x512 .f32) (kg : Vec F S1x128 .f32) : Vec F S32x512 .f32 := View.canon (kL xs w kg)
def kbv (xs : Vec F S32x2048 .bf16) (w : Vec F S1x2048x512 .f32) (kg : Vec F S1x128 .f32) : Vec F S32x512 .bf16 := View.canon (kbL xs w kg)

theorem qcov (xs : Vec F S32x2048 .bf16) (w : Vec F S1x2048x512 .f32) (qg : Vec F S1x128 .f32) (y : S32x512.Idx) : ∃ p ∈ qL xs w qg, y ∈ p.1.set :=
  View.cover_of_tiledL (qL xs w qg) S32x128.size (by sl_kernel_rfl) y
theorem kcov (xs : Vec F S32x2048 .bf16) (w : Vec F S1x2048x512 .f32) (kg : Vec F S1x128 .f32) (y : S32x512.Idx) : ∃ p ∈ kL xs w kg, y ∈ p.1.set :=
  View.cover_of_tiledL (kL xs w kg) S32x128.size (by sl_kernel_rfl) y
theorem kbcov (xs : Vec F S32x2048 .bf16) (w : Vec F S1x2048x512 .f32) (kg : Vec F S1x128 .f32) (y : S32x512.Idx) : ∃ p ∈ kbL xs w kg, y ∈ p.1.set :=
  View.cover_of_tiledL (kbL xs w kg) S32x128.size (by sl_kernel_rfl) y

/-- A buffer stored whole by one store holds what was stored. -/
theorem read_whole {S : Shape} {e : EltTy} {κ : Kind} {sp : Space} (v : View sig κ sp S e) (f : v.ty.Contents (Elt F)) {o : Fin S.rank → Nat} (ho : o = fun _ => 0)
    (inb : ∀ a, o a + S.size a ≤ S.size a) (p : S.Idx → Elt F e) :
    v.read (Elt F) (v.writes (Elt F) f [⟨Rect.unit (s := S) o S.size inb, p⟩]) = p := by
  rw [View.read_writes_eq_canon _ _ _ (fun y => ⟨_, List.mem_singleton.2 rfl, by rw [Rect.mem_set_unit]; subst ho; exact fun a => ⟨Nat.zero_le _, by simpa using (y a).isLt⟩⟩)]
  exact View.canon_unit_zero ho _ _

section Runs

variable (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S32x512 .bf16) (harg9 : arg9.IsWhole) (arg10 : Memref sig .tc .vmem S32x512 .f32) (harg10 : arg10.IsWhole) (arg11 : Memref sig .tc .vmem S32x512 .bf16) (harg11 : arg11.IsWhole) (arg12 : Memref sig .tc .vmem S32x512 .f32) (harg12 : arg12.IsWhole) (arg13 : Memref sig .tc .vmem S32x512 .bf16) (harg13 : arg13.IsWhole) (arg14 : Memref sig .tc .vmem S32x512 .f32) (harg14 : arg14.IsWhole) (arg15 : Memref sig .tc .vmem S32x128 .f32) (harg15 : arg15.IsWhole) (arg16 : Memref sig .tc .vmem S32x2048 .bf16) (harg16 : arg16.IsWhole)

/-! ## The body at a point of each kind -/

set_option maxHeartbeats 2000000 in
/-- The first column step of a row block. -/
theorem run_A (h1 : k0_cond1 i = 1#1) (h2 : k0_cond2 i = 1#1) (h3 : ¬k0_cond3 i = 1#1) (h4 : ¬k0_cond4 i = 1#1) (h5 : ¬k0_cond5 i = 1#1) (x : Vec F S32x2048 .f32) (g : Vec F S1x2048 .f32) (w : Vec F S1x2048x512 .f32) (wt : Vec F S2048x128 .f32) (bt : Vec F S1x128 .f32) (qg : Vec F S1x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare bt ∗ owns (c : Thread nD τ) arg7 fullShare qg ∗ (∃ d, owns (c : Thread nD τ) arg9 fullShare d) ∗ (∃ d, owns (c : Thread nD τ) arg15 fullShare d) ∗ (∃ d, owns (c : Thread nD τ) arg16 fullShare d)
        ∗ (iprop(owns (c : Thread nD τ) arg2 fullShare x ∗ owns (c : Thread nD τ) arg3 fullShare g ∗ owns (c : Thread nD τ) arg4 fullShare w ∗ owns (c : Thread nD τ) arg5 fullShare wt ∗ owns (c : Thread nD τ) arg6 fullShare bt ∗ owns (c : Thread nD τ) arg7 fullShare qg ∗ owns (c : Thread nD τ) arg9 fullShare (qv (k0_pay3 x g) w qg) ∗ owns (c : Thread nD τ) arg15 fullShare (k0_pay4 x g wt bt) ∗ owns (c : Thread nD τ) arg16 fullShare (k0_pay3 x g)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    try sl_unfold_words
    simp only [View.readCov_unit_zero (S := S32x2048) _ z2, View.readAt_eq_ld, harg2.read_unread, harg3.read_unread, harg4.read_unread, harg5.read_unread, harg6.read_unread, harg7.read_unread, View.ld_unit_zero (S := S32x2048) z2, View.ld_unit_zero (S := S1x2048x512) z3, View.ld_unit_zero (S := S1x128) z2, View.ld_unit_zero (S := S1x2048) z2, View.ld_unit_zero (S := S2048x128) z2]
    exact View.read_writes_eq_canon _ _ _ (qcov _ _ _)
  isplitl [H15]
  · iexists _; isplitr; swap; · iexact H15
    ipureintro
    try sl_unfold_words
    simp only [View.readCov_unit_zero (S := S32x2048) _ z2, View.readAt_eq_ld, harg2.read_unread, harg3.read_unread, harg4.read_unread, harg5.read_unread, harg6.read_unread, harg7.read_unread, View.ld_unit_zero (S := S32x2048) z2, View.ld_unit_zero (S := S1x2048x512) z3, View.ld_unit_zero (S := S1x128) z2, View.ld_unit_zero (S := S1x2048) z2, View.ld_unit_zero (S := S2048x128) z2]
    exact read_whole _ _ z2 _ _
  iexists _; isplitr; swap; · iexact H16
  ipureintro
  try sl_unfold_words
  simp only [View.readCov_unit_zero (S := S32x2048) _ z2, View.readAt_eq_ld, harg2.read_unread, harg3.read_unread, harg4.read_unread, harg5.read_unread, harg6.read_unread, harg7.read_unread, View.ld_unit_zero (S := S32x2048) z2, View.ld_unit_zero (S := S1x2048x512) z3, View.ld_unit_zero (S := S1x128) z2, View.ld_unit_zero (S := S1x2048) z2, View.ld_unit_zero (S := S2048x128) z2]
  exact read_whole _ _ z2 _ _

set_option maxHeartbeats 2000000 in
/-- Another column step of the queries. -/
theorem run_B (h1 : ¬k0_cond1 i = 1#1) (h2 : k0_cond2 i = 1#1) (h3 : ¬k0_cond3 i = 1#1) (h4 : ¬k0_cond4 i = 1#1) (h5 : ¬k0_cond5 i = 1#1) (w : Vec F S1x2048x512 .f32) (qg : Vec F S1x128 .f32) (xs : Vec F S32x2048 .bf16) (E : Set ℕ) (K : PUnit → sProp 𝕄) :
    iprop(owns (c : Thread nD τ) arg4 fullShare w ∗ owns (c : Thread nD τ) arg7 fullShare qg ∗ owns (c : Thread nD τ) arg16 fullShare xs ∗ (∃ d, owns (c : Thread nD τ) arg9 fullShare d)
        ∗ (iprop(owns (c : Thread nD τ) arg4 fullShare w ∗ owns (c : Thread nD τ) arg7 fullShare qg ∗ owns (c : Thread nD τ) arg16 fullShare xs ∗ owns (c : Thread nD τ) arg9 fullShare (qv xs w qg)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f7, %hf7, H7⟩, ⟨%f16, %hf16, H16⟩, ⟨%d9, %f9, -, H9⟩, Hk⟩
  obtain rfl := harg4.eq_unread hf4; obtain rfl := harg7.eq_unread hf7; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H7]
  · iexists _; isplitr; · ipureintro; exact harg7.read_unread _
    iexact H7
  isplitl [H16]
  · iexists _; isplitr; · ipureintro; exact harg16.read_unread _
    iexact H16
  iexists _; isplitr; swap; · iexact H9
  ipureintro
  try sl_unfold_words
  simp only [View.readCov_unit_zero (S := S32x2048) _ z2, View.readAt_eq_ld, harg4.read_unread, harg7.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
  exact View.read_writes_eq_canon _ _ _ (qcov _ _ _)

set_option maxHeartbeats 2000000 in
/-- A column step of the keys. -/
theorem run_C (h1 : ¬k0_cond1 i = 1#1) (h2 : ¬k0_cond2 i = 1#1) (h3 : k0_cond3 i = 1#1) (h4 : ¬k0_cond4 i = 1#1) (h5 : ¬k0_cond5 i = 1#1) (w : Vec F S1x2048x512 .f32) (kg : Vec F S1x128 .f32) (xs : Vec F S32x2048 .bf16) (E : Set ℕ) (K : PUnit → sProp 𝕄) :
    iprop(owns (c : Thread nD τ) arg4 fullShare w ∗ owns (c : Thread nD τ) arg8 fullShare kg ∗ owns (c : Thread nD τ) arg16 fullShare xs ∗ (∃ d, owns (c : Thread nD τ) arg10 fullShare d) ∗ (∃ d, owns (c : Thread nD τ) arg11 fullShare d)
        ∗ (iprop(owns (c : Thread nD τ) arg4 fullShare w ∗ owns (c : Thread nD τ) arg8 fullShare kg ∗ owns (c : Thread nD τ) arg16 fullShare xs ∗ owns (c : Thread nD τ) arg10 fullShare (kv xs w kg) ∗ owns (c : Thread nD τ) arg11 fullShare (kbv xs w kg)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f8, %hf8, H8⟩, ⟨%f16, %hf16, H16⟩, ⟨%d10, %f10, -, H10⟩, ⟨%d11, %f11, -, H11⟩, Hk⟩
  obtain rfl := harg4.eq_unread hf4; obtain rfl := harg8.eq_unread hf8; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H8]
  · iexists _; isplitr; · ipureintro; exact harg8.read_unread _
    iexact H8
  isplitl [H16]
  · iexists _; isplitr; · ipureintro; exact harg16.read_unread _
    iexact H16
  isplitl [H10]
  · iexists _; isplitr; swap; · iexact H10
    ipureintro
    try sl_unfold_words
    simp only [View.readCov_unit_zero (S := S32x2048) _ z2, View.readAt_eq_ld, harg4.read_unread, harg8.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
    exact View.read_writes_eq_canon _ _ _ (kcov _ _ _)
  iexists _; isplitr; swap; · iexact H11
  ipureintro
  try sl_unfold_words
  simp only [View.readCov_unit_zero (S := S32x2048) _ z2, View.readAt_eq_ld, harg4.read_unread, harg8.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
  exact View.read_writes_eq_canon _ _ _ (kbcov _ _ _)

set_option maxHeartbeats 2000000 in
/-- A column step of the values. -/
theorem run_D (h1 : ¬k0_cond1 i = 1#1) (h2 : ¬k0_cond2 i = 1#1) (h3 : ¬k0_cond3 i = 1#1) (h4 : k0_cond4 i = 1#1) (h5 : ¬k0_cond5 i = 1#1) (w : Vec F S1x2048x512 .f32) (xs : Vec F S32x2048 .bf16) (E : Set ℕ) (K : PUnit → sProp 𝕄) :
    iprop(owns (c : Thread nD τ) arg4 fullShare w ∗ owns (c : Thread nD τ) arg16 fullShare xs ∗ (∃ d, owns (c : Thread nD τ) arg12 fullShare d) ∗ (∃ d, owns (c : Thread nD τ) arg13 fullShare d)
        ∗ (iprop(owns (c : Thread nD τ) arg4 fullShare w ∗ owns (c : Thread nD τ) arg16 fullShare xs ∗ owns (c : Thread nD τ) arg12 fullShare (k0_pay14 xs w) ∗ owns (c : Thread nD τ) arg13 fullShare (k0_pay1 (k0_pay14 xs w))) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f16, %hf16, H16⟩, ⟨%d12, %f12, -, H12⟩, ⟨%d13, %f13, -, H13⟩, Hk⟩
  obtain rfl := harg4.eq_unread hf4; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H16]
  · iexists _; isplitr; · ipureintro; exact harg16.read_unread _
    iexact H16
  isplitl [H12]
  · iexists _; isplitr; swap; · iexact H12
    ipureintro
    try sl_unfold_words
    simp only [View.readCov_unit_zero (S := S32x2048) _ z2, View.readAt_eq_ld, harg4.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
    exact read_whole _ _ z2 _ _
  iexists _; isplitr; swap; · iexact H13
  ipureintro
  try sl_unfold_words
  simp only [View.readCov_unit_zero (S := S32x2048) _ z2, View.readAt_eq_ld, harg4.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
  exact read_whole _ _ z2 _ _

set_option maxHeartbeats 2000000 in
/-- A column step of the gate. -/
theorem run_E (h1 : ¬k0_cond1 i = 1#1) (h2 : ¬k0_cond2 i = 1#1) (h3 : ¬k0_cond3 i = 1#1) (h4 : ¬k0_cond4 i = 1#1) (h5 : k0_cond5 i = 1#1) (w : Vec F S1x2048x512 .f32) (xs : Vec F S32x2048 .bf16) (E : Set ℕ) (K : PUnit → sProp 𝕄) :
    iprop(owns (c : Thread nD τ) arg4 fullShare w ∗ owns (c : Thread nD τ) arg16 fullShare xs ∗ (∃ d, owns (c : Thread nD τ) arg14 fullShare d)
        ∗ (iprop(owns (c : Thread nD τ) arg4 fullShare w ∗ owns (c : Thread nD τ) arg16 fullShare xs ∗ owns (c : Thread nD τ) arg14 fullShare (k0_pay14 xs w)) -∗ K ⟨⟩))
      ⊢ wp frame (wpE (defs₀ (F := F)) Variants.none c none) E (cc0_fox_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_proj_eq_skeleton, k0_part1_eq_skeleton, k0_part2_eq_skeleton, k0_part3_eq_skeleton, k0_part4_eq_skeleton]
  unfold cc0_fox_proj_skel
  unfold owns
  iintro ⟨⟨%f4, %hf4, H4⟩, ⟨%f16, %hf16, H16⟩, ⟨%d14, %f14, -, H14⟩, Hk⟩
  obtain rfl := harg4.eq_unread hf4; obtain rfl := harg16.eq_unread hf16
  sl_exec (disch := first | sl_exact h1 | sl_exact h2 | sl_exact h3 | sl_exact h4 | sl_exact h5)
  sl_step
  iapply Hk
  isplitl [H4]
  · iexists _; isplitr; · ipureintro; exact harg4.read_unread _
    iexact H4
  isplitl [H16]
  · iexists _; isplitr; · ipureintro; exact harg16.read_unread _
    iexact H16
  iexists _; isplitr; swap; · iexact H14
  ipureintro
  try sl_unfold_words
  simp only [View.readCov_unit_zero (S := S32x2048) _ z2, View.readAt_eq_ld, harg4.read_unread, harg16.read_unread, View.ld_unit_zero (S := S32x2048) z2, View.ld_unit_zero (S := S1x2048x512) z3, View.ld_unit_zero (S := S1x128) z2, View.ld_unit_zero (S := S1x2048) z2, View.ld_unit_zero (S := S2048x128) z2]
  exact read_whole _ _ z2 _ _

end Runs

end Cert.SampFoxStep

end
-- ==== Proof.SampFoxData.lean ====
/-
  The fused attention input projection of the sample: the pipeline's proof data and its body obligation. An output block is
  stored at the points of its own four column steps only and stays in its staging buffer until the row block
  ends, so what a buffer holds at any point is what its last storing point left there.
-/
module

public import proofs.«01_k».proof.Proof.SampFoxStep
public import Idealize.ShloMosaic.Lib.Claim

@[expose] public section

set_option maxRecDepth 16384

noncomputable section

namespace Cert.SampFoxData

open Cert.Kernel11Ideal Cert.Kernel11Ideal.Gen Cert.SampFoxStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The point of `t`'s row block whose column step is nearest to `t`'s among `lo … hi`. -/
def pt (lo hi : Fin 16) (t : Fin cfg0.N) : Fin cfg0.N :=
  ⟨16 * (t.val / 16) + max lo.val (min hi.val (t.val % 16)), by
    have h : cfg0.N = 16 := N_0
    have := t.isLt; have := lo.isLt; have := hi.isLt; omega⟩

theorem pt_live (lo hi : Fin 16) (t : Fin cfg0.N) (h : lo.val ≤ t.val % 16) (h' : t.val % 16 ≤ hi.val) : pt lo hi t = t :=
  Fin.ext (by simp only [pt]; omega)

theorem pt_pred (lo hi : Fin 16) (t : Fin cfg0.N) (h : hi.val < t.val % 16) (hp : t.val - 1 < cfg0.N) :
    pt lo hi t = pt lo hi ⟨t.val - 1, hp⟩ := Fin.ext (by simp only [pt]; omega)

theorem cond_1 : ∀ t : Fin grid0.N, k0_cond1 (grid0.coords t) = 1#1 ↔ t.val % 16 = 0 := by decide +kernel
theorem cond_2 : ∀ t : Fin grid0.N, k0_cond2 (grid0.coords t) = 1#1 ↔ t.val % 16 < 4 := by decide +kernel
theorem cond_3 : ∀ t : Fin grid0.N, k0_cond3 (grid0.coords t) = 1#1 ↔ 4 ≤ t.val % 16 ∧ t.val % 16 < 8 := by decide +kernel
theorem cond_4 : ∀ t : Fin grid0.N, k0_cond4 (grid0.coords t) = 1#1 ↔ 8 ≤ t.val % 16 ∧ t.val % 16 < 12 := by decide +kernel
theorem cond_5 : ∀ t : Fin grid0.N, k0_cond5 (grid0.coords t) = 1#1 ↔ 12 ≤ t.val % 16 := by decide +kernel

/-- Output window 7: where the body stores nothing into it, where its buffer holds nothing yet, and that the only such point written back is a row block's last. -/
theorem idle_7 : ∀ t : Fin cfg0.N, cfg0.idle 7 (cfg0.grid.coords t) = !decide (0 ≤ t.val % 16 ∧ t.val % 16 ≤ 3) :=
  (by decide +kernel : ∀ t : Fin grid0.N, idle0 7 (grid0.coords t) = !decide (0 ≤ t.val % 16 ∧ t.val % 16 ≤ 3))
theorem fstep_7 : ∀ t : Fin cfg0.N, decide ((t.val + 1) % 16 ≤ 3) = ((cfg0.win 7).flush t || (cfg0.idle 7 (cfg0.grid.coords t) && decide (t.val % 16 ≤ 3))) := by decide +kernel
theorem fresh_7 (n : ℕ) (h : n ≤ cfg0.N) : cfg0.fresh 7 n = decide (n % 16 ≤ 3) :=
  cfg0.fresh_tab 7 (fun n => decide (n % 16 ≤ 3)) (by decide) fstep_7 n h
theorem fl_7 : ∀ t : Fin cfg0.N, (cfg0.win 7).flush t = true → t.val % 16 = 15 ∨ (0 ≤ t.val % 16 ∧ t.val % 16 ≤ 3) := by decide +kernel

/-- Output window 8: where the body stores nothing into it, where its buffer holds nothing yet, and that the only such point written back is a row block's last. -/
theorem idle_8 : ∀ t : Fin cfg0.N, cfg0.idle 8 (cfg0.grid.coords t) = !decide (4 ≤ t.val % 16 ∧ t.val % 16 ≤ 7) :=
  (by decide +kernel : ∀ t : Fin grid0.N, idle0 8 (grid0.coords t) = !decide (4 ≤ t.val % 16 ∧ t.val % 16 ≤ 7))
theorem fstep_8 : ∀ t : Fin cfg0.N, decide ((t.val + 1) % 16 ≤ 7) = ((cfg0.win 8).flush t || (cfg0.idle 8 (cfg0.grid.coords t) && decide (t.val % 16 ≤ 7))) := by decide +kernel
theorem fresh_8 (n : ℕ) (h : n ≤ cfg0.N) : cfg0.fresh 8 n = decide (n % 16 ≤ 7) :=
  cfg0.fresh_tab 8 (fun n => decide (n % 16 ≤ 7)) (by decide) fstep_8 n h
theorem fl_8 : ∀ t : Fin cfg0.N, (cfg0.win 8).flush t = true → t.val % 16 = 15 ∨ (4 ≤ t.val % 16 ∧ t.val % 16 ≤ 7) := by decide +kernel

/-- Output window 9: where the body stores nothing into it, where its buffer holds nothing yet, and that the only such point written back is a row block's last. -/
theorem idle_9 : ∀ t : Fin cfg0.N, cfg0.idle 9 (cfg0.grid.coords t) = !decide (4 ≤ t.val % 16 ∧ t.val % 16 ≤ 7) :=
  (by decide +kernel : ∀ t : Fin grid0.N, idle0 9 (grid0.coords t) = !decide (4 ≤ t.val % 16 ∧ t.val % 16 ≤ 7))
theorem fstep_9 : ∀ t : Fin cfg0.N, decide ((t.val + 1) % 16 ≤ 7) = ((cfg0.win 9).flush t || (cfg0.idle 9 (cfg0.grid.coords t) && decide (t.val % 16 ≤ 7))) := by decide +kernel
theorem fresh_9 (n : ℕ) (h : n ≤ cfg0.N) : cfg0.fresh 9 n = decide (n % 16 ≤ 7) :=
  cfg0.fresh_tab 9 (fun n => decide (n % 16 ≤ 7)) (by decide) fstep_9 n h
theorem fl_9 : ∀ t : Fin cfg0.N, (cfg0.win 9).flush t = true → t.val % 16 = 15 ∨ (4 ≤ t.val % 16 ∧ t.val % 16 ≤ 7) := by decide +kernel

/-- Output window 10: where the body stores nothing into it, where its buffer holds nothing yet, and that the only such point written back is a row block's last. -/
theorem idle_10 : ∀ t : Fin cfg0.N, cfg0.idle 10 (cfg0.grid.coords t) = !decide (8 ≤ t.val % 16 ∧ t.val % 16 ≤ 11) :=
  (by decide +kernel : ∀ t : Fin grid0.N, idle0 10 (grid0.coords t) = !decide (8 ≤ t.val % 16 ∧ t.val % 16 ≤ 11))
theorem fstep_10 : ∀ t : Fin cfg0.N, decide ((t.val + 1) % 16 ≤ 11) = ((cfg0.win 10).flush t || (cfg0.idle 10 (cfg0.grid.coords t) && decide (t.val % 16 ≤ 11))) := by decide +kernel
theorem fresh_10 (n : ℕ) (h : n ≤ cfg0.N) : cfg0.fresh 10 n = decide (n % 16 ≤ 11) :=
  cfg0.fresh_tab 10 (fun n => decide (n % 16 ≤ 11)) (by decide) fstep_10 n h
theorem fl_10 : ∀ t : Fin cfg0.N, (cfg0.win 10).flush t = true → t.val % 16 = 15 ∨ (8 ≤ t.val % 16 ∧ t.val % 16 ≤ 11) := by decide +kernel

/-- Output window 11: where the body stores nothing into it, where its buffer holds nothing yet, and that the only such point written back is a row block's last. -/
theorem idle_11 : ∀ t : Fin cfg0.N, cfg0.idle 11 (cfg0.grid.coords t) = !decide (8 ≤ t.val % 16 ∧ t.val % 16 ≤ 11) :=
  (by decide +kernel : ∀ t : Fin grid0.N, idle0 11 (grid0.coords t) = !decide (8 ≤ t.val % 16 ∧ t.val % 16 ≤ 11))
theorem fstep_11 : ∀ t : Fin cfg0.N, decide ((t.val + 1) % 16 ≤ 11) = ((cfg0.win 11).flush t || (cfg0.idle 11 (cfg0.grid.coords t) && decide (t.val % 16 ≤ 11))) := by decide +kernel
theorem fresh_11 (n : ℕ) (h : n ≤ cfg0.N) : cfg0.fresh 11 n = decide (n % 16 ≤ 11) :=
  cfg0.fresh_tab 11 (fun n => decide (n % 16 ≤ 11)) (by decide) fstep_11 n h
theorem fl_11 : ∀ t : Fin cfg0.N, (cfg0.win 11).flush t = true → t.val % 16 = 15 ∨ (8 ≤ t.val % 16 ∧ t.val % 16 ≤ 11) := by decide +kernel

/-- Output window 12: where the body stores nothing into it, where its buffer holds nothing yet, and that the only such point written back is a row block's last. -/
theorem idle_12 : ∀ t : Fin cfg0.N, cfg0.idle 12 (cfg0.grid.coords t) = !decide (12 ≤ t.val % 16 ∧ t.val % 16 ≤ 15) :=
  (by decide +kernel : ∀ t : Fin grid0.N, idle0 12 (grid0.coords t) = !decide (12 ≤ t.val % 16 ∧ t.val % 16 ≤ 15))
theorem fstep_12 : ∀ t : Fin cfg0.N, decide ((t.val + 1) % 16 ≤ 15) = ((cfg0.win 12).flush t || (cfg0.idle 12 (cfg0.grid.coords t) && decide (t.val % 16 ≤ 15))) := by decide +kernel
theorem fresh_12 (n : ℕ) (h : n ≤ cfg0.N) : cfg0.fresh 12 n = decide (n % 16 ≤ 15) :=
  cfg0.fresh_tab 12 (fun n => decide (n % 16 ≤ 15)) (by decide) fstep_12 n h
theorem fl_12 : ∀ t : Fin cfg0.N, (cfg0.win 12).flush t = true → t.val % 16 = 15 ∨ (12 ≤ t.val % 16 ∧ t.val % 16 ≤ 15) := by decide +kernel

/-- Output window 13: where the body stores nothing into it, where its buffer holds nothing yet, and that the only such point written back is a row block's last. -/
theorem idle_13 : ∀ t : Fin cfg0.N, cfg0.idle 13 (cfg0.grid.coords t) = !decide (0 ≤ t.val % 16 ∧ t.val % 16 ≤ 0) :=
  (by decide +kernel : ∀ t : Fin grid0.N, idle0 13 (grid0.coords t) = !decide (0 ≤ t.val % 16 ∧ t.val % 16 ≤ 0))
theorem fstep_13 : ∀ t : Fin cfg0.N, decide ((t.val + 1) % 16 ≤ 0) = ((cfg0.win 13).flush t || (cfg0.idle 13 (cfg0.grid.coords t) && decide (t.val % 16 ≤ 0))) := by decide +kernel
theorem fresh_13 (n : ℕ) (h : n ≤ cfg0.N) : cfg0.fresh 13 n = decide (n % 16 ≤ 0) :=
  cfg0.fresh_tab 13 (fun n => decide (n % 16 ≤ 0)) (by decide) fstep_13 n h
theorem fl_13 : ∀ t : Fin cfg0.N, (cfg0.win 13).flush t = true → t.val % 16 = 15 ∨ (0 ≤ t.val % 16 ∧ t.val % 16 ≤ 0) := by decide +kernel

/-! ## What the buffers hold -/

/-- The normalised rows in the scratch, from a row block's first point on. -/
def xnAt (c : Dev nD) (t : Fin cfg0.N) : Vec F S32x2048 .bf16 :=
  k0_pay3 (iblk m c 0 (pt 0 0 t)) (iblk m c 1 (pt 0 0 t))
def oq (c : Dev nD) (t : Fin cfg0.N) : Vec F S32x512 .bf16 := qv (xnAt m c t) (X0_2 m c t) (iblk m c 5 t)
def ok (c : Dev nD) (t : Fin cfg0.N) : Vec F S32x512 .f32 := kv (xnAt m c t) (X0_2 m c t) (iblk m c 6 t)
def okb (c : Dev nD) (t : Fin cfg0.N) : Vec F S32x512 .bf16 := kbv (xnAt m c t) (X0_2 m c t) (iblk m c 6 t)
def ov (c : Dev nD) (t : Fin cfg0.N) : Vec F S32x512 .f32 := k0_pay14 (xnAt m c t) (X0_2 m c t)
def ovb (c : Dev nD) (t : Fin cfg0.N) : Vec F S32x512 .bf16 := k0_pay1 (k0_pay14 (xnAt m c t) (X0_2 m c t))
def og (c : Dev nD) (t : Fin cfg0.N) : Vec F S32x512 .f32 := k0_pay14 (xnAt m c t) (X0_2 m c t)
def ol (c : Dev nD) (t : Fin cfg0.N) : Vec F S32x128 .f32 := k0_pay4 (iblk m c 0 t) (iblk m c 1 t) (iblk m c 3 t) (iblk m c 4 t)

theorem xnAt_start (c : Dev nD) (t : Fin cfg0.N) (h : t.val % 16 = 0) : xnAt m c t = k0_pay3 (iblk m c 0 t) (iblk m c 1 t) := by
  unfold xnAt; rw [pt_live 0 0 t (Nat.zero_le _) (le_of_eq h)]

theorem xnAt_pred (c : Dev nD) (t : Fin cfg0.N) (h : t.val % 16 ≠ 0) (hp : t.val - 1 < cfg0.N) : xnAt m c ⟨t.val - 1, hp⟩ = xnAt m c t := by
  unfold xnAt; rw [pt_pred 0 0 t (Nat.pos_of_ne_zero h) hp]

/-! ## The invariant -/

/-- The scratch, whole. -/
abbrev scr : Memref sig .tc .vmem S32x2048 .bf16 := Memref.whole cc0_scratch0

theorem PhiA_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before the first point the scratch holds anything; afterwards the normalised rows of the point before. -/
def Inv (c : Dev nD) : (n : ℕ) → n ≤ cfg0.N → sProp 𝕄
  | 0, _ => Pipeline.ΦA spec0 c
  | n + 1, hn => iprop(iprop(owns (c : Thread nD τ) scr fullShare (xnAt m c ⟨n, hn⟩)) ∗ (∃ r, prngReg c r))

theorem Inv_succ (c : Dev nD) (n : ℕ) (hn : n < cfg0.N) :
    Inv m c (n + 1) hn = iprop(iprop(owns (c : Thread nD τ) scr fullShare (xnAt m c ⟨n, hn⟩)) ∗ (∃ r, prngReg c r)) := rfl

theorem Inv_pos (c : Dev nD) (n : ℕ) (h : n ≤ cfg0.N) (hz : n ≠ 0) :
    Inv m c n h = iprop(iprop(owns (c : Thread nD τ) scr fullShare (xnAt m c ⟨n - 1, by omega⟩)) ∗ (∃ r, prngReg c r)) := by
  cases n with
  | zero => exact absurd rfl hz
  | succ n => rfl

theorem Inv_any (c : Dev nD) (n : ℕ) (h : n ≤ cfg0.N) : Inv m c n h ⊢ (iprop(iprop((∃ d, owns (c : Thread nD τ) scr fullShare d)) ∗ (∃ r, prngReg c r)) : sProp 𝕄) := by
  cases n with
  | zero => rw [← PhiA_eq]; exact Idealize.SL.BI.Entails.refl _
  | succ n =>
    rw [Inv_succ]
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => oq m c (pt 0 3 t)
    | ⟨8, _⟩ => ok m c (pt 4 7 t)
    | ⟨9, _⟩ => okb m c (pt 4 7 t)
    | ⟨10, _⟩ => ov m c (pt 8 11 t)
    | ⟨11, _⟩ => ovb m c (pt 8 11 t)
    | ⟨12, _⟩ => og m c (pt 12 15 t)
    | ⟨13, _⟩ => ol m c (pt 0 0 t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = X0_2 m c t := by dsimp only [dats]
theorem before_2 (c : Dev nD) (t : Fin cfg0.N) (d) : (dats m 0 c).before 2 t d = X0_2 m c t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- A window the body stores into is left at what the body stored, -/
theorem left_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact; rw [hi]

/-- and one it does not touch at what it held, which is its block where it is written back. -/
theorem left_idle (c : Dev nD) (w : Fin cfg0.W) (t : Fin cfg0.N) (d) (hi : cfg0.idle w (cfg0.grid.coords t) = true)
    (hk : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  unfold Dat.leavesExact; rw [hi]
  cases hf : (cfg0.win w).flush t
  · iintro H; iexists d; iexact H
  · rw [hk hf]

theorem after_7 (c : Dev nD) (t : Fin cfg0.N) : (dats m 0 c).after 7 t = oq m c (pt 0 3 t) := by dsimp only [dats]
theorem before_7 (c : Dev nD) (t : Fin cfg0.N) (d) (h : 3 < t.val % 16) : (dats m 0 c).before 7 t d = (dats m 0 c).after 7 t := by
  have hc : ∀ (t : Fin cfg0.N), 3 < t.val % 16 → ∀ hp : t.val - 1 < cfg0.N, (dats m 0 c).after 7 t = (dats m 0 c).after 7 ⟨t.val - 1, hp⟩ := fun t h hp => by
    rw [after_7, after_7]; exact congrArg (oq m c) (pt_pred 0 3 t h hp)
  rw [Dat.before_out_traj (dats m 0 c) 7 rfl (fun _ _ => rfl)
    (fun t ht hi hf => hc t (by rw [fresh_7 _ (le_of_lt t.isLt)] at hf; have := of_decide_eq_false hf; omega) _) t.val t rfl d,
    fresh_7 _ (le_of_lt t.isLt), if_neg (by rw [decide_eq_true_iff]; omega)]
  exact (hc t h _).symm
theorem leave_7 (c : Dev nD) (t : Fin cfg0.N) (h : (0 ≤ t.val % 16 ∧ t.val % 16 ≤ 3)) :
    owns (c : Thread nD τ) (st0_7 t) fullShare (oq m c t) ⊢ (dats m 0 c).leavesExact 7 t := by
  have e : (dats m 0 c).after 7 t = oq m c t := by rw [after_7, pt_live 0 3 t h.1 h.2]
  have := left_live m c 7 t (by rw [idle_7, decide_eq_true h]; rfl)
  rw [e] at this; exact this
theorem pass_7 (c : Dev nD) (t : Fin cfg0.N) (d) (h : ¬(0 ≤ t.val % 16 ∧ t.val % 16 ≤ 3)) :
    owns (c : Thread nD τ) (st0_7 t) fullShare ((dats m 0 c).before 7 t d) ⊢ (dats m 0 c).leavesExact 7 t :=
  left_idle m c 7 t d (by rw [idle_7, decide_eq_false h]; rfl) fun hf => before_7 m c t d (by
    rcases fl_7 t hf with h' | h'
    · omega
    · exact absurd h' h)

theorem after_8 (c : Dev nD) (t : Fin cfg0.N) : (dats m 0 c).after 8 t = ok m c (pt 4 7 t) := by dsimp only [dats]
theorem before_8 (c : Dev nD) (t : Fin cfg0.N) (d) (h : 7 < t.val % 16) : (dats m 0 c).before 8 t d = (dats m 0 c).after 8 t := by
  have hc : ∀ (t : Fin cfg0.N), 7 < t.val % 16 → ∀ hp : t.val - 1 < cfg0.N, (dats m 0 c).after 8 t = (dats m 0 c).after 8 ⟨t.val - 1, hp⟩ := fun t h hp => by
    rw [after_8, after_8]; exact congrArg (ok m c) (pt_pred 4 7 t h hp)
  rw [Dat.before_out_traj (dats m 0 c) 8 rfl (fun _ _ => rfl)
    (fun t ht hi hf => hc t (by rw [fresh_8 _ (le_of_lt t.isLt)] at hf; have := of_decide_eq_false hf; omega) _) t.val t rfl d,
    fresh_8 _ (le_of_lt t.isLt), if_neg (by rw [decide_eq_true_iff]; omega)]
  exact (hc t h _).symm
theorem leave_8 (c : Dev nD) (t : Fin cfg0.N) (h : (4 ≤ t.val % 16 ∧ t.val % 16 ≤ 7)) :
    owns (c : Thread nD τ) (st0_8 t) fullShare (ok m c t) ⊢ (dats m 0 c).leavesExact 8 t := by
  have e : (dats m 0 c).after 8 t = ok m c t := by rw [after_8, pt_live 4 7 t h.1 h.2]
  have := left_live m c 8 t (by rw [idle_8, decide_eq_true h]; rfl)
  rw [e] at this; exact this
theorem pass_8 (c : Dev nD) (t : Fin cfg0.N) (d) (h : ¬(4 ≤ t.val % 16 ∧ t.val % 16 ≤ 7)) :
    owns (c : Thread nD τ) (st0_8 t) fullShare ((dats m 0 c).before 8 t d) ⊢ (dats m 0 c).leavesExact 8 t :=
  left_idle m c 8 t d (by rw [idle_8, decide_eq_false h]; rfl) fun hf => before_8 m c t d (by
    rcases fl_8 t hf with h' | h'
    · omega
    · exact absurd h' h)

theorem after_9 (c : Dev nD) (t : Fin cfg0.N) : (dats m 0 c).after 9 t = okb m c (pt 4 7 t) := by dsimp only [dats]
theorem before_9 (c : Dev nD) (t : Fin cfg0.N) (d) (h : 7 < t.val % 16) : (dats m 0 c).before 9 t d = (dats m 0 c).after 9 t := by
  have hc : ∀ (t : Fin cfg0.N), 7 < t.val % 16 → ∀ hp : t.val - 1 < cfg0.N, (dats m 0 c).after 9 t = (dats m 0 c).after 9 ⟨t.val - 1, hp⟩ := fun t h hp => by
    rw [after_9, after_9]; exact congrArg (okb m c) (pt_pred 4 7 t h hp)
  rw [Dat.before_out_traj (dats m 0 c) 9 rfl (fun _ _ => rfl)
    (fun t ht hi hf => hc t (by rw [fresh_9 _ (le_of_lt t.isLt)] at hf; have := of_decide_eq_false hf; omega) _) t.val t rfl d,
    fresh_9 _ (le_of_lt t.isLt), if_neg (by rw [decide_eq_true_iff]; omega)]
  exact (hc t h _).symm
theorem leave_9 (c : Dev nD) (t : Fin cfg0.N) (h : (4 ≤ t.val % 16 ∧ t.val % 16 ≤ 7)) :
    owns (c : Thread nD τ) (st0_9 t) fullShare (okb m c t) ⊢ (dats m 0 c).leavesExact 9 t := by
  have e : (dats m 0 c).after 9 t = okb m c t := by rw [after_9, pt_live 4 7 t h.1 h.2]
  have := left_live m c 9 t (by rw [idle_9, decide_eq_true h]; rfl)
  rw [e] at this; exact this
theorem pass_9 (c : Dev nD) (t : Fin cfg0.N) (d) (h : ¬(4 ≤ t.val % 16 ∧ t.val % 16 ≤ 7)) :
    owns (c : Thread nD τ) (st0_9 t) fullShare ((dats m 0 c).before 9 t d) ⊢ (dats m 0 c).leavesExact 9 t :=
  left_idle m c 9 t d (by rw [idle_9, decide_eq_false h]; rfl) fun hf => before_9 m c t d (by
    rcases fl_9 t hf with h' | h'
    · omega
    · exact absurd h' h)

theorem after_10 (c : Dev nD) (t : Fin cfg0.N) : (dats m 0 c).after 10 t = ov m c (pt 8 11 t) := by dsimp only [dats]
theorem before_10 (c : Dev nD) (t : Fin cfg0.N) (d) (h : 11 < t.val % 16) : (dats m 0 c).before 10 t d = (dats m 0 c).after 10 t := by
  have hc : ∀ (t : Fin cfg0.N), 11 < t.val % 16 → ∀ hp : t.val - 1 < cfg0.N, (dats m 0 c).after 10 t = (dats m 0 c).after 10 ⟨t.val - 1, hp⟩ := fun t h hp => by
    rw [after_10, after_10]; exact congrArg (ov m c) (pt_pred 8 11 t h hp)
  rw [Dat.before_out_traj (dats m 0 c) 10 rfl (fun _ _ => rfl)
    (fun t ht hi hf => hc t (by rw [fresh_10 _ (le_of_lt t.isLt)] at hf; have := of_decide_eq_false hf; omega) _) t.val t rfl d,
    fresh_10 _ (le_of_lt t.isLt), if_neg (by rw [decide_eq_true_iff]; omega)]
  exact (hc t h _).symm
theorem leave_10 (c : Dev nD) (t : Fin cfg0.N) (h : (8 ≤ t.val % 16 ∧ t.val % 16 ≤ 11)) :
    owns (c : Thread nD τ) (st0_10 t) fullShare (ov m c t) ⊢ (dats m 0 c).leavesExact 10 t := by
  have e : (dats m 0 c).after 10 t = ov m c t := by rw [after_10, pt_live 8 11 t h.1 h.2]
  have := left_live m c 10 t (by rw [idle_10, decide_eq_true h]; rfl)
  rw [e] at this; exact this
theorem pass_10 (c : Dev nD) (t : Fin cfg0.N) (d) (h : ¬(8 ≤ t.val % 16 ∧ t.val % 16 ≤ 11)) :
    owns (c : Thread nD τ) (st0_10 t) fullShare ((dats m 0 c).before 10 t d) ⊢ (dats m 0 c).leavesExact 10 t :=
  left_idle m c 10 t d (by rw [idle_10, decide_eq_false h]; rfl) fun hf => before_10 m c t d (by
    rcases fl_10 t hf with h' | h'
    · omega
    · exact absurd h' h)

theorem after_11 (c : Dev nD) (t : Fin cfg0.N) : (dats m 0 c).after 11 t = ovb m c (pt 8 11 t) := by dsimp only [dats]
theorem before_11 (c : Dev nD) (t : Fin cfg0.N) (d) (h : 11 < t.val % 16) : (dats m 0 c).before 11 t d = (dats m 0 c).after 11 t := by
  have hc : ∀ (t : Fin cfg0.N), 11 < t.val % 16 → ∀ hp : t.val - 1 < cfg0.N, (dats m 0 c).after 11 t = (dats m 0 c).after 11 ⟨t.val - 1, hp⟩ := fun t h hp => by
    rw [after_11, after_11]; exact congrArg (ovb m c) (pt_pred 8 11 t h hp)
  rw [Dat.before_out_traj (dats m 0 c) 11 rfl (fun _ _ => rfl)
    (fun t ht hi hf => hc t (by rw [fresh_11 _ (le_of_lt t.isLt)] at hf; have := of_decide_eq_false hf; omega) _) t.val t rfl d,
    fresh_11 _ (le_of_lt t.isLt), if_neg (by rw [decide_eq_true_iff]; omega)]
  exact (hc t h _).symm
theorem leave_11 (c : Dev nD) (t : Fin cfg0.N) (h : (8 ≤ t.val % 16 ∧ t.val % 16 ≤ 11)) :
    owns (c : Thread nD τ) (st0_11 t) fullShare (ovb m c t) ⊢ (dats m 0 c).leavesExact 11 t := by
  have e : (dats m 0 c).after 11 t = ovb m c t := by rw [after_11, pt_live 8 11 t h.1 h.2]
  have := left_live m c 11 t (by rw [idle_11, decide_eq_true h]; rfl)
  rw [e] at this; exact this
theorem pass_11 (c : Dev nD) (t : Fin cfg0.N) (d) (h : ¬(8 ≤ t.val % 16 ∧ t.val % 16 ≤ 11)) :
    owns (c : Thread nD τ) (st0_11 t) fullShare ((dats m 0 c).before 11 t d) ⊢ (dats m 0 c).leavesExact 11 t :=
  left_idle m c 11 t d (by rw [idle_11, decide_eq_false h]; rfl) fun hf => before_11 m c t d (by
    rcases fl_11 t hf with h' | h'
    · omega
    · exact absurd h' h)

theorem after_12 (c : Dev nD) (t : Fin cfg0.N) : (dats m 0 c).after 12 t = og m c (pt 12 15 t) := by dsimp only [dats]
theorem before_12 (c : Dev nD) (t : Fin cfg0.N) (d) (h : 15 < t.val % 16) : (dats m 0 c).before 12 t d = (dats m 0 c).after 12 t := by
  have hc : ∀ (t : Fin cfg0.N), 15 < t.val % 16 → ∀ hp : t.val - 1 < cfg0.N, (dats m 0 c).after 12 t = (dats m 0 c).after 12 ⟨t.val - 1, hp⟩ := fun t h hp => by
    rw [after_12, after_12]; exact congrArg (og m c) (pt_pred 12 15 t h hp)
  rw [Dat.before_out_traj (dats m 0 c) 12 rfl (fun _ _ => rfl)
    (fun t ht hi hf => hc t (by rw [fresh_12 _ (le_of_lt t.isLt)] at hf; have := of_decide_eq_false hf; omega) _) t.val t rfl d,
    fresh_12 _ (le_of_lt t.isLt), if_neg (by rw [decide_eq_true_iff]; omega)]
  exact (hc t h _).symm
theorem leave_12 (c : Dev nD) (t : Fin cfg0.N) (h : (12 ≤ t.val % 16 ∧ t.val % 16 ≤ 15)) :
    owns (c : Thread nD τ) (st0_12 t) fullShare (og m c t) ⊢ (dats m 0 c).leavesExact 12 t := by
  have e : (dats m 0 c).after 12 t = og m c t := by rw [after_12, pt_live 12 15 t h.1 h.2]
  have := left_live m c 12 t (by rw [idle_12, decide_eq_true h]; rfl)
  rw [e] at this; exact this
theorem pass_12 (c : Dev nD) (t : Fin cfg0.N) (d) (h : ¬(12 ≤ t.val % 16 ∧ t.val % 16 ≤ 15)) :
    owns (c : Thread nD τ) (st0_12 t) fullShare ((dats m 0 c).before 12 t d) ⊢ (dats m 0 c).leavesExact 12 t :=
  left_idle m c 12 t d (by rw [idle_12, decide_eq_false h]; rfl) fun hf => before_12 m c t d (by
    rcases fl_12 t hf with h' | h'
    · omega
    · exact absurd h' h)

theorem after_13 (c : Dev nD) (t : Fin cfg0.N) : (dats m 0 c).after 13 t = ol m c (pt 0 0 t) := by dsimp only [dats]
theorem before_13 (c : Dev nD) (t : Fin cfg0.N) (d) (h : 0 < t.val % 16) : (dats m 0 c).before 13 t d = (dats m 0 c).after 13 t := by
  have hc : ∀ (t : Fin cfg0.N), 0 < t.val % 16 → ∀ hp : t.val - 1 < cfg0.N, (dats m 0 c).after 13 t = (dats m 0 c).after 13 ⟨t.val - 1, hp⟩ := fun t h hp => by
    rw [after_13, after_13]; exact congrArg (ol m c) (pt_pred 0 0 t h hp)
  rw [Dat.before_out_traj (dats m 0 c) 13 rfl (fun _ _ => rfl)
    (fun t ht hi hf => hc t (by rw [fresh_13 _ (le_of_lt t.isLt)] at hf; have := of_decide_eq_false hf; omega) _) t.val t rfl d,
    fresh_13 _ (le_of_lt t.isLt), if_neg (by rw [decide_eq_true_iff]; omega)]
  exact (hc t h _).symm
theorem leave_13 (c : Dev nD) (t : Fin cfg0.N) (h : (0 ≤ t.val % 16 ∧ t.val % 16 ≤ 0)) :
    owns (c : Thread nD τ) (st0_13 t) fullShare (ol m c t) ⊢ (dats m 0 c).leavesExact 13 t := by
  have e : (dats m 0 c).after 13 t = ol m c t := by rw [after_13, pt_live 0 0 t h.1 h.2]
  have := left_live m c 13 t (by rw [idle_13, decide_eq_true h]; rfl)
  rw [e] at this; exact this
theorem pass_13 (c : Dev nD) (t : Fin cfg0.N) (d) (h : ¬(0 ≤ t.val % 16 ∧ t.val % 16 ≤ 0)) :
    owns (c : Thread nD τ) (st0_13 t) fullShare ((dats m 0 c).before 13 t d) ⊢ (dats m 0 c).leavesExact 13 t :=
  left_idle m c 13 t d (by rw [idle_13, decide_eq_false h]; rfl) fun hf => before_13 m c t d (by
    rcases fl_13 t hf with h' | h'
    · omega
    · exact absurd h' h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 3200000 in
/-- The body at column step 0. -/
theorem body_A (c : Dev nD) (t : Fin cfg0.N) (h : (0 ≤ t.val % 16 ∧ t.val % 16 ≤ 0)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HP' := (Inv_any m c _ _) $$ HP
  icases HP' with ⟨HS, Hg⟩
  iapply (run_A c (grid0.coords t) _ _ _ _ _ _ _ _ _ _ _ _ _ _ _ _ _ _ _ _ _ _ _ _ _ _ _ _ _ _ ((cond_1 t).mpr (by omega)) ((cond_2 t).mpr (by omega)) (fun e => absurd ((cond_3 t).mp e) (by omega)) (fun e => absurd ((cond_4 t).mp e) (by omega)) (fun e => absurd ((cond_5 t).mp e) (by omega)) (iblk m c 0 t) (iblk m c 1 t) (X0_2 m c t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H13]; · iexists _; iexact H13
  isplitl [HS]; · iexact HS
  iintro ⟨H0, H1, H2, H3, H4, H5, H7, H13, HS⟩
  isplitl [HS Hg]
  · isplitl [HS]
    · rw [xnAt_start m c t (by omega)]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave_7 m c t (by omega)); unfold oq; rw [xnAt_start m c t (by omega)]; iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (leave_13 m c t (by omega)); unfold ol; iexact H13

set_option maxHeartbeats 3200000 in
/-- The body at column steps 1–3. -/
theorem body_B (c : Dev nD) (t : Fin cfg0.N) (h : (1 ≤ t.val % 16 ∧ t.val % 16 ≤ 3)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ _ _ (fun e => absurd ((cond_1 t).mp e) (by omega)) ((cond_2 t).mpr (by omega)) (fun e => absurd ((cond_3 t).mp e) (by omega)) (fun e => absurd ((cond_4 t).mp e) (by omega)) (fun e => absurd ((cond_5 t).mp e) (by omega)) (X0_2 m c t) (iblk m c 5 t) (xnAt m c t) Set.univ _)
  isplitl [H2]; · iexact H2
  isplitl [H5]; · iexact H5
  isplitl [HS]; · iexact HS
  isplitl [H7]; · iexists _; iexact H7
  iintro ⟨H2, H5, HS, H7⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave_7 m c t (by omega)); unfold oq; iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (pass_13 m c t d13 (by omega)); iexact H13

set_option maxHeartbeats 3200000 in
/-- The body at column steps 4–7. -/
theorem body_C (c : Dev nD) (t : Fin cfg0.N) (h : (4 ≤ t.val % 16 ∧ t.val % 16 ≤ 7)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ _ _ (fun e => absurd ((cond_1 t).mp e) (by omega)) (fun e => absurd ((cond_2 t).mp e) (by omega)) ((cond_3 t).mpr (by omega)) (fun e => absurd ((cond_4 t).mp e) (by omega)) (fun e => absurd ((cond_5 t).mp e) (by omega)) (X0_2 m c t) (iblk m c 6 t) (xnAt m c t) Set.univ _)
  isplitl [H2]; · iexact H2
  isplitl [H6]; · iexact H6
  isplitl [HS]; · iexact HS
  isplitl [H8]; · iexists _; iexact H8
  isplitl [H9]; · iexists _; iexact H9
  iintro ⟨H2, H6, HS, H8, H9⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (leave_8 m c t (by omega)); unfold ok; iexact H8
  isplitl [H9]; · iapply (leave_9 m c t (by omega)); unfold okb; iexact H9
  isplitl [H10]; · iapply (pass_10 m c t d10 (by omega)); iexact H10
  isplitl [H11]; · iapply (pass_11 m c t d11 (by omega)); iexact H11
  isplitl [H12]; · iapply (pass_12 m c t d12 (by omega)); iexact H12
  iapply (pass_13 m c t d13 (by omega)); iexact H13

set_option maxHeartbeats 3200000 in
/-- The body at column steps 8–11. -/
theorem body_D (c : Dev nD) (t : Fin cfg0.N) (h : (8 ≤ t.val % 16 ∧ t.val % 16 ≤ 11)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_D c (grid0.coords t) _ _ _ _ _ _ _ _ _ _ _ _ _ _ _ _ _ _ _ _ _ _ _ _ _ _ _ _ _ _ (fun e => absurd ((cond_1 t).mp e) (by omega)) (fun e => absurd ((cond_2 t).mp e) (by omega)) (fun e => absurd ((cond_3 t).mp e) (by omega)) ((cond_4 t).mpr (by omega)) (fun e => absurd ((cond_5 t).mp e) (by omega)) (X0_2 m c t) (xnAt m c t) Set.univ _)
  isplitl [H2]; · iexact H2
  isplitl [HS]; · iexact HS
  isplitl [H10]; · iexists _; iexact H10
  isplitl [H11]; · iexists _; iexact H11
  iintro ⟨H2, HS, H10, H11⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (pass_8 m c t d8 (by omega)); iexact H8
  isplitl [H9]; · iapply (pass_9 m c t d9 (by omega)); iexact H9
  isplitl [H10]; · iapply (leave_10 m c t (by omega)); unfold ov; iexact H10
  isplitl [H11]; · iapply (leave_11 m c t (by omega)); unfold ovb; iexact H11
  isplitl [H12]; · iapply (pass_12 m c t d12 (by omega)); iexact H12
  iapply (pass_13 m c t d13 (by omega)); iexact H13

set_option maxHeartbeats 3200000 in
/-- The body at column steps 12–15. -/
theorem body_E (c : Dev nD) (t : Fin cfg0.N) (h : (12 ≤ t.val % 16 ∧ t.val % 16 ≤ 15)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Inv m c (t.val + 1) t.isLt from rfl, Inv_succ, Inv_castSucc m c t]
  rw [Inv_pos m c _ _ (by omega), xnAt_pred m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_E c (grid0.coords t) _ _ _ _ _ _ _ _ _ _ _ _ _ _ _ _ _ _ _ _ _ _ _ _ _ _ _ _ _ _ (fun e => absurd ((cond_1 t).mp e) (by omega)) (fun e => absurd ((cond_2 t).mp e) (by omega)) (fun e => absurd ((cond_3 t).mp e) (by omega)) (fun e => absurd ((cond_4 t).mp e) (by omega)) ((cond_5 t).mpr (by omega)) (X0_2 m c t) (xnAt m c t) Set.univ _)
  isplitl [H2]; · iexact H2
  isplitl [HS]; · iexact HS
  isplitl [H12]; · iexists _; iexact H12
  iintro ⟨H2, HS, H12⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t d7 (by omega)); iexact H7
  isplitl [H8]; · iapply (pass_8 m c t d8 (by omega)); iexact H8
  isplitl [H9]; · iapply (pass_9 m c t d9 (by omega)); iexact H9
  isplitl [H10]; · iapply (pass_10 m c t d10 (by omega)); iexact H10
  isplitl [H11]; · iapply (pass_11 m c t d11 (by omega)); iexact H11
  isplitl [H12]; · iapply (leave_12 m c t (by omega)); unfold og; iexact H12
  iapply (pass_13 m c t d13 (by omega)); iexact H13

theorem sound_body (c : Dev nD) (t : Fin cfg0.N) :
    bodyPre m c t ⊢ wp frame (wpE (defs₀ (F := F)) Variants.none c none) Set.univ (bodyAt0 t) (fun _ => bodyPost m c t) := by
  rcases (by omega : t.val % 16 ≤ 0 ∨ (1 ≤ t.val % 16 ∧ t.val % 16 ≤ 3) ∨ (4 ≤ t.val % 16 ∧ t.val % 16 ≤ 7) ∨ (8 ≤ t.val % 16 ∧ t.val % 16 ≤ 11) ∨ (12 ≤ t.val % 16 ∧ t.val % 16 ≤ 15)) with h | h | h | h | h
  · exact body_A m c t ⟨Nat.zero_le _, h⟩
  · exact body_B m c t h
  · exact body_C m c t h
  · exact body_D m c t h
  · exact body_E m c t h

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, PhiA_eq]
  exact Inv_any m c _ _

/-! ## The run -/

set_option backward.isDefEq.respectTransparency.types false in
/-- Every run ends, with the arrays at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.SampFoxData

end
-- ==== Proof.SampFoxValue.lean ====
/-
  The fused attention input projection of the sample's values: each output at an index, as the normalised row projected on one
  column of the weights, for queries and keys normalised again over the 128 columns of its head.
-/
module

public import proofs.«01_k».proof.Proof.SampFoxData
public import Idealize.ShloMosaic.Lib.Pointwise
public import Idealize.ShloMosaic.Lib.Pipeline.ValueKit

@[expose] public section

set_option maxRecDepth 16384

noncomputable section

namespace Cert.SampFoxValue

open Cert.Kernel11Ideal Cert.Kernel11Ideal.Gen Cert.SampFoxStep Cert.SampFoxData
open Idealize.ShloMosaic Idealize.ShloMosaic.TcCoe Idealize.SL.Sem
open Idealize.ShloMosaic.Pipeline (Dat)

/-! ## The layer's mathematics -/

/-- The normalised row `R` at feature `k`. -/
def nrm (X : Vec Ideal S32x2048 .f32) (G : Vec Ideal S1x2048 .f32) (R : Fin 32) (k : Fin 2048) : EReal :=
  X (ix2 R k) * Ideal.rsqrt (Ideal.div (∑ q, X (ix2 R q) * X (ix2 R q)) (Ideal.ofBits .f32 0x45000000#32) + Ideal.ofBits .f32 0x358637BD#32)
    * G (ix2 0 k)

/-- Row `R` projected on column `f` of the weights. -/
def prj (X : Vec Ideal S32x2048 .f32) (G : Vec Ideal S1x2048 .f32) (W : Vec Ideal S2x2048x8208 .f32) (R : Fin 32) (f : Fin 8208) : EReal :=
  ∑ q, nrm X G R q * W (ix3 0 q f)

/-- A head's 128 columns normalised, under the gains. -/
def hnorm (z : Fin 128 → EReal) (g : Vec Ideal S1x128 .f32) (d : Fin 128) : EReal :=
  z d * Ideal.rsqrt (Ideal.div (∑ e, z e * z e) (Ideal.ofBits .f32 0x43000000#32) + Ideal.ofBits .f32 0x358637BD#32) * g (ix2 0 d)

/-- The logarithm of the logistic function. -/
def lsig (z : EReal) : EReal :=
  -(max (-z) 0 + Ideal.log (1 + Ideal.exp (-(FloatOps.absf (F := Ideal) (φ := .f32) (-z)))))

/-! ## The payloads at an index -/

def col (o : ℕ) (ho : o ≤ 384) (e : Fin 128) : Fin 512 := ⟨o + e.val, by have := e.isLt; omega⟩

theorem rows_pay (x : Vec Ideal S32x2048 .f32) (g : Vec Ideal S1x2048 .f32) (r : Fin 32) (k : Fin 2048) :
    k0_pay3 x g (ix2 r k) = x (ix2 r k) * Ideal.rsqrt (Ideal.div (∑ q, x (ix2 r q) * x (ix2 r q)) (Ideal.ofBits .f32 0x45000000#32)
      + Ideal.ofBits .f32 0x358637BD#32) * g (ix2 0 k) := by
  pointwise [k0_pay3, k0_pay2]

theorem acc_pay (xs : Vec Ideal S32x2048 .bf16) (w : Vec Ideal S1x2048x512 .f32) (r : Fin 32) (f : Fin 512) :
    k0_pay14 xs w (ix2 r f) = ∑ q, xs (ix2 r q) * w (ix3 0 q f) := by
  pointwise [k0_pay14]

theorem vb_pay (a : Vec Ideal S32x512 .f32) (r : Fin 32) (f : Fin 512) : k0_pay1 (F := Ideal) a (ix2 r f) = a (ix2 r f) := by
  pointwise [k0_pay1]

theorem lf_pay (x : Vec Ideal S32x2048 .f32) (g : Vec Ideal S1x2048 .f32) (wt : Vec Ideal S2048x128 .f32) (bt : Vec Ideal S1x128 .f32) (r : Fin 32) (d : Fin 128) :
    k0_pay4 x g wt bt (ix2 r d) = lsig ((∑ q, k0_pay2 x g (ix2 r q) * wt (ix2 q d)) + bt (ix2 0 d)) := by
  pointwise [k0_pay4, lsig, zero_sub]

theorem q0 (a : Vec Ideal S32x512 .f32) (g : Vec Ideal S1x128 .f32) (r : Fin 32) (d : Fin 128) :
    k0_pay5 a g (ix2 r d) = hnorm (fun e => a (ix2 r (col 0 (by decide) e))) g d := by
  pointwise [k0_pay5, hnorm, col, zero_add]

theorem q1 (a : Vec Ideal S32x512 .f32) (g : Vec Ideal S1x128 .f32) (r : Fin 32) (d : Fin 128) :
    k0_pay6 a g (ix2 r d) = hnorm (fun e => a (ix2 r (col 128 (by decide) e))) g d := by
  pointwise [k0_pay6, hnorm, col, zero_add]

theorem q2 (a : Vec Ideal S32x512 .f32) (g : Vec Ideal S1x128 .f32) (r : Fin 32) (d : Fin 128) :
    k0_pay15 (k0_pay7 a) g (k0_pay8 a) (Scalar.ofBits .f32 0x358637BD#32) (ix2 r d) = hnorm (fun e => a (ix2 r (col 256 (by decide) e))) g d := by
  pointwise [k0_pay15, k0_pay7, k0_pay8, hnorm, col, zero_add]

theorem q3 (xs : Vec Ideal S32x2048 .bf16) (w : Vec Ideal S1x2048x512 .f32) (g : Vec Ideal S1x128 .f32) (r : Fin 32) (d : Fin 128) :
    k0_pay16 xs w g (ix2 r d) = hnorm (fun e => (k0_pay14 xs w) (ix2 r (col 384 (by decide) e))) g d := by
  pointwise [k0_pay16, hnorm, col, zero_add]

theorem k0 (a : Vec Ideal S32x512 .f32) (g : Vec Ideal S1x128 .f32) (r : Fin 32) (d : Fin 128) :
    k0_pay9 a g (ix2 r d) = hnorm (fun e => a (ix2 r (col 0 (by decide) e))) g d := by
  pointwise [k0_pay9, hnorm, col, zero_add]

theorem k1 (a : Vec Ideal S32x512 .f32) (g : Vec Ideal S1x128 .f32) (r : Fin 32) (d : Fin 128) :
    k0_pay11 a g (ix2 r d) = hnorm (fun e => a (ix2 r (col 128 (by decide) e))) g d := by
  pointwise [k0_pay11, hnorm, col, zero_add]

theorem k2 (a : Vec Ideal S32x512 .f32) (g : Vec Ideal S1x128 .f32) (r : Fin 32) (d : Fin 128) :
    k0_pay17 (k0_pay13 a) g (ix2 r d) = hnorm (fun e => a (ix2 r (col 256 (by decide) e))) g d := by
  pointwise [k0_pay17, k0_pay13, hnorm, col, zero_add]

theorem k3 (xs : Vec Ideal S32x2048 .bf16) (w : Vec Ideal S1x2048x512 .f32) (g : Vec Ideal S1x128 .f32) (r : Fin 32) (d : Fin 128) :
    k0_pay19 xs w g (ix2 r d) = hnorm (fun e => (k0_pay14 xs w) (ix2 r (col 384 (by decide) e))) g d := by
  pointwise [k0_pay19, hnorm, col, zero_add]

theorem b0 (a : Vec Ideal S32x512 .f32) (g : Vec Ideal S1x128 .f32) (r : Fin 32) (d : Fin 128) :
    k0_pay10 a g (ix2 r d) = hnorm (fun e => a (ix2 r (col 0 (by decide) e))) g d := by
  pointwise [k0_pay10, k0_pay9, hnorm, col, zero_add]

theorem b1 (a : Vec Ideal S32x512 .f32) (g : Vec Ideal S1x128 .f32) (r : Fin 32) (d : Fin 128) :
    k0_pay12 a g (ix2 r d) = hnorm (fun e => a (ix2 r (col 128 (by decide) e))) g d := by
  pointwise [k0_pay12, k0_pay11, hnorm, col, zero_add]

theorem b2 (a : Vec Ideal S32x512 .f32) (g : Vec Ideal S1x128 .f32) (r : Fin 32) (d : Fin 128) :
    k0_pay18 (k0_pay13 a) g (ix2 r d) = hnorm (fun e => a (ix2 r (col 256 (by decide) e))) g d := by
  pointwise [k0_pay18, k0_pay17, k0_pay13, hnorm, col, zero_add]

theorem b3 (xs : Vec Ideal S32x2048 .bf16) (w : Vec Ideal S1x2048x512 .f32) (g : Vec Ideal S1x128 .f32) (r : Fin 32) (d : Fin 128) :
    k0_pay20 xs w g (ix2 r d) = hnorm (fun e => (k0_pay14 xs w) (ix2 r (col 384 (by decide) e))) g d := by
  pointwise [k0_pay20, k0_pay19, hnorm, col, zero_add]

/-! ## A whole block at an index -/

theorem at_head (acc : Vec Ideal S32x512 .f32) (g : Vec Ideal S1x128 .f32) (r : Fin 32) (f : Fin 512) (o : ℕ) (ho : o ≤ 384) (d : Fin 128)
    (h : f.val = o + d.val) (h' : o % 128 = 0) :
    hnorm (fun e => acc (ix2 r (col o ho e))) g d
      = hnorm (fun e => acc (ix2 r (col (128 * (f.val / 128)) (by have := f.isLt; omega) e))) g ⟨f.val % 128, by omega⟩ := by
  have := d.isLt
  obtain rfl : o = 128 * (f.val / 128) := by omega
  rw [show (⟨f.val % 128, by omega⟩ : Fin 128) = d from Fin.ext (by simp only; omega)]

theorem q_at (xs : Vec Ideal S32x2048 .bf16) (w : Vec Ideal S1x2048x512 .f32) (g : Vec Ideal S1x128 .f32) (r : Fin 32) (f : Fin 512) :
    qv xs w g (ix2 r f)
      = hnorm (fun e => k0_pay14 xs w (ix2 r (col (128 * (f.val / 128)) (by have := f.isLt; omega) e))) g ⟨f.val % 128, by omega⟩ := by
  unfold qv
  canon_tiles x h
  all_goals (idx_vars x; obtain rfl : r = x0 := Fin.ext h0)
  · exact (q3 xs w g r x1).trans (at_head _ g r f 384 (by decide) x1 h1 rfl)
  · exact (q2 _ g r x1).trans (at_head _ g r f 256 (by decide) x1 h1 rfl)
  · exact (q1 _ g r x1).trans (at_head _ g r f 128 (by decide) x1 h1 rfl)
  · exact (q0 _ g r x1).trans (at_head _ g r f 0 (by decide) x1 (by omega) rfl)

theorem k_at (xs : Vec Ideal S32x2048 .bf16) (w : Vec Ideal S1x2048x512 .f32) (g : Vec Ideal S1x128 .f32) (r : Fin 32) (f : Fin 512) :
    kv xs w g (ix2 r f)
      = hnorm (fun e => k0_pay14 xs w (ix2 r (col (128 * (f.val / 128)) (by have := f.isLt; omega) e))) g ⟨f.val % 128, by omega⟩ := by
  unfold kv
  canon_tiles x h
  all_goals (idx_vars x; obtain rfl : r = x0 := Fin.ext h0)
  · exact (k3 xs w g r x1).trans (at_head _ g r f 384 (by decide) x1 h1 rfl)
  · exact (k2 _ g r x1).trans (at_head _ g r f 256 (by decide) x1 h1 rfl)
  · exact (k1 _ g r x1).trans (at_head _ g r f 128 (by decide) x1 h1 rfl)
  · exact (k0 _ g r x1).trans (at_head _ g r f 0 (by decide) x1 (by omega) rfl)

theorem kb_at (xs : Vec Ideal S32x2048 .bf16) (w : Vec Ideal S1x2048x512 .f32) (g : Vec Ideal S1x128 .f32) (r : Fin 32) (f : Fin 512) :
    kbv xs w g (ix2 r f)
      = hnorm (fun e => k0_pay14 xs w (ix2 r (col (128 * (f.val / 128)) (by have := f.isLt; omega) e))) g ⟨f.val % 128, by omega⟩ := by
  unfold kbv
  canon_tiles x h
  all_goals (idx_vars x; obtain rfl : r = x0 := Fin.ext h0)
  · exact (b3 xs w g r x1).trans (at_head _ g r f 384 (by decide) x1 h1 rfl)
  · exact (b2 _ g r x1).trans (at_head _ g r f 256 (by decide) x1 h1 rfl)
  · exact (b1 _ g r x1).trans (at_head _ g r f 128 (by decide) x1 h1 rfl)
  · exact (b0 _ g r x1).trans (at_head _ g r f 0 (by decide) x1 (by omega) rfl)

/-! ## The blocks as parts of the arrays -/

theorem in_0 (t : Fin cfg0.N) : win0_0.index t = ![t.val / 16, 0] := by revert t; decide +kernel
theorem in_1 (t : Fin cfg0.N) : win0_1.index t = ![0, 0] := by revert t; decide +kernel
theorem in_2 (t : Fin cfg0.N) : win0_2.index t = ![0, 0, t.val % 16] := by revert t; decide +kernel
theorem in_3 (t : Fin cfg0.N) : win0_3.index t = ![0, 0] := by revert t; decide +kernel
theorem in_4 (t : Fin cfg0.N) : win0_4.index t = ![0, 0] := by revert t; decide +kernel
theorem in_5 (t : Fin cfg0.N) : win0_5.index t = ![0, 0] := by revert t; decide +kernel
theorem in_6 (t : Fin cfg0.N) : win0_6.index t = ![0, 0] := by revert t; decide +kernel

variable (m : (ℓ : Loc nD τ sig) → Buf (Elt Ideal) ℓ) (c : Dev nD)

abbrev Xa : Vec Ideal S32x2048 .f32 := m ((c.tc : Thread nD τ).loc main_arg0)
abbrev Ga : Vec Ideal S1x2048 .f32 := m ((c.tc : Thread nD τ).loc main_arg1)
abbrev Wa : Vec Ideal S2x2048x8208 .f32 := m ((c.tc : Thread nD τ).loc main_arg2)
abbrev Ta : Vec Ideal S2048x128 .f32 := m ((c.tc : Thread nD τ).loc main_arg3)
abbrev Ba : Vec Ideal S1x128 .f32 := m ((c.tc : Thread nD τ).loc main_arg4)
abbrev Qa : Vec Ideal S1x128 .f32 := m ((c.tc : Thread nD τ).loc main_arg5)
abbrev Ka : Vec Ideal S1x128 .f32 := m ((c.tc : Thread nD τ).loc main_arg6)

theorem blk_0 (t : Fin cfg0.N) (r : Fin 32) (k : Fin 2048) (R : Fin 32) (hR : R.val = 32 * (t.val / 16) + r.val) :
    iblk m c 0 t (ix2 r k) = Xa m c (ix2 R k) := by
  have e := in_0 t
  blk_ext [iblk, V, e]
theorem blk_2 (t : Fin cfg0.N) (q : Fin 2048) (f : Fin 512) (f' : Fin 8208) (hf : f'.val = 512 * (t.val % 16) + f.val) :
    X0_2 m c t (ix3 0 q f) = Wa m c (ix3 0 q f') := by
  have e := in_2 t
  unfold X0_2 Pipeline.Window.fill
  rw [dif_pos (moved0_2 t _)]
  blk_ext [iblk, V, e]
theorem blk_1 (t : Fin cfg0.N) (i : S1x2048.Idx) : iblk m c 1 t i = Ga m c i := by
  have e := in_1 t
  blk_ext [iblk, V, e]
theorem blk_3 (t : Fin cfg0.N) (i : S2048x128.Idx) : iblk m c 3 t i = Ta m c i := by
  have e := in_3 t
  blk_ext [iblk, V, e]
theorem blk_4 (t : Fin cfg0.N) (i : S1x128.Idx) : iblk m c 4 t i = Ba m c i := by
  have e := in_4 t
  blk_ext [iblk, V, e]
theorem blk_5 (t : Fin cfg0.N) (i : S1x128.Idx) : iblk m c 5 t i = Qa m c i := by
  have e := in_5 t
  blk_ext [iblk, V, e]
theorem blk_6 (t : Fin cfg0.N) (i : S1x128.Idx) : iblk m c 6 t i = Ka m c i := by
  have e := in_6 t
  blk_ext [iblk, V, e]

/-! ## What a point computes -/

theorem rows_at (t : Fin cfg0.N) (r : Fin 32) (k : Fin 2048) (R : Fin 32) (hR : R.val = 32 * (t.val / 16) + r.val) :
    xnAt m c t (ix2 r k) = nrm (Xa m c) (Ga m c) R k := by
  have hp : R.val = 32 * ((pt 0 0 t).val / 16) + r.val := by simp only [pt]; omega
  unfold xnAt nrm
  rw [rows_pay]
  simp only [blk_0 m c (pt 0 0 t) r _ R hp, blk_1 m c (pt 0 0 t)]

theorem acc_at (t : Fin cfg0.N) (r : Fin 32) (f : Fin 512) (R : Fin 32) (hR : R.val = 32 * (t.val / 16) + r.val)
    (f' : Fin 8208) (hf : f'.val = 512 * (t.val % 16) + f.val) :
    k0_pay14 (xnAt m c t) (X0_2 m c t) (ix2 r f) = prj (Xa m c) (Ga m c) (Wa m c) R f' := by
  rw [acc_pay]
  refine Finset.sum_congr rfl fun q _ => ?_
  rw [rows_at m c t r q R hR, blk_2 m c t q f f' hf]

/-- Head-normalised projections: columns `b` to `b + 2047` of the weights, heads of 128. -/
def qk (b : ℕ) (hb : b ≤ 2048) (X : Vec Ideal S32x2048 .f32) (G : Vec Ideal S1x2048 .f32) (W : Vec Ideal S2x2048x8208 .f32)
    (g : Vec Ideal S1x128 .f32) (R : Fin 32) (n : Fin 2048) : EReal :=
  hnorm (fun e => prj X G W R ⟨b + (n.val / 128 * 128 + e.val), by have := e.isLt; have := n.isLt; omega⟩) g ⟨n.val % 128, by omega⟩

/-- Plain projections: columns `b` to `b + 2047`. -/
def vg (b : ℕ) (hb : b ≤ 6144) (X : Vec Ideal S32x2048 .f32) (G : Vec Ideal S1x2048 .f32) (W : Vec Ideal S2x2048x8208 .f32)
    (R : Fin 32) (n : Fin 2048) : EReal :=
  prj X G W R ⟨b + n.val, by have := n.isLt; omega⟩

/-- The forget gate's logarithm. -/
def lf (X : Vec Ideal S32x2048 .f32) (G : Vec Ideal S1x2048 .f32) (T : Vec Ideal S2048x128 .f32) (B : Vec Ideal S1x128 .f32)
    (R : Fin 32) (d : Fin 128) : EReal :=
  lsig ((∑ q, nrm X G R q * T (ix2 q d)) + B (ix2 0 d))

theorem oq_at (t : Fin cfg0.N) (r : Fin 32) (f : Fin 512) (R : Fin 32) (n : Fin 2048) (hR : R.val = 32 * (t.val / 16) + r.val)
    (hn : 0 + n.val = 512 * (t.val % 16) + f.val) :
    oq m c t (ix2 r f) = qk 0 (by decide) (Xa m c) (Ga m c) (Wa m c) (Qa m c) R n := by
  unfold oq qk
  rw [q_at, show (iblk m c 5 t : Vec Ideal S1x128 .f32) = Qa m c from funext (blk_5 m c t)]
  have e1 : f.val % 128 = n.val % 128 := by omega
  simp only [e1]
  refine congrArg (fun z => hnorm z _ _) (funext fun e => ?_)
  exact acc_at m c t r _ R hR _ (by have := f.isLt; simp only [col]; omega)

theorem ok_at (t : Fin cfg0.N) (r : Fin 32) (f : Fin 512) (R : Fin 32) (n : Fin 2048) (hR : R.val = 32 * (t.val / 16) + r.val)
    (hn : 2048 + n.val = 512 * (t.val % 16) + f.val) :
    ok m c t (ix2 r f) = qk 2048 (by decide) (Xa m c) (Ga m c) (Wa m c) (Ka m c) R n := by
  unfold ok qk
  rw [k_at, show (iblk m c 6 t : Vec Ideal S1x128 .f32) = Ka m c from funext (blk_6 m c t)]
  have e1 : f.val % 128 = n.val % 128 := by omega
  simp only [e1]
  refine congrArg (fun z => hnorm z _ _) (funext fun e => ?_)
  exact acc_at m c t r _ R hR _ (by have := f.isLt; simp only [col]; omega)

theorem okb_at (t : Fin cfg0.N) (r : Fin 32) (f : Fin 512) (R : Fin 32) (n : Fin 2048) (hR : R.val = 32 * (t.val / 16) + r.val)
    (hn : 2048 + n.val = 512 * (t.val % 16) + f.val) :
    okb m c t (ix2 r f) = qk 2048 (by decide) (Xa m c) (Ga m c) (Wa m c) (Ka m c) R n := by
  unfold okb qk
  rw [kb_at, show (iblk m c 6 t : Vec Ideal S1x128 .f32) = Ka m c from funext (blk_6 m c t)]
  have e1 : f.val % 128 = n.val % 128 := by omega
  simp only [e1]
  refine congrArg (fun z => hnorm z _ _) (funext fun e => ?_)
  exact acc_at m c t r _ R hR _ (by have := f.isLt; simp only [col]; omega)

theorem ov_at (t : Fin cfg0.N) (r : Fin 32) (f : Fin 512) (R : Fin 32) (n : Fin 2048) (hR : R.val = 32 * (t.val / 16) + r.val)
    (hn : 4096 + n.val = 512 * (t.val % 16) + f.val) :
    ov m c t (ix2 r f) = vg 4096 (by decide) (Xa m c) (Ga m c) (Wa m c) R n := by
  unfold ov vg
  exact acc_at m c t r f R hR _ hn

theorem ovb_at (t : Fin cfg0.N) (r : Fin 32) (f : Fin 512) (R : Fin 32) (n : Fin 2048) (hR : R.val = 32 * (t.val / 16) + r.val)
    (hn : 4096 + n.val = 512 * (t.val % 16) + f.val) :
    ovb m c t (ix2 r f) = vg 4096 (by decide) (Xa m c) (Ga m c) (Wa m c) R n := by
  unfold ovb vg
  rw [vb_pay]
  exact acc_at m c t r f R hR _ hn

theorem og_at (t : Fin cfg0.N) (r : Fin 32) (f : Fin 512) (R : Fin 32) (n : Fin 2048) (hR : R.val = 32 * (t.val / 16) + r.val)
    (hn : 6144 + n.val = 512 * (t.val % 16) + f.val) :
    og m c t (ix2 r f) = vg 6144 (by decide) (Xa m c) (Ga m c) (Wa m c) R n := by
  unfold og vg
  exact acc_at m c t r f R hR _ hn

theorem ol_at (t : Fin cfg0.N) (r : Fin 32) (d : Fin 128) (R : Fin 32) (hR : R.val = 32 * (t.val / 16) + r.val) :
    ol m c t (ix2 r d) = lf (Xa m c) (Ga m c) (Ta m c) (Ba m c) R d := by
  unfold ol lf
  rw [lf_pay]
  refine congrArg lsig (congrArg₂ (· + ·) (Finset.sum_congr rfl fun q _ => ?_) (blk_4 m c t _))
  rw [blk_3 m c t]
  refine congrArg (· * _) ?_
  refine Eq.trans (b := k0_pay3 (iblk m c 0 t) (iblk m c 1 t) (ix2 r q)) (by pointwise [k0_pay3]) ?_
  unfold nrm
  rw [rows_pay]
  simp only [blk_0 m c t r _ R hR, blk_1 m c t]

/-! ## The outputs at the end -/

theorem at_7 (t : Fin cfg0.N) : win0_7.index t = ![t.val / 16, max 0 (min 3 (t.val % 16)) - 0] := by revert t; decide +kernel
theorem arr_7 : (dats m 0 c).arrAt 7 cfg0.N = (fun i => qk 0 (by decide) (Xa m c) (Ga m c) (Wa m c) (Qa m c) (i 0) (i 1) : Vec Ideal S32x2048 .bf16) := by
  refine (dats m 0 c).arrAt_eq_of_covers 7 _ (by decide +kernel) fun t hf y => ?_
  have e := at_7 t
  rw [after_7]
  generalize hy : (cfg0.win 7).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 0 3 t).val = 16 * (t.val / 16) + max 0 (min 3 (t.val % 16)) := rfl
  blk_simp [e]
  refine oq_at m c (pt 0 3 t) r d _ _ ?_ ?_ <;> blk_simp [e] <;> omega

theorem at_8 (t : Fin cfg0.N) : win0_8.index t = ![t.val / 16, max 4 (min 7 (t.val % 16)) - 4] := by revert t; decide +kernel
theorem arr_8 : (dats m 0 c).arrAt 8 cfg0.N = (fun i => qk 2048 (by decide) (Xa m c) (Ga m c) (Wa m c) (Ka m c) (i 0) (i 1) : Vec Ideal S32x2048 .f32) := by
  refine (dats m 0 c).arrAt_eq_of_covers 8 _ (by decide +kernel) fun t hf y => ?_
  have e := at_8 t
  rw [after_8]
  generalize hy : (cfg0.win 8).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 4 7 t).val = 16 * (t.val / 16) + max 4 (min 7 (t.val % 16)) := rfl
  blk_simp [e]
  refine ok_at m c (pt 4 7 t) r d _ _ ?_ ?_ <;> blk_simp [e] <;> omega

theorem at_9 (t : Fin cfg0.N) : win0_9.index t = ![t.val / 16, max 4 (min 7 (t.val % 16)) - 4] := by revert t; decide +kernel
theorem arr_9 : (dats m 0 c).arrAt 9 cfg0.N = (fun i => qk 2048 (by decide) (Xa m c) (Ga m c) (Wa m c) (Ka m c) (i 0) (i 1) : Vec Ideal S32x2048 .bf16) := by
  refine (dats m 0 c).arrAt_eq_of_covers 9 _ (by decide +kernel) fun t hf y => ?_
  have e := at_9 t
  rw [after_9]
  generalize hy : (cfg0.win 9).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 4 7 t).val = 16 * (t.val / 16) + max 4 (min 7 (t.val % 16)) := rfl
  blk_simp [e]
  refine okb_at m c (pt 4 7 t) r d _ _ ?_ ?_ <;> blk_simp [e] <;> omega

theorem at_10 (t : Fin cfg0.N) : win0_10.index t = ![t.val / 16, max 8 (min 11 (t.val % 16)) - 8] := by revert t; decide +kernel
theorem arr_10 : (dats m 0 c).arrAt 10 cfg0.N = (fun i => vg 4096 (by decide) (Xa m c) (Ga m c) (Wa m c) (i 0) (i 1) : Vec Ideal S32x2048 .f32) := by
  refine (dats m 0 c).arrAt_eq_of_covers 10 _ (by decide +kernel) fun t hf y => ?_
  have e := at_10 t
  rw [after_10]
  generalize hy : (cfg0.win 10).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 8 11 t).val = 16 * (t.val / 16) + max 8 (min 11 (t.val % 16)) := rfl
  blk_simp [e]
  refine ov_at m c (pt 8 11 t) r d _ _ ?_ ?_ <;> blk_simp [e] <;> omega

theorem at_11 (t : Fin cfg0.N) : win0_11.index t = ![t.val / 16, max 8 (min 11 (t.val % 16)) - 8] := by revert t; decide +kernel
theorem arr_11 : (dats m 0 c).arrAt 11 cfg0.N = (fun i => vg 4096 (by decide) (Xa m c) (Ga m c) (Wa m c) (i 0) (i 1) : Vec Ideal S32x2048 .bf16) := by
  refine (dats m 0 c).arrAt_eq_of_covers 11 _ (by decide +kernel) fun t hf y => ?_
  have e := at_11 t
  rw [after_11]
  generalize hy : (cfg0.win 11).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 8 11 t).val = 16 * (t.val / 16) + max 8 (min 11 (t.val % 16)) := rfl
  blk_simp [e]
  refine ovb_at m c (pt 8 11 t) r d _ _ ?_ ?_ <;> blk_simp [e] <;> omega

theorem at_12 (t : Fin cfg0.N) : win0_12.index t = ![t.val / 16, max 12 (min 15 (t.val % 16)) - 12] := by revert t; decide +kernel
theorem arr_12 : (dats m 0 c).arrAt 12 cfg0.N = (fun i => vg 6144 (by decide) (Xa m c) (Ga m c) (Wa m c) (i 0) (i 1) : Vec Ideal S32x2048 .f32) := by
  refine (dats m 0 c).arrAt_eq_of_covers 12 _ (by decide +kernel) fun t hf y => ?_
  have e := at_12 t
  rw [after_12]
  generalize hy : (cfg0.win 12).xinj (cfg0.grid.coords t) y = z
  obtain ⟨r, d, rfl⟩ : ∃ (r : Fin 32) (d : Fin 512), z = ix2 r d := ⟨z 0, z 1, eq_ix2 z⟩
  have h0 : (y 0).val = r.val := congrArg (fun z : S32x512.Idx => (z 0).val) hy
  have h1 : (y 1).val = d.val := congrArg (fun z : S32x512.Idx => (z 1).val) hy
  have hp : (pt 12 15 t).val = 16 * (t.val / 16) + max 12 (min 15 (t.val % 16)) := rfl
  blk_simp [e]
  refine og_at m c (pt 12 15 t) r d _ _ ?_ ?_ <;> blk_simp [e] <;> omega

theorem at_13 (t : Fin cfg0.N) : win0_13.index t = ![t.val / 16, 0] := by revert t; decide +kernel
theorem arr_13 : (dats m 0 c).arrAt 13 cfg0.N = (fun i => lf (Xa m c) (Ga m c) (Ta m c) (Ba m c) (i 0) (i 1) : Vec Ideal S32x128 .f32) := by
  refine (dats m 0 c).arrAt_eq_of_covers 13 _ (by decide +kernel) fun t hf y => ?_
  have e := at_13 t
  rw [after_13]
  generalize hy : (cfg0.win 13).xinj (cfg0.grid.coords t) y = z
  obtain ⟨r, d, rfl⟩ : ∃ (r : Fin 32) (d : Fin 128), z = ix2 r d := ⟨z 0, z 1, eq_ix2 z⟩
  have h0 : (y 0).val = r.val := congrArg (fun z : S32x128.Idx => (z 0).val) hy
  have h1 : (y 1).val = d.val := congrArg (fun z : S32x128.Idx => (z 1).val) hy
  have hp : (pt 0 0 t).val = 16 * (t.val / 16) + max 0 (min 0 (t.val % 16)) := rfl
  blk_simp [e]
  refine (ol_at m c (pt 0 0 t) r d _ ?_).trans (congrArg (lf _ _ _ _ _) (Fin.ext ?_)) <;> blk_simp [e] <;> omega

end Cert.SampFoxValue

end
-- ==== Proof.SampFoxClaim.lean ====
/-
  The fused attention input projection of the sample's claims: the three frames, and the equality of the two programs' seven results
  at the ideal values.
-/
module

public import proofs.«01_k».proof.Proof.SampFoxValue
public import proofs.«01_k».proof.Proof.Gen.Kernel11
public import Idealize.ShloMosaic.Adequacy

@[expose] public section

set_option maxRecDepth 16384

noncomputable section

namespace Cert.SampFoxClaim

open Cert.SampFoxValue
open Idealize.ShloMosaic Idealize.ShloMosaic.TcCoe Idealize.SL.Sem

/-- The seven outputs of the reference at an index. -/
theorem reference_at (m : (ℓ : Loc Cert.Reference11Ideal.nD Cert.Reference11Ideal.τ Cert.Reference11Ideal.sig) → Buf (Elt Ideal) ℓ) (ρ : Dev Cert.Reference11Ideal.nD → PrngReg) :
    θ_run Cert.Reference11Ideal.defs (onTc (τ := Cert.Reference11Ideal.τ) (Cert.Reference11Ideal.main (F := Ideal))) ⟨m, fun _ => 0, ρ⟩
      fun r => ∀ c : Dev Cert.Reference11Ideal.nD,
        (∀ (R : Fin 32) (n : Fin 2048), (r.2.mem ((c.tc : Thread Cert.Reference11Ideal.nD Cert.Reference11Ideal.τ).loc Cert.Reference11Ideal.main_v54) : Vec Ideal Cert.Kernel11Ideal.S32x2048 .bf16) (ix2 R n)
            = qk 0 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg5)) R n)
        ∧ (∀ (R : Fin 32) (n : Fin 2048), (r.2.mem ((c.tc : Thread Cert.Reference11Ideal.nD Cert.Reference11Ideal.τ).loc Cert.Reference11Ideal.main_v49) : Vec Ideal Cert.Kernel11Ideal.S32x2048 .f32) (ix2 R n)
            = qk 2048 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg6)) R n)
        ∧ (∀ (R : Fin 32) (n : Fin 2048), (r.2.mem ((c.tc : Thread Cert.Reference11Ideal.nD Cert.Reference11Ideal.τ).loc Cert.Reference11Ideal.main_v55) : Vec Ideal Cert.Kernel11Ideal.S32x2048 .bf16) (ix2 R n)
            = qk 2048 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg6)) R n)
        ∧ (∀ (R : Fin 32) (n : Fin 2048), (r.2.mem ((c.tc : Thread Cert.Reference11Ideal.nD Cert.Reference11Ideal.τ).loc Cert.Reference11Ideal.main_v18) : Vec Ideal Cert.Kernel11Ideal.S32x2048 .f32) (ix2 R n)
            = vg 4096 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) R n)
        ∧ (∀ (R : Fin 32) (n : Fin 2048), (r.2.mem ((c.tc : Thread Cert.Reference11Ideal.nD Cert.Reference11Ideal.τ).loc Cert.Reference11Ideal.main_v56) : Vec Ideal Cert.Kernel11Ideal.S32x2048 .bf16) (ix2 R n)
            = vg 4096 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) R n)
        ∧ (∀ (R : Fin 32) (n : Fin 2048), (r.2.mem ((c.tc : Thread Cert.Reference11Ideal.nD Cert.Reference11Ideal.τ).loc Cert.Reference11Ideal.main_v19) : Vec Ideal Cert.Kernel11Ideal.S32x2048 .f32) (ix2 R n)
            = vg 6144 (by decide) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) R n)
        ∧ (∀ (R : Fin 32) (n : Fin 128), (r.2.mem ((c.tc : Thread Cert.Reference11Ideal.nD Cert.Reference11Ideal.τ).loc Cert.Reference11Ideal.main_v53) : Vec Ideal Cert.Kernel11Ideal.S32x128 .f32) (ix2 R n)
            = lf (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) R n)
        ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
        ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
        ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
        ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
        ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6) := by
  refine (θ_run Cert.Reference11Ideal.defs _ _).mono (fun r h c => ?_) (Cert.Reference11Ideal.Value.run (F := Ideal) m ρ)
  obtain ⟨h0, h1, h2, h3, h4, h5, h6, ha⟩ := h c
  refine ⟨fun R n => (congrFun h0 (ix2 R n)).trans ?_, fun R n => (congrFun h1 (ix2 R n)).trans ?_, fun R n => (congrFun h2 (ix2 R n)).trans ?_,
    fun R n => (congrFun h3 (ix2 R n)).trans ?_, fun R n => (congrFun h4 (ix2 R n)).trans ?_, fun R n => (congrFun h5 (ix2 R n)).trans ?_,
    fun R n => (congrFun h6 (ix2 R n)).trans ?_, ha⟩ <;> clear h0 h1 h2 h3 h4 h5 h6 ha
  · pointwise [qk, hnorm, prj, nrm]
    simp only [Nat.div_add_mod', zero_add]
  · pointwise [qk, hnorm, prj, nrm]
    simp only [Nat.div_add_mod', zero_add]
  · pointwise [qk, hnorm, prj, nrm]
    simp only [Nat.div_add_mod', zero_add]
  · pointwise [vg, prj, nrm]
  · pointwise [vg, prj, nrm]
  · pointwise [vg, prj, nrm]
  · pointwise [Cert.Reference11Ideal.Value.res_main_v53, lf, lsig, nrm]
    simp only [ne_eq, not_true_eq_false, if_false, Ideal.log1p]

/-- The seven outputs of the kernel. -/
theorem kernel_run (m : (ℓ : Loc Cert.Kernel11Ideal.nD Cert.Kernel11Ideal.τ Cert.Kernel11Ideal.sig) → Buf (Elt Ideal) ℓ) (ρ : Dev Cert.Kernel11Ideal.nD → PrngReg) :
    θ_run Cert.Kernel11Ideal.defs (onTc (τ := Cert.Kernel11Ideal.τ) (Cert.Kernel11Ideal.main (F := Ideal))) ⟨m, fun _ => 0, ρ⟩
      fun r => ∀ c : Dev Cert.Kernel11Ideal.nD,
        r.2.mem ((c.tc : Thread Cert.Kernel11Ideal.nD Cert.Kernel11Ideal.τ).loc Cert.Kernel11Ideal.main_v0_0) = (fun i => qk 0 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg5)) (i 0) (i 1) : Vec Ideal Cert.Kernel11Ideal.S32x2048 .bf16)
        ∧ r.2.mem ((c.tc : Thread Cert.Kernel11Ideal.nD Cert.Kernel11Ideal.τ).loc Cert.Kernel11Ideal.main_v0_1) = (fun i => qk 2048 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg6)) (i 0) (i 1) : Vec Ideal Cert.Kernel11Ideal.S32x2048 .f32)
        ∧ r.2.mem ((c.tc : Thread Cert.Kernel11Ideal.nD Cert.Kernel11Ideal.τ).loc Cert.Kernel11Ideal.main_v0_2) = (fun i => qk 2048 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg6)) (i 0) (i 1) : Vec Ideal Cert.Kernel11Ideal.S32x2048 .bf16)
        ∧ r.2.mem ((c.tc : Thread Cert.Kernel11Ideal.nD Cert.Kernel11Ideal.τ).loc Cert.Kernel11Ideal.main_v0_3) = (fun i => vg 4096 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (i 0) (i 1) : Vec Ideal Cert.Kernel11Ideal.S32x2048 .f32)
        ∧ r.2.mem ((c.tc : Thread Cert.Kernel11Ideal.nD Cert.Kernel11Ideal.τ).loc Cert.Kernel11Ideal.main_v0_4) = (fun i => vg 4096 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (i 0) (i 1) : Vec Ideal Cert.Kernel11Ideal.S32x2048 .bf16)
        ∧ r.2.mem ((c.tc : Thread Cert.Kernel11Ideal.nD Cert.Kernel11Ideal.τ).loc Cert.Kernel11Ideal.main_v0_5) = (fun i => vg 6144 (by decide) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (i 0) (i 1) : Vec Ideal Cert.Kernel11Ideal.S32x2048 .f32)
        ∧ r.2.mem ((c.tc : Thread Cert.Kernel11Ideal.nD Cert.Kernel11Ideal.τ).loc Cert.Kernel11Ideal.main_v0_6) = (fun i => lf (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (i 0) (i 1) : Vec Ideal Cert.Kernel11Ideal.S32x128 .f32)
        ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
        ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
        ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
        ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
        ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
        ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
        ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6) := by
  refine (θ_run Cert.Kernel11Ideal.defs _ _).mono (fun r h c => ?_) (θ_run_and (Cert.SampFoxData.run_main (F := Ideal) m ρ) (Cert.SampFoxData.frame (F := Ideal) m ρ))
  exact ⟨((h.1 c).1 7).trans (arr_7 m c), ((h.1 c).1 8).trans (arr_8 m c), ((h.1 c).1 9).trans (arr_9 m c), ((h.1 c).1 10).trans (arr_10 m c),
    ((h.1 c).1 11).trans (arr_11 m c), ((h.1 c).1 12).trans (arr_12 m c), ((h.1 c).1 13).trans (arr_13 m c), h.2.1 c⟩

/-- The printed kernel and its ideal form have the same bodies, -/
theorem bodies_eq : Cert.Kernel11.defs₀ (F := Bits) = Cert.Kernel11Ideal.defs₀ (F := Bits) := by
  refine congrArg Defs.onTc (funext fun l => ?_)
  obtain ⟨n, h⟩ := l
  cases n with
  | zero => funext x; rfl
  | succ n => exact absurd h (Nat.not_lt.2 (Nat.le_add_left _ _))

/-- so the run of the one is the run of the other. -/
theorem defs_eq : Cert.Kernel11.defs (F := Bits) = Cert.Kernel11Ideal.defs (F := Bits) :=
  congrArg (Pipeline.defs Cert.Kernel11Ideal.pcfgs) bodies_eq

theorem frame_p : Cert.quiescent_Kernel11 := fun m ρ _ => by
  rw [defs_eq]
  exact Cert.SampFoxData.frame m ρ
theorem frame_pi : Cert.quiescent_Kernel11Ideal := fun m ρ _ => Cert.SampFoxData.frame m ρ

theorem frame_ri : Cert.quiescent_Reference11Ideal := fun m ρ _ =>
  (θ_run Cert.Reference11Ideal.defs _ _).mono
    (fun r h => ⟨fun c => (h c).2.2.2.2.2.2.2, sem_eq_zero_of_no_sems (by decide) r.2⟩)
    (Cert.Reference11Ideal.Value.run (F := Ideal) m ρ)

theorem algebraic : Cert.algebraic_Kernel11Ideal_Reference11Ideal := by
  intro m g m' g' _ hag
  refine ⟨fun c => _, fun c => _, fun c => _, fun c => _, fun c => _, fun c => _, fun c => _, kernel_run m g, ?_⟩
  refine (θ_run Cert.Reference11Ideal.defs _ _).mono (fun r h c => ?_) (reference_at m' g')
  obtain ⟨h0, h1, h2, h3, h4, h5, h6, ha⟩ := h c
  obtain ⟨e0, e1, e2, e3, e4, e5, e6⟩ := hag c
  rw [e0, e1, e2, e5] at h0
  rw [e0, e1, e2, e6] at h1 h2
  rw [e0, e1, e2] at h3 h4 h5
  rw [e0, e1, e3, e4] at h6
  refine ⟨funext fun i => ?_, funext fun i => ?_, funext fun i => ?_, funext fun i => ?_, funext fun i => ?_, funext fun i => ?_, funext fun i => ?_, ha⟩
  · exact (congrArg (r.2.mem ((c.tc : Thread Cert.Reference11Ideal.nD Cert.Reference11Ideal.τ).loc Cert.Reference11Ideal.main_v54)) (eq_ix2 (n0 := 32) (n1 := 2048) i)).trans (h0 (i 0) (i 1))
  · exact (congrArg (r.2.mem ((c.tc : Thread Cert.Reference11Ideal.nD Cert.Reference11Ideal.τ).loc Cert.Reference11Ideal.main_v49)) (eq_ix2 (n0 := 32) (n1 := 2048) i)).trans (h1 (i 0) (i 1))
  · exact (congrArg (r.2.mem ((c.tc : Thread Cert.Reference11Ideal.nD Cert.Reference11Ideal.τ).loc Cert.Reference11Ideal.main_v55)) (eq_ix2 (n0 := 32) (n1 := 2048) i)).trans (h2 (i 0) (i 1))
  · exact (congrArg (r.2.mem ((c.tc : Thread Cert.Reference11Ideal.nD Cert.Reference11Ideal.τ).loc Cert.Reference11Ideal.main_v18)) (eq_ix2 (n0 := 32) (n1 := 2048) i)).trans (h3 (i 0) (i 1))
  · exact (congrArg (r.2.mem ((c.tc : Thread Cert.Reference11Ideal.nD Cert.Reference11Ideal.τ).loc Cert.Reference11Ideal.main_v56)) (eq_ix2 (n0 := 32) (n1 := 2048) i)).trans (h4 (i 0) (i 1))
  · exact (congrArg (r.2.mem ((c.tc : Thread Cert.Reference11Ideal.nD Cert.Reference11Ideal.τ).loc Cert.Reference11Ideal.main_v19)) (eq_ix2 (n0 := 32) (n1 := 2048) i)).trans (h5 (i 0) (i 1))
  · exact (congrArg (r.2.mem ((c.tc : Thread Cert.Reference11Ideal.nD Cert.Reference11Ideal.τ).loc Cert.Reference11Ideal.main_v53)) (eq_ix2 (n0 := 32) (n1 := 128) i)).trans (h6 (i 0) (i 1))

end Cert.SampFoxClaim

end
-- ==== Proof.lean ====
/-
  The proof of `Cert.Claim`: the attention call's frames (Proof/AttnPre.lean) and values (Proof/AttnStep.lean,
  Proof/AttnIdx.lean, Proof/AttnValue.lean against Proof/AttnRef.lean, joined in Proof/AttnClaim.lean), and the MLP call's
  frames and values (Proof/MlpStep.lean, Proof/MlpValue.lean, Proof/MlpClaim.lean), and the fused attention input projection's
  runs (Proof/FoxStep.lean, Proof/FoxData.lean and the same for the printed kernel), values (Proof/FoxValue.lean) and claims
  (Proof/FoxClaim.lean), and the output projections (Proof/Oproj6.lean to Proof/Oproj8.lean) and the input projections of the
  two recurrent layers (Proof/Proj4.lean, Proof/Proj5.lean, with their printed kernels' runs and their claims), and
  the calls over the sample's rows (Proof/Proj9.lean, Proof/Proj9Claim.lean, Proof/SampMlpStep.lean to Proof/SampMlpClaim.lean,
  Proof/SampFoxStep.lean to Proof/SampFoxClaim.lean), assembled behind the witnesses of the programs' stated facts.
-/

module

public import proofs.«01_k».proof.Defs
public import proofs.«01_k».proof.Proof.SampFoxClaim
public import Idealize.ShloMosaic.Adequacy
public import Idealize.ShloMosaic.Init

@[expose] public section

noncomputable section

namespace Cert.Proof

open Idealize.ShloMosaic Idealize.SL.Sem

/-- The mask constant of the ideal kernel is the named value of the printed one. -/
theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_tables.Gen.facts,
  Cert.Pre_finite.Gen.facts,
  Cert.AttnPre.frame_p, Cert.AttnPre.frame_pi, Cert.AttnClaim.frame_pi, Cert.AttnPre.frame_ri, Cert.AttnClaim.frame_ri,
  Cert.MlpClaim.frame_p, Cert.MlpClaim.frame_pi, Cert.MlpClaim.frame_ri,
  Cert.FoxClaim.frame_p, Cert.FoxClaim.frame_pi, Cert.FoxClaim.frame_ri,
  Cert.Proj4Claim.frame_p, Cert.Proj4Claim.frame_pi, Cert.Proj4Claim.frame_ri,
  Cert.Proj5Claim.frame_p, Cert.Proj5Claim.frame_pi, Cert.Proj5Claim.frame_ri,
  Cert.Oproj6.frame_p, Cert.Oproj6.frame_pi, Cert.Oproj6.frame_ri,
  Cert.Oproj7.frame_p, Cert.Oproj7.frame_pi, Cert.Oproj7.frame_ri,
  Cert.Oproj8.frame_p, Cert.Oproj8.frame_pi, Cert.Oproj8.frame_ri,
  Cert.Proj9Claim.frame_p, Cert.Proj9Claim.frame_pi, Cert.Proj9Claim.frame_ri,
  Cert.SampMlpClaim.frame_p, Cert.SampMlpClaim.frame_pi, Cert.SampMlpClaim.frame_ri,
  Cert.SampFoxClaim.frame_p, Cert.SampFoxClaim.frame_pi, Cert.SampFoxClaim.frame_ri,
  preserves, Cert.AttnClaim.algebraic, trivial, Cert.MlpClaim.algebraic, trivial, Cert.FoxClaim.algebraic,
  trivial, Cert.Proj4Claim.algebraic,
  trivial, Cert.Proj5Claim.algebraic,
  trivial, Cert.Oproj6.algebraic,
  trivial, Cert.Oproj7.algebraic,
  trivial, Cert.Oproj8.algebraic,
  trivial, Cert.Proj9Claim.algebraic,
  trivial, Cert.SampMlpClaim.algebraic,
  trivial, Cert.SampFoxClaim.algebraic⟩

end Cert.Proof

end
